-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_in_unit [hPre_lb_in_unit : Cert.Pre_lb_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_lb_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_in_unit [hPre_lb_in_unit : Cert.Pre_lb_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lb_in_unit [hKernelIdeal : Cert.KernelIdeal.Facts] [hPre_lb_in_unit : Cert.Pre_lb_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lb_in_unit [hReferenceIdeal : Cert.ReferenceIdeal.Facts] [hPre_lb_in_unit : Cert.Pre_lb_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8))
      ∧ r.2.sem = fun _ => 0)

def preserves_Kernel_KernelIdeal : Prop :=
  True

def algebraic_KernelIdeal_ReferenceIdeal_pre_lb_in_unit [hKernelIdeal : Cert.KernelIdeal.Facts] [hReferenceIdeal : Cert.ReferenceIdeal.Facts] [hPre_lb_in_unit : Cert.Pre_lb_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v104) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)) →
    ∃ (v0 : (c : Dev Cert.FirstIdeal.nD) → Buf (Elt Ideal) ((c.tc : Thread Cert.FirstIdeal.nD Cert.FirstIdeal.τ).loc Cert.FirstIdeal.main_v7)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v7) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v104) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hFirst : Cert.First.Facts) (hFirstIdeal : Cert.FirstIdeal.Facts) (hFirstRefIdeal : Cert.FirstRefIdeal.Facts) (hPre_lb_in_unit : Cert.Pre_lb_in_unit.Facts),
    quiescent_Kernel (hKernel := hKernel)
    ∧ quiescent_KernelIdeal (hKernelIdeal := hKernelIdeal)
    ∧ quiescent_KernelIdeal_pre_lb_in_unit (hKernelIdeal := hKernelIdeal) (hPre_lb_in_unit := hPre_lb_in_unit)
    ∧ quiescent_ReferenceIdeal (hReferenceIdeal := hReferenceIdeal)
    ∧ quiescent_ReferenceIdeal_pre_lb_in_unit (hReferenceIdeal := hReferenceIdeal) (hPre_lb_in_unit := hPre_lb_in_unit)
    ∧ quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_lb_in_unit (hKernelIdeal := hKernelIdeal) (hReferenceIdeal := hReferenceIdeal) (hPre_lb_in_unit := hPre_lb_in_unit)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_First_FirstIdeal
    ∧ algebraic_FirstIdeal_FirstRefIdeal (hFirstIdeal := hFirstIdeal) (hFirstRefIdeal := hFirstRefIdeal)
-- ==== Pre_lb_in_unit.lean ====
abbrev S32768x2048 : Shape := ⟨2, ![32768, 2048]⟩
abbrev S512 : Shape := ⟨1, ![512]⟩
abbrev S128 : Shape := ⟨1, ![128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S32768x2048 .f32) (main_arg1 : FVec F S512 .f32) (main_arg2 : FVec F S128 .f32) : IVec S_ 1 :=
  let main_cst : FVec F S_ .f32 := constant S_ .f32 0x00000000#32
  let main_v0 : FVec F S512 .f32 := broadcastInDim S512 ![] bcast_S_S512 main_cst
  let main_v1 : IVec S512 1 := cmpf .ogt main_arg1 main_v0
  let main_c : IVec S_ 1 := constantI S_ 1 1#1
  let main_v2 : IVec S_ 1 := (fun x v => Host.reduce IntOp.andi x v reducesTo_S512_S_d0 h_S_) main_v1 main_c
  let main_cst_0 : FVec F S_ .f32 := constant S_ .f32 0x3F800000#32
  let main_v3 : FVec F S512 .f32 := broadcastInDim S512 ![] bcast_S_S512 main_cst_0
  let main_v4 : IVec S512 1 := cmpf .ole main_arg1 main_v3
  let main_c_1 : IVec S_ 1 := constantI S_ 1 1#1
  let main_v5 : IVec S_ 1 := (fun x v => Host.reduce IntOp.andi x v reducesTo_S512_S_d0 h_S_) main_v4 main_c_1
  let main_v6 : IVec S_ 1 := andi main_v2 main_v5
  main_v6
-- ==== Kernel.lean ====
abbrev S32768x2048 : Shape := ⟨2, ![32768, 2048]⟩
abbrev S512 : Shape := ⟨1, ![512]⟩
abbrev S128 : Shape := ⟨1, ![128]⟩
abbrev S1x512 : Shape := ⟨2, ![1, 512]⟩
abbrev S1x128 : Shape := ⟨2, ![1, 128]⟩
abbrev S32768x512 : Shape := ⟨2, ![32768, 512]⟩
abbrev S512x2048 : Shape := ⟨2, ![512, 2048]⟩
abbrev S512x512 : Shape := ⟨2, ![512, 512]⟩
abbrev S4x128x128 : Shape := ⟨3, ![4, 128, 128]⟩
abbrev S64x64 : Shape := ⟨2, ![64, 64]⟩
abbrev S64x512 : Shape := ⟨2, ![64, 512]⟩
abbrev S64x128 : Shape := ⟨2, ![64, 128]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S512, .f32⟩
  | .hbm, ⟨2, _⟩ => ⟨S128, .f32⟩
  | .hbm, ⟨3, _⟩ => ⟨S1x512, .f32⟩
  | .hbm, ⟨4, _⟩ => ⟨S1x128, .f32⟩
  | .hbm, ⟨5, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S1x512, .f32⟩
  | .local _ .vmem, ⟨3, _⟩ => ⟨S1x128, .f32⟩
  | .local _ .vmem, ⟨4, _⟩ => ⟨S512x512, .f32⟩
  | .local _ .vmem, ⟨5, _⟩ => ⟨S512x512, .f32⟩
  | .local _ .vmem, ⟨6, _⟩ => ⟨S4x128x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32_2 : BitVec 32 := 0#32
  let c4_i32 : BitVec 32 := 4#32
  let v11 : BitVec 32 := Scalar.muli c0_i32_2 c4_i32
  let c0_i32_3 : BitVec 32 := 0#32
  let v12 : BitVec 32 := Scalar.addi v11 c0_i32_3
  let c64_i32 : BitVec 32 := 64#32
  let v13 : BitVec 32 := Scalar.muli v12 c64_i32
  v13
def k0_off1 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v15 : Index := Scalar.indexCast v14
  let c0_4 : Index := 0#32
  ![v15.toNat, 0]
def k0_off2 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v17 : Index := Scalar.indexCast v14
  let c512 : Index := 512#32
  ![v17.toNat, 512]
def k0_mult2 : BitVec 32 :=
  let c0_i32_2 : BitVec 32 := 0#32
  let c4_i32_10 : BitVec 32 := 4#32
  let v47 : BitVec 32 := Scalar.muli c0_i32_2 c4_i32_10
  let c1_i32 : BitVec 32 := 1#32
  let v48 : BitVec 32 := Scalar.addi v47 c1_i32
  let c64_i32_11 : BitVec 32 := 64#32
  let v49 : BitVec 32 := Scalar.muli v48 c64_i32_11
  v49
def k0_mult3 : BitVec 32 :=
  let c0_i32_2 : BitVec 32 := 0#32
  let c4_i32_20 : BitVec 32 := 4#32
  let v83 : BitVec 32 := Scalar.muli c0_i32_2 c4_i32_20
  let c2_i32 : BitVec 32 := 2#32
  let v84 : BitVec 32 := Scalar.addi v83 c2_i32
  let c64_i32_21 : BitVec 32 := 64#32
  let v85 : BitVec 32 := Scalar.muli v84 c64_i32_21
  v85
def k0_mult4 : BitVec 32 :=
  let c0_i32_2 : BitVec 32 := 0#32
  let c4_i32_30 : BitVec 32 := 4#32
  let v119 : BitVec 32 := Scalar.muli c0_i32_2 c4_i32_30
  let c3_i32 : BitVec 32 := 3#32
  let v120 : BitVec 32 := Scalar.addi v119 c3_i32
  let c64_i32_31 : BitVec 32 := 64#32
  let v121 : BitVec 32 := Scalar.muli v120 c64_i32_31
  v121
def k0_off3 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v176 : Index := Scalar.indexCast v14
  let c1024 : Index := 1024#32
  ![v176.toNat, 1024]
def k0_off4 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v179 : Index := Scalar.indexCast v14
  let c1152 : Index := 1152#32
  ![v179.toNat, 1152]
def k0_off5 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v182 : Index := Scalar.indexCast v14
  let c1280 : Index := 1280#32
  ![v182.toNat, 1280]
def k0_off6 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v185 : Index := Scalar.indexCast v14
  let c1408 : Index := 1408#32
  ![v185.toNat, 1408]
def k0_off7 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v523 : Index := Scalar.indexCast v14
  let c1536 : Index := 1536#32
  ![v523.toNat, 1536]
def k0_off8 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v542 : Index := Scalar.indexCast v14
  let c0_134 : Index := 0#32
  ![v542.toNat, 0]
def k0_off9 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v544 : Index := Scalar.indexCast v14
  let c1664 : Index := 1664#32
  ![v544.toNat, 1664]
def k0_off10 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v563 : Index := Scalar.indexCast v14
  let c128 : Index := 128#32
  ![v563.toNat, 128]
def k0_off11 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v565 : Index := Scalar.indexCast v14
  let c1792 : Index := 1792#32
  ![v565.toNat, 1792]
def k0_off12 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v584 : Index := Scalar.indexCast v14
  let c256 : Index := 256#32
  ![v584.toNat, 256]
def k0_off13 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v586 : Index := Scalar.indexCast v14
  let c1920 : Index := 1920#32
  ![v586.toNat, 1920]
def k0_off14 (c0_i32_2 : BitVec 32) (c0_i32_3 : BitVec 32) : Fin 2 → Nat :=
  let c4_i32 : BitVec 32 := 4#32
  let v11 : BitVec 32 := Scalar.muli c0_i32_2 c4_i32
  let v12 : BitVec 32 := Scalar.addi v11 c0_i32_3
  let c64_i32 : BitVec 32 := 64#32
  let v13 : BitVec 32 := Scalar.muli v12 c64_i32
  let v14 : BitVec 32 := v13
  let v605 : Index := Scalar.indexCast v14
  let c384 : Index := 384#32
  ![v605.toNat, 384]
def k0_mult5 : BitVec 32 :=
  let c1_i32_258 : BitVec 32 := 1#32
  let c4_i32_259 : BitVec 32 := 4#32
  let v919 : BitVec 32 := Scalar.muli c1_i32_258 c4_i32_259
  let c0_i32_260 : BitVec 32 := 0#32
  let v920 : BitVec 32 := Scalar.addi v919 c0_i32_260
  let c64_i32_261 : BitVec 32 := 64#32
  let v921 : BitVec 32 := Scalar.muli v920 c64_i32_261
  v921
def k0_mult6 : BitVec 32 :=
  let c1_i32_258 : BitVec 32 := 1#32
  let c4_i32_270 : BitVec 32 := 4#32
  let v955 : BitVec 32 := Scalar.muli c1_i32_258 c4_i32_270
  let c1_i32_271 : BitVec 32 := 1#32
  let v956 : BitVec 32 := Scalar.addi v955 c1_i32_271
  let c64_i32_272 : BitVec 32 := 64#32
  let v957 : BitVec 32 := Scalar.muli v956 c64_i32_272
  v957
def k0_mult7 : BitVec 32 :=
  let c1_i32_258 : BitVec 32 := 1#32
  let c4_i32_281 : BitVec 32 := 4#32
  let v991 : BitVec 32 := Scalar.muli c1_i32_258 c4_i32_281
  let c2_i32_282 : BitVec 32 := 2#32
  let v992 : BitVec 32 := Scalar.addi v991 c2_i32_282
  let c64_i32_283 : BitVec 32 := 64#32
  let v993 : BitVec 32 := Scalar.muli v992 c64_i32_283
  v993
def k0_mult8 : BitVec 32 :=
  let c1_i32_258 : BitVec 32 := 1#32
  let c4_i32_292 : BitVec 32 := 4#32
  let v1027 : BitVec 32 := Scalar.muli c1_i32_258 c4_i32_292
  let c3_i32_293 : BitVec 32 := 3#32
  let v1028 : BitVec 32 := Scalar.addi v1027 c3_i32_293
  let c64_i32_294 : BitVec 32 := 64#32
  let v1029 : BitVec 32 := Scalar.muli v1028 c64_i32_294
  v1029
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x2048 : Shape := ⟨2, ![32768, 2048]⟩
abbrev S512 : Shape := ⟨1, ![512]⟩
abbrev S128 : Shape := ⟨1, ![128]⟩
abbrev S32768x512 : Shape := ⟨2, ![32768, 512]⟩
abbrev S_ : Shape := ⟨0, ![]⟩
abbrev S1x512 : Shape := ⟨2, ![1, 512]⟩
abbrev S2x256x64x4x128 : Shape := ⟨5, ![2, 256, 64, 4, 128]⟩
abbrev S2x4x256x64x128 : Shape := ⟨5, ![2, 4, 256, 64, 128]⟩
abbrev S2x4x256x1x128 : Shape := ⟨5, ![2, 4, 256, 1, 128]⟩
abbrev S64x64 : Shape := ⟨2, ![64, 64]⟩
abbrev S2x4x256x64x64 : Shape := ⟨5, ![2, 4, 256, 64, 64]⟩
abbrev S256x2x4x64x128 : Shape := ⟨5, ![256, 2, 4, 64, 128]⟩
abbrev S256x2x4x128x128 : Shape := ⟨5, ![256, 2, 4, 128, 128]⟩
abbrev S2x4x256x128 : Shape := ⟨4, ![2, 4, 256, 128]⟩
abbrev S256x2x4x128 : Shape := ⟨4, ![256, 2, 4, 128]⟩
abbrev S2x4x128x128 : Shape := ⟨4, ![2, 4, 128, 128]⟩
abbrev S1x2x4x128 : Shape := ⟨4, ![1, 2, 4, 128]⟩
abbrev S2x4x128 : Shape := ⟨3, ![2, 4, 128]⟩
abbrev S1x2x4x128x128 : Shape := ⟨5, ![1, 2, 4, 128, 128]⟩
abbrev S1x2x4x64x128 : Shape := ⟨5, ![1, 2, 4, 64, 128]⟩
abbrev S2x4x64x128 : Shape := ⟨4, ![2, 4, 64, 128]⟩
abbrev S2x4x128x1 : Shape := ⟨4, ![2, 4, 128, 1]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 174
  | .vmem => 0
  | .smem => 0
  | _ => 0

abbrev hbmTy0_0 (i : Nat) : BufTy := match i % 128 with
  | 0 => ⟨S32768x2048, .f32⟩
  | 1 => ⟨S512, .f32⟩
  | 2 => ⟨S128, .f32⟩
  | 3 => ⟨S32768x512, .f32⟩
  | 4 => ⟨S32768x512, .f32⟩
  | 5 => ⟨S32768x512, .f32⟩
  | 6 => ⟨S32768x512, .f32⟩
  | 7 => ⟨S_, .f32⟩
  | 8 => ⟨S512, .f32⟩
  | 9 => ⟨S512, .f32⟩
  | 10 => ⟨S32768x512, .f32⟩
  | 11 => ⟨S32768x512, .f32⟩
  | 12 => ⟨S_, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S1x512, .f32⟩
  | 19 => ⟨S32768x512, .f32⟩
  | 20 => ⟨S32768x512, .f32⟩
  | 21 => ⟨S1x512, .f32⟩
  | 22 => ⟨S32768x512, .f32⟩
  | 23 => ⟨S32768x512, .f32⟩
  | 24 => ⟨S32768x512, .f32⟩
  | 25 => ⟨S_, .f32⟩
  | 26 => ⟨S512, .f32⟩
  | 27 => ⟨S512, .f32⟩
  | 28 => ⟨S32768x512, .f32⟩
  | 29 => ⟨S32768x512, .f32⟩
  | 30 => ⟨S32768x512, .f32⟩
  | 31 => ⟨S_, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S1x512, .f32⟩
  | 38 => ⟨S32768x512, .f32⟩
  | 39 => ⟨S32768x512, .f32⟩
  | 40 => ⟨S32768x512, .f32⟩
  | 41 => ⟨S32768x512, .f32⟩
  | 42 => ⟨S_, .f32⟩
  | 43 => ⟨S32768x512, .f32⟩
  | 44 => ⟨S32768x512, .f32⟩
  | 45 => ⟨S_, .f32⟩
  | 46 => ⟨S32768x512, .f32⟩
  | 47 => ⟨S32768x512, .f32⟩
  | 48 => ⟨S32768x512, .f32⟩
  | 49 => ⟨S2x256x64x4x128, .f32⟩
  | 50 => ⟨S2x4x256x64x128, .f32⟩
  | 51 => ⟨S2x256x64x4x128, .f32⟩
  | 52 => ⟨S2x4x256x64x128, .f32⟩
  | 53 => ⟨S2x256x64x4x128, .f32⟩
  | 54 => ⟨S2x4x256x64x128, .f32⟩
  | 55 => ⟨S2x256x64x4x128, .f32⟩
  | 56 => ⟨S2x4x256x64x128, .f32⟩
  | 57 => ⟨S_, .f32⟩
  | 58 => ⟨S_, .f32⟩
  | 59 => ⟨S2x4x256x64x128, .f32⟩
  | 60 => ⟨S2x4x256x1x128, .f32⟩
  | 61 => ⟨S2x4x256x1x128, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S2x4x256x64x128, .f32⟩
  | 74 => ⟨S2x4x256x64x128, .f32⟩
  | 75 => ⟨S2x4x256x64x128, .f32⟩
  | 76 => ⟨S2x4x256x64x128, .f32⟩
  | 77 => ⟨S2x4x256x64x128, .f32⟩
  | 78 => ⟨S2x4x256x64x128, .f32⟩
  | 79 => ⟨S2x4x256x64x128, .f32⟩
  | 80 => ⟨S2x4x256x64x128, .f32⟩
  | 81 => ⟨S2x4x256x64x64, .f32⟩
  | 82 => ⟨S_, .f32⟩
  | 83 => ⟨S_, .f32⟩
  | 84 => ⟨S2x4x256x64x64, .i1⟩
  | 85 => ⟨S2x4x256x64x64, .f32⟩
  | 86 => ⟨S2x4x256x64x64, .f32⟩
  | 87 => ⟨S2x4x256x64x128, .f32⟩
  | 88 => ⟨S2x4x256x64x128, .f32⟩
  | 89 => ⟨S2x4x256x64x128, .f32⟩
  | 90 => ⟨S256x2x4x64x128, .f32⟩
  | 91 => ⟨S2x4x256x64x128, .f32⟩
  | 92 => ⟨S2x4x256x64x128, .f32⟩
  | 93 => ⟨S2x4x256x64x128, .f32⟩
  | 94 => ⟨S2x4x256x64x128, .f32⟩
  | 95 => ⟨S256x2x4x128x128, .f32⟩
  | 96 => ⟨S2x4x256x128, .f32⟩
  | 97 => ⟨S2x4x256x128, .f32⟩
  | 98 => ⟨S256x2x4x128, .f32⟩
  | 99 => ⟨S_, .f32⟩
  | 100 => ⟨S2x4x128x128, .f32⟩
  | 101 => ⟨S_, .f32⟩
  | 102 => ⟨S256x2x4x64x128, .f32⟩
  | 103 => ⟨S_, .i32⟩
  | 104 => ⟨S256x2x4x128, .f32⟩
  | 105 => ⟨S256x2x4x128x128, .f32⟩
  | 106 => ⟨S256x2x4x64x128, .f32⟩
  | 107 => ⟨S_, .i32⟩
  | 108 => ⟨S2x4x128x128, .f32⟩
  | 109 => ⟨S256x2x4x64x128, .f32⟩
  | 110 => ⟨S_, .i32⟩
  | 111 => ⟨S_, .i1⟩
  | 112 => ⟨S_, .i32⟩
  | 113 => ⟨S_, .i32⟩
  | 114 => ⟨S_, .i32⟩
  | 115 => ⟨S1x2x4x128, .f32⟩
  | 116 => ⟨S2x4x128, .f32⟩
  | 117 => ⟨S_, .i32⟩
  | 118 => ⟨S_, .i32⟩
  | 119 => ⟨S_, .i32⟩
  | 120 => ⟨S_, .i32⟩
  | 121 => ⟨S1x2x4x128x128, .f32⟩
  | 122 => ⟨S2x4x128x128, .f32⟩
  | 123 => ⟨S_, .i32⟩
  | 124 => ⟨S_, .i32⟩
  | 125 => ⟨S_, .i32⟩
  | 126 => ⟨S_, .i32⟩
  | 127 => ⟨S1x2x4x64x128, .f32⟩
  | _ => ⟨S32768x2048, .f32⟩

abbrev hbmTy0_1 (i : Nat) : BufTy := match i % 128 with
  | 0 => ⟨S2x4x64x128, .f32⟩
  | 1 => ⟨S2x4x64x128, .f32⟩
  | 2 => ⟨S2x4x128x1, .f32⟩
  | 3 => ⟨S2x4x128x128, .f32⟩
  | 4 => ⟨S2x4x128x128, .f32⟩
  | 5 => ⟨S2x4x128x128, .f32⟩
  | 6 => ⟨S1x2x4x64x128, .f32⟩
  | 7 => ⟨S_, .i32⟩
  | 8 => ⟨S_, .i32⟩
  | 9 => ⟨S_, .i32⟩
  | 10 => ⟨S_, .i32⟩
  | 11 => ⟨S256x2x4x64x128, .f32⟩
  | 12 => ⟨S_, .i32⟩
  | 13 => ⟨S_, .i32⟩
  | 14 => ⟨S2x4x256x64x128, .f32⟩
  | 15 => ⟨S2x4x256x64x128, .f32⟩
  | 16 => ⟨S2x256x64x4x128, .f32⟩
  | 17 => ⟨S2x16384x4x128, .f32⟩
  | 18 => ⟨S2x16384x4x128, .f32⟩
  | 19 => ⟨S_, .f32⟩
  | 20 => ⟨S2x16384x4, .f32⟩
  | 21 => ⟨S2x16384x4x1, .f32⟩
  | 22 => ⟨S_, .f32⟩
  | 23 => ⟨S2x16384x4x1, .f32⟩
  | 24 => ⟨S2x16384x4x1, .f32⟩
  | 25 => ⟨S_, .f32⟩
  | 26 => ⟨S2x16384x4x1, .f32⟩
  | 27 => ⟨S2x16384x4x1, .f32⟩
  | 28 => ⟨S2x16384x4x1, .f32⟩
  | 29 => ⟨S2x16384x4x128, .f32⟩
  | 30 => ⟨S2x16384x4x128, .f32⟩
  | 31 => ⟨S1x1x1x128, .f32⟩
  | 32 => ⟨S2x16384x4x128, .f32⟩
  | 33 => ⟨S2x16384x4x128, .f32⟩
  | 34 => ⟨S2x16384x4x128, .f32⟩
  | 35 => ⟨S2x16384x4x128, .f32⟩
  | 36 => ⟨S2x16384x4x128, .f32⟩
  | 37 => ⟨S_, .f32⟩
  | 38 => ⟨S2x16384x4x128, .f32⟩
  | 39 => ⟨S2x16384x4x128, .f32⟩
  | 40 => ⟨S_, .f32⟩
  | 41 => ⟨S2x16384x4x128, .f32⟩
  | 42 => ⟨S2x16384x4x128, .f32⟩
  | 43 => ⟨S2x16384x4x128, .f32⟩
  | 44 => ⟨S2x16384x4x128, .f32⟩
  | 45 => ⟨S32768x512, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_call0_cst : Ref sig .tc := ⟨.hbm, 57, rfl⟩
abbrev main_call1_call0_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_5 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_6 : Ref sig .tc := ⟨.hbm, 99, rfl⟩
abbrev main_v67 : Ref sig .tc := ⟨.hbm, 100, rfl⟩
abbrev main_cst_7 : Ref sig .tc := ⟨.hbm, 101, rfl⟩
abbrev main_v68 : Ref sig .tc := ⟨.hbm, 102, rfl⟩
abbrev main_c_8 : Ref sig .tc := ⟨.hbm, 103, rfl⟩
abbrev main_v69_0 : Ref sig .tc := ⟨.hbm, 104, rfl⟩
abbrev main_v69_1 : Ref sig .tc := ⟨.hbm, 105, rfl⟩
abbrev main_v69_2 : Ref sig .tc := ⟨.hbm, 106, rfl⟩
abbrev main_v69_3 : Ref sig .tc := ⟨.hbm, 107, rfl⟩
abbrev main_v69_4 : Ref sig .tc := ⟨.hbm, 108, rfl⟩
abbrev main_v69_5 : Ref sig .tc := ⟨.hbm, 109, rfl⟩
abbrev main_while0c_c_17 : Ref sig .tc := ⟨.hbm, 110, rfl⟩
abbrev main_while0c_v91 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_v0 : Ref sig .tc := ⟨.hbm, 115, rfl⟩
abbrev main_while0b_v91 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_v0 : Ref sig .tc := ⟨.hbm, 121, rfl⟩
abbrev main_while0b_v92 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_c_2 : Ref sig .tc := ⟨.hbm, 126, rfl⟩
abbrev main_while0b_call6_v0 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_call7_v0 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_call7_c_1 : Ref sig .tc := ⟨.hbm, 137, rfl⟩
abbrev main_while0b_call7_c_2 : Ref sig .tc := ⟨.hbm, 138, rfl⟩
abbrev main_while0b_v99 : Ref sig .tc := ⟨.hbm, 139, rfl⟩
abbrev main_while0b_c_17 : Ref sig .tc := ⟨.hbm, 140, rfl⟩
abbrev main_while0b_v100 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_9 : Ref sig .tc := ⟨.hbm, 147, rfl⟩
abbrev main_v75 : Ref sig .tc := ⟨.hbm, 148, rfl⟩
abbrev main_v76 : Ref sig .tc := ⟨.hbm, 149, rfl⟩
abbrev main_cst_10 : Ref sig .tc := ⟨.hbm, 150, rfl⟩
abbrev main_v77 : Ref sig .tc := ⟨.hbm, 151, rfl⟩
abbrev main_v78 : Ref sig .tc := ⟨.hbm, 152, rfl⟩
abbrev main_cst_11 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_call8_v0 : Ref sig .tc := ⟨.hbm, 163, rfl⟩
abbrev main_call8_v1 : Ref sig .tc := ⟨.hbm, 164, rfl⟩
abbrev main_call8_cst : Ref sig .tc := ⟨.hbm, 165, rfl⟩
abbrev main_call8_v2 : Ref sig .tc := ⟨.hbm, 166, rfl⟩
abbrev main_call8_v3 : Ref sig .tc := ⟨.hbm, 167, rfl⟩
abbrev main_call8_cst_0 : Ref sig .tc := ⟨.hbm, 168, rfl⟩
abbrev main_call8_v4 : Ref sig .tc := ⟨.hbm, 169, rfl⟩
abbrev main_call8_v5 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩

abbrev nD : Nat := 1
abbrev τ : Topo := Topo.v7x

variable {F : FTy → Type} [FloatOps F]

abbrev main_while0_count : Scf.Loop 32 := ⟨0#32, 256#32, 1#32⟩
-- ==== Post.lean ====
abbrev S32768x512 : Shape := ⟨2, ![32768, 512]⟩
abbrev S32768x256 : Shape := ⟨2, ![32768, 256]⟩
abbrev S32768x1024 : Shape := ⟨2, ![32768, 1024]⟩
abbrev S768x1024 : Shape := ⟨2, ![768, 1024]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S512x1024 : Shape := ⟨2, ![512, 1024]⟩
abbrev S256x1024 : Shape := ⟨2, ![256, 1024]⟩
abbrev S512x512 : Shape := ⟨2, ![512, 512]⟩
abbrev S512x256 : Shape := ⟨2, ![512, 256]⟩
abbrev S1x4x1024 : Shape := ⟨3, ![1, 4, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S2x256x1024 : Shape := ⟨3, ![2, 256, 1024]⟩
abbrev S2x4x264x128 : Shape := ⟨4, ![2, 4, 264, 128]⟩
abbrev S11x4x8x128 : Shape := ⟨4, ![11, 4, 8, 128]⟩
abbrev S2x256x256 : Shape := ⟨3, ![2, 256, 256]⟩
abbrev S256x512 : Shape := ⟨2, ![256, 512]⟩
abbrev S256x256 : Shape := ⟨2, ![256, 256]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1x256x1024 : Shape := ⟨3, ![1, 256, 1024]⟩
abbrev S1x1024x256 : Shape := ⟨3, ![1, 1024, 256]⟩
abbrev S1024x256 : Shape := ⟨2, ![1024, 256]⟩
abbrev S1x4x8x128 : Shape := ⟨4, ![1, 4, 8, 128]⟩
abbrev S4x8x128 : Shape := ⟨3, ![4, 8, 128]⟩
abbrev S256x128 : Shape := ⟨2, ![256, 128]⟩
abbrev S1x1x256x128 : Shape := ⟨4, ![1, 1, 256, 128]⟩
abbrev S1x1x128 : Shape := ⟨3, ![1, 1, 128]⟩
abbrev S1x128 : Shape := ⟨2, ![1, 128]⟩
abbrev S1x256x256 : Shape := ⟨3, ![1, 256, 256]⟩

abbrev nBuf : Space → Nat
  | .hbm => 17
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S32768x256, .f32⟩
  | .hbm, ⟨2, _⟩ => ⟨S32768x1024, .f32⟩
  | .hbm, ⟨3, _⟩ => ⟨S768x1024, .f32⟩
  | .hbm, ⟨4, _⟩ => ⟨S2x4x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1024x5632, .bf16⟩
  | .hbm, ⟨10, _⟩ => ⟨S2x2816x1024, .bf16⟩
  | .hbm, ⟨11, _⟩ => ⟨S2x1x5632, .f32⟩
  | .hbm, ⟨12, _⟩ => ⟨S512x1024, .f32⟩
  | .hbm, ⟨13, _⟩ => ⟨S512x1024, .bf16⟩
  | .hbm, ⟨14, _⟩ => ⟨S256x1024, .f32⟩
  | .hbm, ⟨15, _⟩ => ⟨S256x1024, .bf16⟩
  | .hbm, ⟨16, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S256x1024, .bf16⟩
  | .local _ .vmem, ⟨8, _⟩ => ⟨S1x4x1024, .f32⟩
  | .local _ .vmem, ⟨9, _⟩ => ⟨S1x1024x5632, .bf16⟩
  | .local _ .vmem, ⟨10, _⟩ => ⟨S1x3x5632, .f32⟩
  | .local _ .vmem, ⟨11, _⟩ => ⟨S1x1x5632, .f32⟩
  | .local _ .vmem, ⟨12, _⟩ => ⟨S1x2816x1024, .bf16⟩
  | .local _ .vmem, ⟨13, _⟩ => ⟨S512x1024, .f32⟩
  | .local _ .vmem, ⟨14, _⟩ => ⟨S512x1024, .f32⟩
  | .local _ .vmem, ⟨15, _⟩ => ⟨S2x256x1024, .bf16⟩
  | .local _ .vmem, ⟨16, _⟩ => ⟨S2x4x264x128, .f32⟩
  | .local _ .vmem, ⟨17, _⟩ => ⟨S11x4x8x128, .f32⟩
  | .local _ .vmem, ⟨18, _⟩ => ⟨S2x256x1024, .f32⟩
  | .local _ .vmem, ⟨19, _⟩ => ⟨S2x256x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostRefIdeal.lean ====
abbrev S32768x512 : Shape := ⟨2, ![32768, 512]⟩
abbrev S32768x256 : Shape := ⟨2, ![32768, 256]⟩
abbrev S32768x1024 : Shape := ⟨2, ![32768, 1024]⟩
abbrev S768x1024 : Shape := ⟨2, ![768, 1024]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x4x1024 : Shape := ⟨3, ![1, 4, 1024]⟩
abbrev S4x1024 : Shape := ⟨2, ![4, 1024]⟩
abbrev S2x16384x512 : Shape := ⟨3, ![2, 16384, 512]⟩
abbrev S2x16384x256 : Shape := ⟨3, ![2, 16384, 256]⟩
abbrev S2x16384x768 : Shape := ⟨3, ![2, 16384, 768]⟩
abbrev S2x16384x1024 : Shape := ⟨3, ![2, 16384, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16386x5632 : Shape := ⟨3, ![2, 16386, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 129
  | .vmem => 0
  | .smem => 0
  | _ => 0

abbrev hbmTy0_0 (i : Nat) : BufTy := match i % 128 with
  | 0 => ⟨S32768x512, .f32⟩
  | 1 => ⟨S32768x256, .f32⟩
  | 2 => ⟨S32768x1024, .f32⟩
  | 3 => ⟨S768x1024, .f32⟩
  | 4 => ⟨S2x4x1024, .f32⟩
  | 5 => ⟨S2x1024x5632, .f32⟩
  | 6 => ⟨S2x3x5632, .f32⟩
  | 7 => ⟨S2x5632, .f32⟩
  | 8 => ⟨S2x2816x1024, .f32⟩
  | 9 => ⟨S1x4x1024, .f32⟩
  | 10 => ⟨S4x1024, .f32⟩
  | 11 => ⟨S2x16384x512, .f32⟩
  | 12 => ⟨S2x16384x256, .f32⟩
  | 13 => ⟨S2x16384x768, .f32⟩
  | 14 => ⟨S2x16384x1024, .f32⟩
  | 15 => ⟨S2x16384x1024, .f32⟩
  | 16 => ⟨S1x1024, .f32⟩
  | 17 => ⟨S1024, .f32⟩
  | 18 => ⟨S2x16384x1024, .f32⟩
  | 19 => ⟨S_, .f32⟩
  | 20 => ⟨S2x16384, .f32⟩
  | 21 => ⟨S2x16384x1, .f32⟩
  | 22 => ⟨S_, .f32⟩
  | 23 => ⟨S2x16384x1, .f32⟩
  | 24 => ⟨S2x16384x1, .f32⟩
  | 25 => ⟨S_, .f32⟩
  | 26 => ⟨S2x16384x1, .f32⟩
  | 27 => ⟨S2x16384x1, .f32⟩
  | 28 => ⟨S2x16384x1, .f32⟩
  | 29 => ⟨S2x16384x1024, .f32⟩
  | 30 => ⟨S2x16384x1024, .f32⟩
  | 31 => ⟨S1x1x1024, .f32⟩
  | 32 => ⟨S2x16384x1024, .f32⟩
  | 33 => ⟨S2x16384x1024, .f32⟩
  | 34 => ⟨S2x16384x1024, .f32⟩
  | 35 => ⟨S1x1024, .f32⟩
  | 36 => ⟨S1024, .f32⟩
  | 37 => ⟨S2x16384x1024, .f32⟩
  | 38 => ⟨S_, .f32⟩
  | 39 => ⟨S2x16384, .f32⟩
  | 40 => ⟨S2x16384x1, .f32⟩
  | 41 => ⟨S_, .f32⟩
  | 42 => ⟨S2x16384x1, .f32⟩
  | 43 => ⟨S2x16384x1, .f32⟩
  | 44 => ⟨S_, .f32⟩
  | 45 => ⟨S2x16384x1, .f32⟩
  | 46 => ⟨S2x16384x1, .f32⟩
  | 47 => ⟨S2x16384x1, .f32⟩
  | 48 => ⟨S2x16384x1024, .f32⟩
  | 49 => ⟨S2x16384x1024, .f32⟩
  | 50 => ⟨S1x1x1024, .f32⟩
  | 51 => ⟨S2x16384x1024, .f32⟩
  | 52 => ⟨S2x16384x1024, .f32⟩
  | 53 => ⟨S1x1024x5632, .f32⟩
  | 54 => ⟨S1024x5632, .f32⟩
  | 55 => ⟨S2x16384x5632, .f32⟩
  | 56 => ⟨S_, .i32⟩
  | 57 => ⟨S_, .f32⟩
  | 58 => ⟨S2x16386x5632, .f32⟩
  | 59 => ⟨S1x3x5632, .f32⟩
  | 60 => ⟨S3x5632, .f32⟩
  | 61 => ⟨S2x16384x5632, .f32⟩
  | 62 => ⟨S1x5632, .f32⟩
  | 63 => ⟨S5632, .f32⟩
  | 64 => ⟨S1x1x5632, .f32⟩
  | 65 => ⟨S2x16384x5632, .f32⟩
  | 66 => ⟨S2x16384x5632, .f32⟩
  | 67 => ⟨S2x16384x5632, .f32⟩
  | 68 => ⟨S1x5632, .f32⟩
  | 69 => ⟨S5632, .f32⟩
  | 70 => ⟨S1x1x5632, .f32⟩
  | 71 => ⟨S2x16384x5632, .f32⟩
  | 72 => ⟨S2x16384x5632, .f32⟩
  | 73 => ⟨S2x16384x5632, .f32⟩
  | 74 => ⟨S2x16384x5632, .f32⟩
  | 75 => ⟨S1x5632, .f32⟩
  | 76 => ⟨S5632, .f32⟩
  | 77 => ⟨S1x1x5632, .f32⟩
  | 78 => ⟨S2x16384x5632, .f32⟩
  | 79 => ⟨S2x16384x5632, .f32⟩
  | 80 => ⟨S2x16384x5632, .f32⟩
  | 81 => ⟨S1x5632, .f32⟩
  | 82 => ⟨S5632, .f32⟩
  | 83 => ⟨S1x1x5632, .f32⟩
  | 84 => ⟨S2x16384x5632, .f32⟩
  | 85 => ⟨S2x16384x5632, .f32⟩
  | 86 => ⟨S2x16384x2816, .f32⟩
  | 87 => ⟨S2x16384x2816, .f32⟩
  | 88 => ⟨S2x16384x2816, .f32⟩
  | 89 => ⟨S2x16384x2816, .f32⟩
  | 90 => ⟨S_, .f32⟩
  | 91 => ⟨S2x16384x2816, .f32⟩
  | 92 => ⟨S2x16384x2816, .f32⟩
  | 93 => ⟨S2x16384x2816, .f32⟩
  | 94 => ⟨S_, .f32⟩
  | 95 => ⟨S2x16384x2816, .f32⟩
  | 96 => ⟨S2x16384x2816, .f32⟩
  | 97 => ⟨S2x16384x2816, .f32⟩
  | 98 => ⟨S_, .f32⟩
  | 99 => ⟨S2x16384x2816, .f32⟩
  | 100 => ⟨S2x16384x2816, .f32⟩
  | 101 => ⟨S_, .f32⟩
  | 102 => ⟨S2x16384x2816, .f32⟩
  | 103 => ⟨S2x16384x2816, .f32⟩
  | 104 => ⟨S2x16384x2816, .f32⟩
  | 105 => ⟨S2x16384x2816, .f32⟩
  | 106 => ⟨S1x2816x1024, .f32⟩
  | 107 => ⟨S2816x1024, .f32⟩
  | 108 => ⟨S2x16384x1024, .f32⟩
  | 109 => ⟨S1x1024, .f32⟩
  | 110 => ⟨S1024, .f32⟩
  | 111 => ⟨S2x16384x1024, .f32⟩
  | 112 => ⟨S_, .f32⟩
  | 113 => ⟨S2x16384, .f32⟩
  | 114 => ⟨S2x16384x1, .f32⟩
  | 115 => ⟨S_, .f32⟩
  | 116 => ⟨S2x16384x1, .f32⟩
  | 117 => ⟨S2x16384x1, .f32⟩
  | 118 => ⟨S_, .f32⟩
  | 119 => ⟨S2x16384x1, .f32⟩
  | 120 => ⟨S2x16384x1, .f32⟩
  | 121 => ⟨S2x16384x1, .f32⟩
  | 122 => ⟨S2x16384x1024, .f32⟩
  | 123 => ⟨S2x16384x1024, .f32⟩
  | 124 => ⟨S1x1x1024, .f32⟩
  | 125 => ⟨S2x16384x1024, .f32⟩
  | 126 => ⟨S2x16384x1024, .f32⟩
  | 127 => ⟨S2x16384x1024, .f32⟩
  | _ => ⟨S32768x512, .f32⟩

abbrev hbmTy0_1 (i : Nat) : BufTy := match i % 128 with
  | 0 => ⟨S32768x1024, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_6 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_9 : Ref sig .tc := ⟨.hbm, 112, rfl⟩
abbrev main_v91 : Ref sig .tc := ⟨.hbm, 113, rfl⟩
abbrev main_v92 : Ref sig .tc := ⟨.hbm, 114, rfl⟩
abbrev main_cst_10 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== Proj.lean ====
abbrev S32768x1024 : Shape := ⟨2, ![32768, 1024]⟩
abbrev S2x4x1024 : Shape := ⟨3, ![2, 4, 1024]⟩
abbrev S1x1024x4352 : Shape := ⟨3, ![1, 1024, 4352]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1024x4352 : Shape := ⟨2, ![1024, 4352]⟩
abbrev S32768x2048 : Shape := ⟨2, ![32768, 2048]⟩
abbrev S18x32768x128 : Shape := ⟨3, ![18, 32768, 128]⟩
abbrev S512x1024 : Shape := ⟨2, ![512, 1024]⟩
abbrev S512x2048 : Shape := ⟨2, ![512, 2048]⟩
abbrev S18x512x128 : Shape := ⟨3, ![18, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩
abbrev S1024x256 : Shape := ⟨2, ![1024, 256]⟩
abbrev S512x256 : Shape := ⟨2, ![512, 256]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x4x1024, .f32⟩
  | .hbm, ⟨2, _⟩ => ⟨S1x1024x4352, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S1024x4352, .f32⟩
  | .hbm, ⟨8, _⟩ => ⟨S1024x4352, .bf16⟩
  | .hbm, ⟨9, _⟩ => ⟨S1x1024, .f32⟩
  | .hbm, ⟨10, _⟩ => ⟨S32768x2048, .f32⟩
  | .hbm, ⟨11, _⟩ => ⟨S18x32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x2048, .f32⟩
  | .local _ .vmem, ⟨5, _⟩ => ⟨S512x2048, .f32⟩
  | .local _ .vmem, ⟨6, _⟩ => ⟨S18x512x128, .f32⟩
  | .local _ .vmem, ⟨7, _⟩ => ⟨S18x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S32768x1024 : Shape := ⟨2, ![32768, 1024]⟩
abbrev S2x4x1024 : Shape := ⟨3, ![2, 4, 1024]⟩
abbrev S1x1024x4352 : Shape := ⟨3, ![1, 1024, 4352]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x1x1024 : Shape := ⟨3, ![1, 1, 1024]⟩
abbrev S1024x4352 : Shape := ⟨2, ![1024, 4352]⟩
abbrev S2x16384x4352 : Shape := ⟨3, ![2, 16384, 4352]⟩
abbrev S2x16384x2304 : Shape := ⟨3, ![2, 16384, 2304]⟩
abbrev S32768x18x128 : Shape := ⟨3, ![32768, 18, 128]⟩
abbrev S18x32768x128 : Shape := ⟨3, ![18, 32768, 128]⟩
abbrev S2x16384x2048 : Shape := ⟨3, ![2, 16384, 2048]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x4x1024, .f32⟩
  | .hbm, ⟨2, _⟩ => ⟨S1x1024x4352, .f32⟩
  | .hbm, ⟨3, _⟩ => ⟨S2x16384x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x4x1024, .f32⟩
  | .hbm, ⟨18, _⟩ => ⟨S4x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S1024x4352, .f32⟩
  | .hbm, ⟨25, _⟩ => ⟨S2x16384x4352, .f32⟩
  | .hbm, ⟨26, _⟩ => ⟨S2x16384x2304, .f32⟩
  | .hbm, ⟨27, _⟩ => ⟨S32768x18x128, .f32⟩
  | .hbm, ⟨28, _⟩ => ⟨S18x32768x128, .f32⟩
  | .hbm, ⟨29, _⟩ => ⟨S2x16384x2048, .f32⟩
  | .hbm, ⟨30, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== First.lean ====
abbrev S32768x512 : Shape := ⟨2, ![32768, 512]⟩
abbrev S32768x256 : Shape := ⟨2, ![32768, 256]⟩
abbrev S32768x1024 : Shape := ⟨2, ![32768, 1024]⟩
abbrev S768x1024 : Shape := ⟨2, ![768, 1024]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S512x1024 : Shape := ⟨2, ![512, 1024]⟩
abbrev S256x1024 : Shape := ⟨2, ![256, 1024]⟩
abbrev S512x512 : Shape := ⟨2, ![512, 512]⟩
abbrev S512x256 : Shape := ⟨2, ![512, 256]⟩
abbrev S1x4x1024 : Shape := ⟨3, ![1, 4, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S2x256x1024 : Shape := ⟨3, ![2, 256, 1024]⟩
abbrev S2x4x264x128 : Shape := ⟨4, ![2, 4, 264, 128]⟩
abbrev S11x4x8x128 : Shape := ⟨4, ![11, 4, 8, 128]⟩
abbrev S2x256x256 : Shape := ⟨3, ![2, 256, 256]⟩
abbrev S256x512 : Shape := ⟨2, ![256, 512]⟩
abbrev S256x256 : Shape := ⟨2, ![256, 256]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1x256x1024 : Shape := ⟨3, ![1, 256, 1024]⟩
abbrev S1x1024x256 : Shape := ⟨3, ![1, 1024, 256]⟩
abbrev S1024x256 : Shape := ⟨2, ![1024, 256]⟩
abbrev S1x4x8x128 : Shape := ⟨4, ![1, 4, 8, 128]⟩
abbrev S4x8x128 : Shape := ⟨3, ![4, 8, 128]⟩
abbrev S256x128 : Shape := ⟨2, ![256, 128]⟩
abbrev S1x1x256x128 : Shape := ⟨4, ![1, 1, 256, 128]⟩
abbrev S1x1x128 : Shape := ⟨3, ![1, 1, 128]⟩
abbrev S1x128 : Shape := ⟨2, ![1, 128]⟩
abbrev S1x256x256 : Shape := ⟨3, ![1, 256, 256]⟩

abbrev nBuf : Space → Nat
  | .hbm => 17
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S32768x256, .f32⟩
  | .hbm, ⟨2, _⟩ => ⟨S32768x1024, .f32⟩
  | .hbm, ⟨3, _⟩ => ⟨S768x1024, .f32⟩
  | .hbm, ⟨4, _⟩ => ⟨S2x4x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1024x5632, .bf16⟩
  | .hbm, ⟨10, _⟩ => ⟨S2x2816x1024, .bf16⟩
  | .hbm, ⟨11, _⟩ => ⟨S2x1x5632, .f32⟩
  | .hbm, ⟨12, _⟩ => ⟨S512x1024, .f32⟩
  | .hbm, ⟨13, _⟩ => ⟨S512x1024, .bf16⟩
  | .hbm, ⟨14, _⟩ => ⟨S256x1024, .f32⟩
  | .hbm, ⟨15, _⟩ => ⟨S256x1024, .bf16⟩
  | .hbm, ⟨16, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S256x1024, .bf16⟩
  | .local _ .vmem, ⟨8, _⟩ => ⟨S1x4x1024, .f32⟩
  | .local _ .vmem, ⟨9, _⟩ => ⟨S1x1024x5632, .bf16⟩
  | .local _ .vmem, ⟨10, _⟩ => ⟨S1x3x5632, .f32⟩
  | .local _ .vmem, ⟨11, _⟩ => ⟨S1x1x5632, .f32⟩
  | .local _ .vmem, ⟨12, _⟩ => ⟨S1x2816x1024, .bf16⟩
  | .local _ .vmem, ⟨13, _⟩ => ⟨S512x1024, .f32⟩
  | .local _ .vmem, ⟨14, _⟩ => ⟨S512x1024, .f32⟩
  | .local _ .vmem, ⟨15, _⟩ => ⟨S2x256x1024, .bf16⟩
  | .local _ .vmem, ⟨16, _⟩ => ⟨S2x4x264x128, .f32⟩
  | .local _ .vmem, ⟨17, _⟩ => ⟨S11x4x8x128, .f32⟩
  | .local _ .vmem, ⟨18, _⟩ => ⟨S2x256x1024, .f32⟩
  | .local _ .vmem, ⟨19, _⟩ => ⟨S2x256x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FirstRefIdeal.lean ====
abbrev S32768x512 : Shape := ⟨2, ![32768, 512]⟩
abbrev S32768x256 : Shape := ⟨2, ![32768, 256]⟩
abbrev S32768x1024 : Shape := ⟨2, ![32768, 1024]⟩
abbrev S768x1024 : Shape := ⟨2, ![768, 1024]⟩
abbrev S2x4x1024 : Shape := ⟨3, ![2, 4, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x4x1024 : Shape := ⟨3, ![1, 4, 1024]⟩
abbrev S4x1024 : Shape := ⟨2, ![4, 1024]⟩
abbrev S2x16384x512 : Shape := ⟨3, ![2, 16384, 512]⟩
abbrev S2x16384x256 : Shape := ⟨3, ![2, 16384, 256]⟩
abbrev S2x16384x768 : Shape := ⟨3, ![2, 16384, 768]⟩
abbrev S2x16384x1024 : Shape := ⟨3, ![2, 16384, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16386x5632 : Shape := ⟨3, ![2, 16386, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 129
  | .vmem => 0
  | .smem => 0
  | _ => 0

abbrev hbmTy0_0 (i : Nat) : BufTy := match i % 128 with
  | 0 => ⟨S32768x512, .f32⟩
  | 1 => ⟨S32768x256, .f32⟩
  | 2 => ⟨S32768x1024, .f32⟩
  | 3 => ⟨S768x1024, .f32⟩
  | 4 => ⟨S2x4x1024, .f32⟩
  | 5 => ⟨S2x1024x5632, .f32⟩
  | 6 => ⟨S2x3x5632, .f32⟩
  | 7 => ⟨S2x5632, .f32⟩
  | 8 => ⟨S2x2816x1024, .f32⟩
  | 9 => ⟨S1x4x1024, .f32⟩
  | 10 => ⟨S4x1024, .f32⟩
  | 11 => ⟨S2x16384x512, .f32⟩
  | 12 => ⟨S2x16384x256, .f32⟩
  | 13 => ⟨S2x16384x768, .f32⟩
  | 14 => ⟨S2x16384x1024, .f32⟩
  | 15 => ⟨S2x16384x1024, .f32⟩
  | 16 => ⟨S1x1024, .f32⟩
  | 17 => ⟨S1024, .f32⟩
  | 18 => ⟨S2x16384x1024, .f32⟩
  | 19 => ⟨S_, .f32⟩
  | 20 => ⟨S2x16384, .f32⟩
  | 21 => ⟨S2x16384x1, .f32⟩
  | 22 => ⟨S_, .f32⟩
  | 23 => ⟨S2x16384x1, .f32⟩
  | 24 => ⟨S2x16384x1, .f32⟩
  | 25 => ⟨S_, .f32⟩
  | 26 => ⟨S2x16384x1, .f32⟩
  | 27 => ⟨S2x16384x1, .f32⟩
  | 28 => ⟨S2x16384x1, .f32⟩
  | 29 => ⟨S2x16384x1024, .f32⟩
  | 30 => ⟨S2x16384x1024, .f32⟩
  | 31 => ⟨S1x1x1024, .f32⟩
  | 32 => ⟨S2x16384x1024, .f32⟩
  | 33 => ⟨S2x16384x1024, .f32⟩
  | 34 => ⟨S2x16384x1024, .f32⟩
  | 35 => ⟨S1x1024, .f32⟩
  | 36 => ⟨S1024, .f32⟩
  | 37 => ⟨S2x16384x1024, .f32⟩
  | 38 => ⟨S_, .f32⟩
  | 39 => ⟨S2x16384, .f32⟩
  | 40 => ⟨S2x16384x1, .f32⟩
  | 41 => ⟨S_, .f32⟩
  | 42 => ⟨S2x16384x1, .f32⟩
  | 43 => ⟨S2x16384x1, .f32⟩
  | 44 => ⟨S_, .f32⟩
  | 45 => ⟨S2x16384x1, .f32⟩
  | 46 => ⟨S2x16384x1, .f32⟩
  | 47 => ⟨S2x16384x1, .f32⟩
  | 48 => ⟨S2x16384x1024, .f32⟩
  | 49 => ⟨S2x16384x1024, .f32⟩
  | 50 => ⟨S1x1x1024, .f32⟩
  | 51 => ⟨S2x16384x1024, .f32⟩
  | 52 => ⟨S2x16384x1024, .f32⟩
  | 53 => ⟨S1x1024x5632, .f32⟩
  | 54 => ⟨S1024x5632, .f32⟩
  | 55 => ⟨S2x16384x5632, .f32⟩
  | 56 => ⟨S_, .i32⟩
  | 57 => ⟨S_, .f32⟩
  | 58 => ⟨S2x16386x5632, .f32⟩
  | 59 => ⟨S1x3x5632, .f32⟩
  | 60 => ⟨S3x5632, .f32⟩
  | 61 => ⟨S2x16384x5632, .f32⟩
  | 62 => ⟨S1x5632, .f32⟩
  | 63 => ⟨S5632, .f32⟩
  | 64 => ⟨S1x1x5632, .f32⟩
  | 65 => ⟨S2x16384x5632, .f32⟩
  | 66 => ⟨S2x16384x5632, .f32⟩
  | 67 => ⟨S2x16384x5632, .f32⟩
  | 68 => ⟨S1x5632, .f32⟩
  | 69 => ⟨S5632, .f32⟩
  | 70 => ⟨S1x1x5632, .f32⟩
  | 71 => ⟨S2x16384x5632, .f32⟩
  | 72 => ⟨S2x16384x5632, .f32⟩
  | 73 => ⟨S2x16384x5632, .f32⟩
  | 74 => ⟨S2x16384x5632, .f32⟩
  | 75 => ⟨S1x5632, .f32⟩
  | 76 => ⟨S5632, .f32⟩
  | 77 => ⟨S1x1x5632, .f32⟩
  | 78 => ⟨S2x16384x5632, .f32⟩
  | 79 => ⟨S2x16384x5632, .f32⟩
  | 80 => ⟨S2x16384x5632, .f32⟩
  | 81 => ⟨S1x5632, .f32⟩
  | 82 => ⟨S5632, .f32⟩
  | 83 => ⟨S1x1x5632, .f32⟩
  | 84 => ⟨S2x16384x5632, .f32⟩
  | 85 => ⟨S2x16384x5632, .f32⟩
  | 86 => ⟨S2x16384x2816, .f32⟩
  | 87 => ⟨S2x16384x2816, .f32⟩
  | 88 => ⟨S2x16384x2816, .f32⟩
  | 89 => ⟨S2x16384x2816, .f32⟩
  | 90 => ⟨S_, .f32⟩
  | 91 => ⟨S2x16384x2816, .f32⟩
  | 92 => ⟨S2x16384x2816, .f32⟩
  | 93 => ⟨S2x16384x2816, .f32⟩
  | 94 => ⟨S_, .f32⟩
  | 95 => ⟨S2x16384x2816, .f32⟩
  | 96 => ⟨S2x16384x2816, .f32⟩
  | 97 => ⟨S2x16384x2816, .f32⟩
  | 98 => ⟨S_, .f32⟩
  | 99 => ⟨S2x16384x2816, .f32⟩
  | 100 => ⟨S2x16384x2816, .f32⟩
  | 101 => ⟨S_, .f32⟩
  | 102 => ⟨S2x16384x2816, .f32⟩
  | 103 => ⟨S2x16384x2816, .f32⟩
  | 104 => ⟨S2x16384x2816, .f32⟩
  | 105 => ⟨S2x16384x2816, .f32⟩
  | 106 => ⟨S1x2816x1024, .f32⟩
  | 107 => ⟨S2816x1024, .f32⟩
  | 108 => ⟨S2x16384x1024, .f32⟩
  | 109 => ⟨S1x1024, .f32⟩
  | 110 => ⟨S1024, .f32⟩
  | 111 => ⟨S2x16384x1024, .f32⟩
  | 112 => ⟨S_, .f32⟩
  | 113 => ⟨S2x16384, .f32⟩
  | 114 => ⟨S2x16384x1, .f32⟩
  | 115 => ⟨S_, .f32⟩
  | 116 => ⟨S2x16384x1, .f32⟩
  | 117 => ⟨S2x16384x1, .f32⟩
  | 118 => ⟨S_, .f32⟩
  | 119 => ⟨S2x16384x1, .f32⟩
  | 120 => ⟨S2x16384x1, .f32⟩
  | 121 => ⟨S2x16384x1, .f32⟩
  | 122 => ⟨S2x16384x1024, .f32⟩
  | 123 => ⟨S2x16384x1024, .f32⟩
  | 124 => ⟨S1x1x1024, .f32⟩
  | 125 => ⟨S2x16384x1024, .f32⟩
  | 126 => ⟨S2x16384x1024, .f32⟩
  | 127 => ⟨S2x16384x1024, .f32⟩
  | _ => ⟨S32768x512, .f32⟩

abbrev hbmTy0_1 (i : Nat) : BufTy := match i % 128 with
  | 0 => ⟨S32768x1024, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_6 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_7 : Ref sig .tc := ⟨.hbm, 98, rfl⟩
abbrev main_v79 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_9 : Ref sig .tc := ⟨.hbm, 112, rfl⟩
abbrev main_v91 : Ref sig .tc := ⟨.hbm, 113, rfl⟩
abbrev main_v92 : Ref sig .tc := ⟨.hbm, 114, rfl⟩
abbrev main_cst_10 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== Proof.HgrnRuns.lean ====
/- What the proof of the HGRN call's body is stated over: the body's one branch condition, the staging and scratch
   memrefs at a point, and the invariant of the region with the scratch as a memref. -/
module

public import proofs.«01_k».proof.Proof.Gen.KernelIdeal.Frame
public import proofs.«01_k».proof.Proof.Gen.KernelIdeal.Skeleton

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S4x128x128 .f32 := Memref.whole cc0_scratch0
/-- The scratch `arg6` the kernel carries between points, as a view: what it holds is stated through it. -/
abbrev VS0_0 : View sig .tc .vmem S4x128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hgrn

end
-- ==== Proof.HgrnRunA.lean ====
/- The HGRN call's body run once with the state zeroed first. -/
module

public import proofs.«01_k».proof.Proof.HgrnRuns

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1928000 in
/-- The body in the first point of a sequence, where it zeroes the state: the pieces it leaves in the output window and in the state scratch (last store first), with the proof
    that from the inputs' blocks it runs to the continuation holding those pieces written. -/
noncomputable def runA (c : Dev nD) (i : grid0.Coords) (arg2 : Memref sig .tc .vmem S512x2048 .f32) (harg2 : arg2.IsWhole) (arg3 : Memref sig .tc .vmem S1x512 .f32) (harg3 : arg3.IsWhole) (arg4 : Memref sig .tc .vmem S1x128 .f32) (harg4 : arg4.IsWhole) (arg5 : Memref sig .tc .vmem S512x512 .f32) (harg5 : arg5.IsWhole) (arg6 : Memref sig .tc .vmem S4x128x128 .f32) (harg6 : arg6.IsWhole) (hc0 : cond0_0 i)
    (x0 : Vec F S512x2048 .f32) (x1 : Vec F S1x512 .f32) (x2 : Vec F S1x128 .f32) :
    Σ' (L3 : List (View.Piece (Elt F) S512x512 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_hgrn_mixer i arg2 harg2 arg3 harg3 arg4 harg4 arg5 harg5 arg6 harg6) K } := by
  refine ⟨?_, ?_, fun E K => ?run⟩
  case run =>
    simp only [cc0_hgrn_mixer_eq_skeleton]; unfold cc0_hgrn_mixer_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hgrn

end
-- ==== Proof.HgrnRunB.lean ====
/- The HGRN call's body run once from a carried state. -/
module

public import proofs.«01_k».proof.Proof.HgrnRunA

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1916000 in
/-- The body at a later point of a sequence: the pieces it leaves in the output window and in the state scratch (last store first), with the proof
    that from the inputs' blocks and the state the point before left it runs to the continuation holding those pieces written. -/
noncomputable def runB (c : Dev nD) (i : grid0.Coords) (arg2 : Memref sig .tc .vmem S512x2048 .f32) (harg2 : arg2.IsWhole) (arg3 : Memref sig .tc .vmem S1x512 .f32) (harg3 : arg3.IsWhole) (arg4 : Memref sig .tc .vmem S1x128 .f32) (harg4 : arg4.IsWhole) (arg5 : Memref sig .tc .vmem S512x512 .f32) (harg5 : arg5.IsWhole) (arg6 : Memref sig .tc .vmem S4x128x128 .f32) (harg6 : arg6.IsWhole) (hc0 : ¬cond0_0 i)
    (x0 : Vec F S512x2048 .f32) (x1 : Vec F S1x512 .f32) (x2 : Vec F S1x128 .f32) (xs0 : Vec F S4x128x128 .f32) :
    Σ' (L3 : List (View.Piece (Elt F) S512x512 .f32)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_hgrn_mixer i arg2 harg2 arg3 harg3 arg4 harg4 arg5 harg5 arg6 harg6) K } := by
  refine ⟨?_, ?_, fun E K => ?run⟩
  case run =>
    simp only [cc0_hgrn_mixer_eq_skeleton]; unfold cc0_hgrn_mixer_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hgrn

end
-- ==== Proof.HgrnChunk.lean ====
/- The recurrence kernel's arithmetic on one chunk of 64 rows, written once for every chunk and head: the
logarithm of the forget gate, its running sum, the four scaled operands, the scores, the contribution to
the carried state, the step of the state, and the normalised gated output. -/
module

public import proofs.«01_k».proof.Proof.HgrnRunA
public import proofs.«01_k».proof.Proof.HgrnRunB

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic

variable {F : FTy → Type} [FloatOps F]

/-! ## Reading a chunk -/

theorem rows_inb (ci : Fin 8) (b : Fin 2) : ∀ a, (![64 * ci.val, 512 * b.val] : Fin 2 → ℕ) a + S64x512.size a ≤ S512x2048.size a := by
  intro a; fin_cases a <;> simp [S64x512, S512x2048] <;> omega

theorem head_inb (ci : Fin 8) (b : Fin 2) (h : Fin 4) :
    ∀ a, (![64 * ci.val, 1024 + 512 * b.val + 128 * h.val] : Fin 2 → ℕ) a + S64x128.size a ≤ S512x2048.size a := by
  intro a; fin_cases a <;> simp [S64x128, S512x2048] <;> omega

theorem tile_inb (ci : Fin 8) (h : Fin 4) :
    ∀ a, (![64 * ci.val, 128 * h.val] : Fin 2 → ℕ) a + S64x128.size a ≤ S512x512.size a := by
  intro a; fin_cases a <;> simp [S64x128, S512x512] <;> omega

theorem state_inb (h : Fin 4) : ∀ a, (![h.val, 0, 0] : Fin 3 → ℕ) a + S1x128x128.size a ≤ S4x128x128.size a := by
  intro a; fin_cases a <;> simp [S1x128x128, S4x128x128] <;> omega

theorem slices_head (h : Fin 4) : S64x512.Slices ![0, 128 * h.val] S64x128 :=
  ⟨rfl, fun a => by fin_cases a <;> simp [S64x128, S64x512] <;> omega⟩

theorem slices_head1 (h : Fin 4) : S1x512.Slices ![0, 128 * h.val] S1x128 :=
  ⟨rfl, fun a => by fin_cases a <;> simp [S1x128, S1x512] <;> omega⟩

/-- A way of reading the block of columns: what it gives on each rectangle. -/
abbrev Reader (F : FTy → Type) : Type := (r : Rect S512x2048) → r.shape.Idx → Elt F .f32

/-- Chunk `ci` of the query columns (`b = 0`) or of the forget-gate columns (`b = 1`). -/
def rows (x0 : Reader F) (ci : Fin 8) (b : Fin 2) : Vec F S64x512 .f32 :=
  x0 (Rect.unit ![64 * ci.val, 512 * b.val] S64x512.size (rows_inb ci b))

/-- Chunk `ci` of head `h`'s value columns (`b = 0`) or output-gate columns (`b = 1`). -/
def rowsH (x0 : Reader F) (ci : Fin 8) (b : Fin 2) (h : Fin 4) : Vec F S64x128 .f32 :=
  x0 (Rect.unit ![64 * ci.val, 1024 + 512 * b.val + 128 * h.val] S64x128.size (head_inb ci b h))

/-- Head `h` of the carried state. -/
def stHead (xs : Vec F S4x128x128 .f32) (h : Fin 4) : Vec F S1x128x128 .f32 :=
  View.ld xs (Rect.unit ![h.val, 0, 0] S1x128x128.size (state_inb h))

/-- Head `h`'s 128 columns of a chunk. -/
def colH {e : FTy} (h : Fin 4) (x : FVec F S64x512 e) : FVec F S64x128 e :=
  extractStridedSlice S64x128 ![0, 128 * h.val] x (slices_head h)

/-! ## The gates -/

/-- The lower bound as a row. -/
def lbRow (x1 : Vec F S1x512 .f32) : FVec F S1x512 .f32 := shapeCast S1x512 x1 shapeCasts_S1x512_S1x512

/-- One minus the lower bound, as a row. -/
def lbCo (x1 : Vec F S1x512 .f32) : FVec F S1x512 .f32 :=
  subf (broadcast S1x512 (Scalar.ofBits .f32 0x3F800000#32)) (lbRow x1)

/-- The logarithm of the forget gate. -/
def logF (x1 : Vec F S1x512 .f32) (z : Vec F S64x512 .f32) : FVec F S64x512 .f32 :=
  log (addf (broadcastTo S64x512 (lbRow x1) broadcasts_S1x512_S64x512)
    (mulf (broadcastTo S64x512 (lbCo x1) broadcasts_S1x512_S64x512) (logistic z)))

/-- The key: one minus the forget gate. -/
def keyOf (x1 : Vec F S1x512 .f32) (z : Vec F S64x512 .f32) : FVec F S64x512 .f32 :=
  mulf (broadcastTo S64x512 (lbCo x1) broadcasts_S1x512_S64x512)
    (subf (broadcast S64x512 (Scalar.ofBits .f32 0x3F800000#32)) (logistic z))

/-- The lower triangle with its diagonal, as a mask. -/
def causalM : IVec S64x64 1 :=
  cmpi .sge (iota .tc S64x64 32 [0] iota_S64x64_d0_w32) (iota .tc S64x64 32 [1] iota_S64x64_d1_w32)

/-- The lower triangle with its diagonal, as ones and zeros. -/
def trilM : FVec F S64x64 .bf16 := truncf .bf16 (sitofp .f32 (extui 32 causalM natLt_1_32)) bitsLt_bf16_f32

/-- The first part of a value split in three, and what is left after it. -/
def hiOf (x : FVec F S64x512 .f32) : FVec F S64x512 .bf16 := truncf .bf16 x bitsLt_bf16_f32

@[inherit_doc hiOf]
def resOf (x : FVec F S64x512 .f32) : FVec F S64x512 .f32 := subf x (extf .f32 (hiOf x) bitsLt_bf16_f32)

/-- The triangle times one part. -/
def trilDot (x : FVec F S64x512 .bf16) : FVec F S64x512 .f32 :=
  matmul dot_S64x64_S64x512_S64x512_1_0_0_1_n_n none (trilM (F := F)) x (constant S64x512 .f32 0x00000000#32)

/-- The running sum along the chunk: the triangle times the three parts, added. -/
def cumOf (x : FVec F S64x512 .f32) : FVec F S64x512 .f32 :=
  addf (addf (trilDot (hiOf x)) (trilDot (hiOf (resOf x)))) (trilDot (hiOf (resOf (resOf x))))

/-- `x · σ(x)` on a chunk. -/
def siluOf (x : Vec F S64x512 .f32) : FVec F S64x512 .f32 := mulf x (logistic x)

/-- The running sum at the middle row and at the last row. -/
def midOf (c : FVec F S64x512 .f32) : FVec F S1x512 .f32 := extractStridedSlice S1x512 ![32, 0] c slices_S64x512_o32_0_S1x512

@[inherit_doc midOf]
def lastOf (c : FVec F S64x512 .f32) : FVec F S1x512 .f32 := extractStridedSlice S1x512 ![63, 0] c slices_S64x512_o63_0_S1x512

/-- A row repeated over the chunk. -/
def rep (r : FVec F S1x512 .f32) : FVec F S64x512 .f32 := broadcastTo S64x512 r broadcasts_S1x512_S64x512

/-- The query scaled from the middle row. -/
def qa (q : Vec F S64x512 .f32) (c : FVec F S64x512 .f32) : FVec F S64x512 .f32 :=
  mulf (siluOf q) (exp (subf c (rep (midOf c))))

/-- The key scaled from the middle row. -/
def kb (k c : FVec F S64x512 .f32) : FVec F S64x512 .f32 := mulf k (exp (subf (rep (midOf c)) c))

/-- The query scaled from the chunk's start. -/
def qi (q : Vec F S64x512 .f32) (c : FVec F S64x512 .f32) : FVec F S64x512 .bf16 :=
  truncf .bf16 (mulf (qa q c) (rep (exp (midOf c)))) bitsLt_bf16_f32

/-- The key scaled to the chunk's end. -/
def kc (k c : FVec F S64x512 .f32) : FVec F S64x512 .bf16 :=
  truncf .bf16 (mulf (kb k c) (rep (exp (subf (lastOf c) (midOf c))))) bitsLt_bf16_f32

/-! ## One head of one chunk -/

/-- The scores of one head. -/
def scoreOf (q : Vec F S64x512 .f32) (k c : FVec F S64x512 .f32) (h : Fin 4) : FVec F S64x64 .f32 :=
  matmul dot_S64x128_S64x128_S64x64_1_1_0_0_n_n none (colH h (truncf .bf16 (qa q c) bitsLt_bf16_f32))
    (colH h (truncf .bf16 (kb k c) bitsLt_bf16_f32)) (constant S64x64 .f32 0x00000000#32)

/-- The contribution of one chunk to one head's state. -/
def conOf (v : Vec F S64x128 .f32) (k c : FVec F S64x512 .f32) (h : Fin 4) : FVec F S128x128 .f32 :=
  matmul dot_S64x128_S64x128_S128x128_0_0_1_1_n_n none (truncf .bf16 v bitsLt_bf16_f32) (colH h (kc k c))
    (constant S128x128 .f32 0x00000000#32)

/-- One step of one head's state: decayed by the chunk's last row, then added to. -/
def stepOf (c : FVec F S64x512 .f32) (con : FVec F S128x128 .f32) (h : Fin 4) (st : FVec F S128x128 .f32) : FVec F S128x128 .f32 :=
  addf (mulf (broadcastTo S128x128 (extractStridedSlice S1x128 ![0, 128 * h.val] (exp (lastOf c)) (slices_head1 h))
    broadcasts_S1x128_S128x128) st) con

/-- What one head reads of the carried state. -/
def interOf (q : Vec F S64x512 .f32) (c : FVec F S64x512 .f32) (h : Fin 4) (st : FVec F S128x128 .f32) : FVec F S64x128 .f32 :=
  matmul dot_S64x128_S128x128_S64x128_1_1_0_0_n_n none (colH h (qi q c)) (truncf .bf16 st bitsLt_bf16_f32)
    (constant S64x128 .f32 0x00000000#32)

/-- One head's mix: the masked scores times the values, plus what it reads of the state. -/
def mixOf (sc : FVec F S64x64 .f32) (v : Vec F S64x128 .f32) (oi : FVec F S64x128 .f32) : FVec F S64x128 .f32 :=
  addf (matmul dot_S64x64_S64x128_S64x128_1_0_0_1_n_n none
    (truncf .bf16 (select causalM sc (broadcast S64x64 (Scalar.ofBits .f32 0x00000000#32))) bitsLt_bf16_f32)
    (truncf .bf16 v bitsLt_bf16_f32) (constant S64x128 .f32 0x00000000#32)) oi

/-- The mix normalised by its root mean square, weighted, and gated. -/
def normOf (o : FVec F S64x128 .f32) (nw : Vec F S1x128 .f32) (g : Vec F S64x128 .f32) : FVec F S64x128 .f32 :=
  mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32))))
      broadcasts_S64x1_S64x128))
    (broadcastTo S64x128 (shapeCast S1x128 nw shapeCasts_S1x128_S1x128) broadcasts_S1x128_S64x128))
    (mulf g (logistic g))

/-! ## A block of eight chunks, in two groups of four -/

/-- The running sum of chunk `ci`. -/
def cumC (x0 : Reader F) (x1 : Vec F S1x512 .f32) (ci : Fin 8) : FVec F S64x512 .f32 :=
  cumOf (logF x1 (rows x0 ci 1))

/-- Head `h`'s state after chunk `ci`, from its state before. -/
def stepC (x0 : Reader F) (x1 : Vec F S1x512 .f32) (ci : Fin 8) (h : Fin 4) (st : FVec F S128x128 .f32) : FVec F S128x128 .f32 :=
  stepOf (cumC x0 x1 ci) (conOf (rowsH x0 ci 0 h) (keyOf x1 (rows x0 ci 1)) (cumC x0 x1 ci) h) h st

/-- Chunk `n` of group `g`. -/
def chunkAt (g : Fin 2) (n : ℕ) : Fin 8 := ⟨(4 * g.val + n) % 8, Nat.mod_lt _ (by decide)⟩

/-- Head `h`'s state after `n` chunks of group `g`, from what it holds before the group. -/
def chainG (x0 : Reader F) (x1 : Vec F S1x512 .f32) (g : Fin 2) (h : Fin 4) (w : Vec F S1x128x128 .f32) : ℕ → FVec F S128x128 .f32
  | 0 => shapeCast S128x128 w shapeCasts_S1x128x128_S128x128
  | n + 1 => stepC x0 x1 (chunkAt g n) h (chainG x0 x1 g h w n)

/-- What head `h` holds after a group, from what it holds before. -/
def groupOut (x0 : Reader F) (x1 : Vec F S1x512 .f32) (g : Fin 2) (h : Fin 4) (w : Vec F S1x128x128 .f32) : Vec F S1x128x128 .f32 :=
  shapeCast S1x128x128 (chainG x0 x1 g h w 4) shapeCasts_S128x128_S1x128x128

/-- The output tile of chunk `n` of group `g`, head `h`. -/
def tileOf (x0 : Reader F) (x1 : Vec F S1x512 .f32) (x2 : Vec F S1x128 .f32) (w : Fin 2 → Fin 4 → Vec F S1x128x128 .f32)
    (g : Fin 2) (n : ℕ) (h : Fin 4) : FVec F S64x128 .f32 :=
  normOf (mixOf (scoreOf (rows x0 (chunkAt g n) 0) (keyOf x1 (rows x0 (chunkAt g n) 1)) (cumC x0 x1 (chunkAt g n)) h)
      (rowsH x0 (chunkAt g n) 0 h)
      (interOf (rows x0 (chunkAt g n) 0) (cumC x0 x1 (chunkAt g n)) h (chainG x0 x1 g h (w g h) n)))
    x2 (rowsH x0 (chunkAt g n) 1 h)

/-- The output block's 32 tiles, the last chunk's last head first. -/
def outPieces (x0 : Reader F) (x1 : Vec F S1x512 .f32) (x2 : Vec F S1x128 .f32) (w : Fin 2 → Fin 4 → Vec F S1x128x128 .f32) :
    List (View.Piece (Elt F) S512x512 .f32) :=
  List.ofFn fun k : Fin 32 => ⟨Rect.unit ![64 * (⟨7 - k.val / 4, by omega⟩ : Fin 8).val, 128 * (⟨3 - k.val % 4, by omega⟩ : Fin 4).val] S64x128.size
    (tile_inb ⟨7 - k.val / 4, by omega⟩ ⟨3 - k.val % 4, by omega⟩),
    tileOf x0 x1 x2 w ⟨1 - k.val / 16, by omega⟩ (3 - k.val / 4 % 4) ⟨3 - k.val % 4, by omega⟩⟩

/-- The carried state's writes of one group, the last head first. -/
def statePieces (x0 : Reader F) (x1 : Vec F S1x512 .f32) (w : Fin 2 → Fin 4 → Vec F S1x128x128 .f32) (g : Fin 2) :
    List (View.Piece (Elt F) S4x128x128 .f32) :=
  List.ofFn fun k : Fin 4 => ⟨Rect.unit ![(⟨3 - k.val, by omega⟩ : Fin 4).val, 0, 0] S1x128x128.size (state_inb ⟨3 - k.val, by omega⟩),
    groupOut x0 x1 g ⟨3 - k.val, by omega⟩ (w g ⟨3 - k.val, by omega⟩)⟩

end Cert.KernelIdeal.Hgrn
end
-- ==== Proof.HgrnPieces.lean ====
/- The writes of the recurrence kernel's body, named: the output block's 32 tiles and the carried state's four
heads per group are the chunk functions of the blocks and of the state before the block. -/
module

public import proofs.«01_k».proof.Proof.HgrnChunk

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic

variable {F : FTy → Type} [FloatOps F]

/-! ## Reading the carried state back -/

/-- A head read back right after it is written is what was written. -/
theorem readCov_hit {κ : Kind} {sp : Space} (v : View sig κ sp S4x128x128 .f32) (o : Fin 3 → ℕ)
    (inb inb' : ∀ a, o a + S1x128x128.size a ≤ S4x128x128.size a)
    (w : S1x128x128.Idx → Elt F .f32) (L : List (View.Piece (Elt F) S4x128x128 .f32)) :
    v.readCov ((⟨Rect.unit o S1x128x128.size inb, w⟩ : View.Piece (Elt F) S4x128x128 .f32) :: L)
      (Rect.unit (s := S4x128x128) o S1x128x128.size inb').toLoadRect = w := by
  funext j
  exact View.read_writes_cons_emb v v.junk (Rect.unit (s := S4x128x128) o S1x128x128.size inb) w L j

/-- A head read back does not see another head's write. -/
theorem readCov_skip {κ : Kind} {sp : Space} (v : View sig κ sp S4x128x128 .f32) (a b : ℕ) (hab : a ≠ b)
    (inb : ∀ i, (![a, 0, 0] : Fin 3 → ℕ) i + S1x128x128.size i ≤ S4x128x128.size i)
    (inb' : ∀ i, (![b, 0, 0] : Fin 3 → ℕ) i + S1x128x128.size i ≤ S4x128x128.size i)
    (w : S1x128x128.Idx → Elt F .f32) (L : List (View.Piece (Elt F) S4x128x128 .f32)) :
    v.readCov ((⟨Rect.unit ![a, 0, 0] S1x128x128.size inb, w⟩ : View.Piece (Elt F) S4x128x128 .f32) :: L)
      (Rect.unit (s := S4x128x128) ![b, 0, 0] S1x128x128.size inb').toLoadRect
      = v.readCov L (Rect.unit (s := S4x128x128) ![b, 0, 0] S1x128x128.size inb').toLoadRect := by
  funext j
  have hj : (j 0 : ℕ) < 1 := (j 0).isLt
  refine View.read_writes_cons_miss_of_axis v v.junk _ L _ (0 : Fin 3) a 1 rfl rfl rfl ?_
  have e : ((Rect.unit (s := S4x128x128) ![b, 0, 0] S1x128x128.size inb').toLoadRect.idx j (0 : Fin 3) : ℕ) = b + 1 * (j 0 : ℕ) := rfl
  rw [e]
  omega

/-- A head read back after the whole state is written is that head of it. -/
theorem readCov_whole {κ : Kind} {sp : Space} (v : View sig κ sp S4x128x128 .f32) (o : Fin 3 → ℕ)
    (inb : ∀ i, (![0, 0, 0] : Fin 3 → ℕ) i + S4x128x128.size i ≤ S4x128x128.size i)
    (inb' : ∀ a, o a + S1x128x128.size a ≤ S4x128x128.size a)
    (w : S4x128x128.Idx → Elt F .f32) (L : List (View.Piece (Elt F) S4x128x128 .f32)) :
    v.readCov ((⟨Rect.unit ![0, 0, 0] S4x128x128.size inb, w⟩ : View.Piece (Elt F) S4x128x128 .f32) :: L)
      (Rect.unit (s := S4x128x128) o S1x128x128.size inb').toLoadRect = View.ld w (Rect.unit (s := S4x128x128) o S1x128x128.size inb') := by
  funext j
  have h := View.read_writes_cons_emb v v.junk (Rect.unit ![0, 0, 0] S4x128x128.size inb) w L
    ((Rect.unit (s := S4x128x128) o S1x128x128.size inb').idx j)
  refine Eq.trans (congrArg (v.read (Elt F) _) ?_) h
  funext a
  apply Fin.ext
  fin_cases a <;> simp [Rect.emb, Rect.unit, LoadRect.idx]

variable (c : Dev nD) (i : grid0.Coords) (arg2 : Memref sig .tc .vmem S512x2048 .f32) (harg2 : arg2.IsWhole)
  (arg3 : Memref sig .tc .vmem S1x512 .f32) (harg3 : arg3.IsWhole) (arg4 : Memref sig .tc .vmem S1x128 .f32) (harg4 : arg4.IsWhole)
  (arg5 : Memref sig .tc .vmem S512x512 .f32) (harg5 : arg5.IsWhole) (arg6 : Memref sig .tc .vmem S4x128x128 .f32) (harg6 : arg6.IsWhole)
  (x0 : Vec F S512x2048 .f32) (x1 : Vec F S1x512 .f32) (x2 : Vec F S1x128 .f32) (xs0 : Vec F S4x128x128 .f32)

/-- The block's columns as the body reads them. -/
def rd0 : Reader F := fun r => View.readAt (Elt F) arg2.view r.toLoadRect (harg2.unread x0)

/-- The bound's row as the body reads it. -/
def rd1 : Vec F S1x512 .f32 := View.readAt (Elt F) arg3.view (Rect.unit (s := S1x512) ![0, 0] S1x512.size inb_S1x512_S1x512_0_0).toLoadRect (harg3.unread x1)

/-- The weight's row as the body reads it. -/
def rd2 : Vec F S1x128 .f32 := View.readAt (Elt F) arg4.view (Rect.unit (s := S1x128) ![0, 0] S1x128.size inb_S1x128_S1x128_0_0).toLoadRect (harg4.unread x2)

/-- What each group reads of the carried state in a sequence's first block. -/
def rdSA (g : Fin 2) (h : Fin 4) : Vec F S1x128x128 .f32 :=
  match g with
  | 0 => arg6.view.readCov [⟨Rect.unit ![0, 0, 0] S4x128x128.size inb_S4x128x128_S4x128x128_0_0_0, k0_pay2⟩]
      (Rect.unit (s := S4x128x128) ![h.val, 0, 0] S1x128x128.size (state_inb h)).toLoadRect
  | 1 => arg6.view.readCov (statePieces (rd0 arg2 harg2 x0) (rd1 arg3 harg3 x1)
        (fun _ h => arg6.view.readCov [⟨Rect.unit ![0, 0, 0] S4x128x128.size inb_S4x128x128_S4x128x128_0_0_0, k0_pay2⟩]
      (Rect.unit (s := S4x128x128) ![h.val, 0, 0] S1x128x128.size (state_inb h)).toLoadRect) 0
      ++ [⟨Rect.unit ![0, 0, 0] S4x128x128.size inb_S4x128x128_S4x128x128_0_0_0, k0_pay2⟩])
      (Rect.unit (s := S4x128x128) ![h.val, 0, 0] S1x128x128.size (state_inb h)).toLoadRect

/-- A sequence's first block writes the output tiles of a zero state. -/
theorem runA_out (hc0 : cond0_0 i) :
    (runA c i arg2 harg2 arg3 harg3 arg4 harg4 arg5 harg5 arg6 harg6 hc0 x0 x1 x2).1
      = outPieces (rd0 arg2 harg2 x0) (rd1 arg3 harg3 x1) (rd2 arg4 harg4 x2) (rdSA arg2 harg2 arg3 harg3 arg6 x0 x1) := by
  sl_kernel_rfl

/-- A sequence's first block leaves each head's state after its two groups. -/
theorem runA_state (hc0 : cond0_0 i) :
    (runA c i arg2 harg2 arg3 harg3 arg4 harg4 arg5 harg5 arg6 harg6 hc0 x0 x1 x2).2.1
      = statePieces (rd0 arg2 harg2 x0) (rd1 arg3 harg3 x1) (rdSA arg2 harg2 arg3 harg3 arg6 x0 x1) 1
        ++ (statePieces (rd0 arg2 harg2 x0) (rd1 arg3 harg3 x1) (rdSA arg2 harg2 arg3 harg3 arg6 x0 x1) 0
        ++ [⟨Rect.unit ![0, 0, 0] S4x128x128.size inb_S4x128x128_S4x128x128_0_0_0, k0_pay2⟩]) := by
  sl_kernel_rfl

/-- What each group reads of the carried state in a later block. -/
def rdSB (g : Fin 2) (h : Fin 4) : Vec F S1x128x128 .f32 :=
  match g with
  | 0 => View.readAt (Elt F) arg6.view (Rect.unit (s := S4x128x128) ![h.val, 0, 0] S1x128x128.size (state_inb h)).toLoadRect (harg6.unread xs0)
  | 1 => arg6.view.readCov (statePieces (rd0 arg2 harg2 x0) (rd1 arg3 harg3 x1)
        (fun _ h => View.readAt (Elt F) arg6.view (Rect.unit (s := S4x128x128) ![h.val, 0, 0] S1x128x128.size (state_inb h)).toLoadRect (harg6.unread xs0)) 0)
      (Rect.unit (s := S4x128x128) ![h.val, 0, 0] S1x128x128.size (state_inb h)).toLoadRect

/-- A later block writes the output tiles of the state it finds. -/
theorem runB_out (hc0 : ¬cond0_0 i) :
    (runB c i arg2 harg2 arg3 harg3 arg4 harg4 arg5 harg5 arg6 harg6 hc0 x0 x1 x2 xs0).1
      = outPieces (rd0 arg2 harg2 x0) (rd1 arg3 harg3 x1) (rd2 arg4 harg4 x2) (rdSB arg2 harg2 arg3 harg3 arg6 harg6 x0 x1 xs0) := by
  sl_kernel_rfl

/-- A later block leaves each head's state after its two groups. -/
theorem runB_state (hc0 : ¬cond0_0 i) :
    (runB c i arg2 harg2 arg3 harg3 arg4 harg4 arg5 harg5 arg6 harg6 hc0 x0 x1 x2 xs0).2.1
      = statePieces (rd0 arg2 harg2 x0) (rd1 arg3 harg3 x1) (rdSB arg2 harg2 arg3 harg3 arg6 harg6 x0 x1 xs0) 1
        ++ statePieces (rd0 arg2 harg2 x0) (rd1 arg3 harg3 x1) (rdSB arg2 harg2 arg3 harg3 arg6 harg6 x0 x1 xs0) 0 := by
  sl_kernel_rfl

end Cert.KernelIdeal.Hgrn
end
-- ==== Proof.HgrnBlock.lean ====
/- One block of the recurrence: the output block and the carried state after it, as functions of the
columns, the bound, the weight and the state before, and what the body's writes read as. -/
module

public import proofs.«01_k».proof.Proof.HgrnPieces
public import Idealize.ShloMosaic.Lib.Pointwise.Index
public import Idealize.ShloMosaic.Lib.Pipeline.Value

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic

variable {F : FTy → Type} [FloatOps F]

/-- What each group finds in each head's state, from the state before the block. -/
def stIn (x0 : Reader F) (x1 : Vec F S1x512 .f32) (st : Vec F S4x128x128 .f32) (g : Fin 2) (h : Fin 4) : Vec F S1x128x128 .f32 :=
  match g with
  | 0 => stHead st h
  | 1 => groupOut x0 x1 0 h (stHead st h)

/-- The output block. -/
def outOf (x0 : Vec F S512x2048 .f32) (x1 : Vec F S1x512 .f32) (x2 : Vec F S1x128 .f32) (st : Vec F S4x128x128 .f32) : Vec F S512x512 .f32 :=
  fun y => tileOf (View.ld x0) x1 x2 (stIn (View.ld x0) x1 st) ⟨(y 0).val / 256, by have : (y 0).val < 512 := (y 0).isLt; omega⟩
    ((y 0).val / 64 % 4) ⟨(y 1).val / 128, by have : (y 1).val < 512 := (y 1).isLt; omega⟩
    (ix2 ⟨(y 0).val % 64, Nat.mod_lt _ (by decide)⟩ ⟨(y 1).val % 128, Nat.mod_lt _ (by decide)⟩)

/-- The carried state after the block. -/
def stOf (x0 : Vec F S512x2048 .f32) (x1 : Vec F S1x512 .f32) (st : Vec F S4x128x128 .f32) : Vec F S4x128x128 .f32 :=
  fun y => groupOut (View.ld x0) x1 1 (y 0) (stIn (View.ld x0) x1 st 1 (y 0)) (ix3 (0 : Fin 1) (y 1) (y 2))

/-! ## The tiles of the output and the heads of the state -/

/-- The output tiles, written over anything, read as the output block. -/
theorem read_outPieces {κ : Kind} {sp : Space} (v : View sig κ sp S512x512 .f32) (f : v.ty.Contents (Elt F))
    (x0 : Vec F S512x2048 .f32) (x1 : Vec F S1x512 .f32) (x2 : Vec F S1x128 .f32) (st : Vec F S4x128x128 .f32) :
    v.read (Elt F) (v.writes (Elt F) f (outPieces (View.ld x0) x1 x2 (stIn (View.ld x0) x1 st))) = outOf x0 x1 x2 st := by
  funext y
  refine View.read_writes_apply_of_pieces v f (outOf x0 x1 x2 st) _ ?_ y ?_
  · intro p hp x
    obtain ⟨k, rfl⟩ := List.mem_ofFn.1 hp
    have h0 : (x 0).val < 64 := (x 0).isLt
    have h1 : (x 1).val < 128 := (x 1).isLt
    have hk := k.isLt
    have e0 : ((Rect.unit (s := S512x512) ![64 * (⟨7 - k.val / 4, by omega⟩ : Fin 8).val, 128 * (⟨3 - k.val % 4, by omega⟩ : Fin 4).val] S64x128.size
      (tile_inb ⟨7 - k.val / 4, by omega⟩ ⟨3 - k.val % 4, by omega⟩)).emb x 0 : ℕ) = 64 * (7 - k.val / 4) + 1 * (x 0).val := rfl
    have e1 : ((Rect.unit (s := S512x512) ![64 * (⟨7 - k.val / 4, by omega⟩ : Fin 8).val, 128 * (⟨3 - k.val % 4, by omega⟩ : Fin 4).val] S64x128.size
      (tile_inb ⟨7 - k.val / 4, by omega⟩ ⟨3 - k.val % 4, by omega⟩)).emb x 1 : ℕ) = 128 * (3 - k.val % 4) + 1 * (x 1).val := rfl
    unfold outOf
    dsimp only
    simp only [e0, e1]
    have a0 : (64 * (7 - k.val / 4) + 1 * (x 0).val) / 256 = 1 - k.val / 16 := by omega
    have a1 : (64 * (7 - k.val / 4) + 1 * (x 0).val) / 64 % 4 = 3 - k.val / 4 % 4 := by omega
    have a2 : (128 * (3 - k.val % 4) + 1 * (x 1).val) / 128 = 3 - k.val % 4 := by omega
    have a3 : (64 * (7 - k.val / 4) + 1 * (x 0).val) % 64 = (x 0).val := by omega
    have a4 : (128 * (3 - k.val % 4) + 1 * (x 1).val) % 128 = (x 1).val := by omega
    simp only [a0, a1, a2, a3, a4]
    congr 1
    funext a; fin_cases a <;> rfl
  · have h0 : (y 0).val < 512 := (y 0).isLt
    have h1 : (y 1).val < 512 := (y 1).isLt
    refine ⟨_, List.mem_ofFn.2 ⟨⟨4 * (7 - (y 0).val / 64) + (3 - (y 1).val / 128), by omega⟩, rfl⟩, ?_⟩
    rw [Rect.mem_set_unit]
    intro a
    fin_cases a
    · show 64 * (7 - (4 * (7 - (y 0).val / 64) + (3 - (y 1).val / 128)) / 4) ≤ (y 0).val ∧ (y 0).val < 64 * (7 - (4 * (7 - (y 0).val / 64) + (3 - (y 1).val / 128)) / 4) + 64
      omega
    · show 128 * (3 - (4 * (7 - (y 0).val / 64) + (3 - (y 1).val / 128)) % 4) ≤ (y 1).val ∧ (y 1).val < 128 * (3 - (4 * (7 - (y 0).val / 64) + (3 - (y 1).val / 128)) % 4) + 128
      omega

/-- A group's four writes, and whatever came before them, read head by head as what the group leaves. -/
theorem canon_statePieces (x0 : Reader F) (x1 : Vec F S1x512 .f32) (w : Fin 2 → Fin 4 → Vec F S1x128x128 .f32) (g : Fin 2)
    {κ : Kind} {sp : Space} (v : View sig κ sp S4x128x128 .f32) (f : v.ty.Contents (Elt F)) (L : List (View.Piece (Elt F) S4x128x128 .f32))
    (y : S4x128x128.Idx) :
    v.read (Elt F) (v.writes (Elt F) f (statePieces x0 x1 w g ++ L)) y = groupOut x0 x1 g (y 0) (w g (y 0)) (ix3 (0 : Fin 1) (y 1) (y 2)) := by
  rw [View.writes_append]
  refine View.read_writes_apply_of_pieces v _ (fun y => groupOut x0 x1 g (y 0) (w g (y 0)) (ix3 (0 : Fin 1) (y 1) (y 2))) _ ?_ y ?_
  · intro p hp x
    obtain ⟨k, rfl⟩ := List.mem_ofFn.1 hp
    have hk := k.isLt
    have h0 : (x 0).val < 1 := (x 0).isLt
    have e : ∀ a, ((Rect.unit (s := S4x128x128) ![(⟨3 - k.val, by omega⟩ : Fin 4).val, 0, 0] S1x128x128.size (state_inb ⟨3 - k.val, by omega⟩)).emb x a : ℕ)
      = (![3 - k.val, 0, 0] : Fin 3 → ℕ) a + 1 * (x a).val := fun _ => rfl
    have e0 : (Rect.unit (s := S4x128x128) ![(⟨3 - k.val, by omega⟩ : Fin 4).val, 0, 0] S1x128x128.size (state_inb ⟨3 - k.val, by omega⟩)).emb x 0
        = (⟨3 - k.val, by omega⟩ : Fin 4) := by
      apply Fin.ext; rw [e]; show 3 - k.val + 1 * (x 0).val = 3 - k.val; omega
    dsimp only
    rw [e0]
    congr 1
    funext a
    apply Fin.ext
    fin_cases a
    · show (x 0).val = 0; omega
    · show (x 1).val = 0 + 1 * (x 1).val; omega
    · show (x 2).val = 0 + 1 * (x 2).val; omega
  · have h0 : (y 0).val < 4 := (y 0).isLt
    refine ⟨_, List.mem_ofFn.2 ⟨⟨3 - (y 0).val, by omega⟩, rfl⟩, ?_⟩
    rw [Rect.mem_set_unit]
    intro a
    have h1 : (y 1).val < 128 := (y 1).isLt
    have h2 : (y 2).val < 128 := (y 2).isLt
    fin_cases a
    · show 3 - (3 - (y 0).val) ≤ (y 0).val ∧ (y 0).val < 3 - (3 - (y 0).val) + 1
      omega
    · show 0 ≤ (y 1).val ∧ (y 1).val < 0 + 128
      omega
    · show 0 ≤ (y 2).val ∧ (y 2).val < 0 + 128
      omega

/-- A head read back after a group's writes is what the group leaves in it. -/
theorem readCov_statePieces (x0 : Reader F) (x1 : Vec F S1x512 .f32) (w : Fin 2 → Fin 4 → Vec F S1x128x128 .f32) (g : Fin 2)
    {κ : Kind} {sp : Space} (v : View sig κ sp S4x128x128 .f32) (L : List (View.Piece (Elt F) S4x128x128 .f32)) (h : Fin 4) :
    v.readCov (statePieces x0 x1 w g ++ L) (Rect.unit (s := S4x128x128) ![h.val, 0, 0] S1x128x128.size (state_inb h)).toLoadRect
      = groupOut x0 x1 g h (w g h) := by
  funext j
  have h0 : (j 0).val < 1 := (j 0).isLt
  refine (canon_statePieces x0 x1 w g v v.junk L _).trans ?_
  have e : ∀ a, ((Rect.unit (s := S4x128x128) ![h.val, 0, 0] S1x128x128.size (state_inb h)).toLoadRect.idx j a : ℕ)
      = (![h.val, 0, 0] : Fin 3 → ℕ) a + 1 * (j a).val := fun _ => rfl
  have e0 : (Rect.unit (s := S4x128x128) ![h.val, 0, 0] S1x128x128.size (state_inb h)).toLoadRect.idx j 0 = h := by
    apply Fin.ext; rw [e]; show h.val + 1 * (j 0).val = h.val; omega
  rw [e0]
  congr 1
  funext a
  apply Fin.ext
  fin_cases a
  · show 0 = (j 0).val; omega
  · show 0 + 1 * (j 1).val = (j 1).val; omega
  · show 0 + 1 * (j 2).val = (j 2).val; omega

variable (arg2 : Memref sig .tc .vmem S512x2048 .f32) (harg2 : arg2.IsWhole)
  (arg3 : Memref sig .tc .vmem S1x512 .f32) (harg3 : arg3.IsWhole) (arg4 : Memref sig .tc .vmem S1x128 .f32) (harg4 : arg4.IsWhole)
  (arg6 : Memref sig .tc .vmem S4x128x128 .f32) (harg6 : arg6.IsWhole)
  (x0 : Vec F S512x2048 .f32) (x1 : Vec F S1x512 .f32) (x2 : Vec F S1x128 .f32) (xs0 : Vec F S4x128x128 .f32)

theorem rd0_eq : rd0 arg2 harg2 x0 = View.ld x0 := by
  funext r; unfold rd0; rw [View.readAt_eq_ld, harg2.read_unread]

theorem rd1_eq : rd1 arg3 harg3 x1 = x1 := by
  unfold rd1; rw [View.readAt_eq_ld, harg3.read_unread]; exact View.ld_unit_zero (by funext a; fin_cases a <;> rfl) _ _

theorem rd2_eq : rd2 arg4 harg4 x2 = x2 := by
  unfold rd2; rw [View.readAt_eq_ld, harg4.read_unread]; exact View.ld_unit_zero (by funext a; fin_cases a <;> rfl) _ _

theorem rdSA_eq : rdSA arg2 harg2 arg3 harg3 arg6 x0 x1 = stIn (View.ld x0) x1 k0_pay2 := by
  funext g h
  fin_cases g
  · exact readCov_whole _ _ _ _ _ _
  · refine (readCov_statePieces _ _ _ _ _ _ _).trans ?_
    rw [rd0_eq, rd1_eq]
    exact congrArg _ (readCov_whole _ _ _ _ _ _)

theorem rdSB_eq : rdSB arg2 harg2 arg3 harg3 arg6 harg6 x0 x1 xs0 = stIn (View.ld x0) x1 xs0 := by
  have e : ∀ h : Fin 4, View.readAt (Elt F) arg6.view (Rect.unit (s := S4x128x128) ![h.val, 0, 0] S1x128x128.size (state_inb h)).toLoadRect (harg6.unread xs0)
      = stHead xs0 h := fun h => by rw [View.readAt_eq_ld, harg6.read_unread]; rfl
  funext g h
  fin_cases g
  · exact e h
  · have h2 := readCov_statePieces (rd0 arg2 harg2 x0) (rd1 arg3 harg3 x1)
        (fun _ h => View.readAt (Elt F) arg6.view (Rect.unit (s := S4x128x128) ![h.val, 0, 0] S1x128x128.size (state_inb h)).toLoadRect (harg6.unread xs0))
        0 arg6.view [] h
    rw [List.append_nil] at h2
    refine h2.trans ?_
    rw [rd0_eq, rd1_eq]
    exact congrArg _ (e h)

variable (c : Dev nD) (i : grid0.Coords) (arg5 : Memref sig .tc .vmem S512x512 .f32) (harg5 : arg5.IsWhole)

/-- A sequence's first block leaves the output block of a zero state, -/
theorem runA_out_read (hc0 : cond0_0 i) (f : arg5.view.ty.Contents (Elt F)) :
    arg5.view.read (Elt F) (arg5.view.writes (Elt F) f (runA c i arg2 harg2 arg3 harg3 arg4 harg4 arg5 harg5 arg6 harg6 hc0 x0 x1 x2).1)
      = outOf x0 x1 x2 k0_pay2 := by
  rw [runA_out, rdSA_eq, rd0_eq, rd1_eq, rd2_eq]; exact read_outPieces _ _ _ _ _ _

/-- and the state after it. -/
theorem runA_state_read (hc0 : cond0_0 i) (f : arg6.view.ty.Contents (Elt F)) :
    arg6.view.read (Elt F) (arg6.view.writes (Elt F) f (runA c i arg2 harg2 arg3 harg3 arg4 harg4 arg5 harg5 arg6 harg6 hc0 x0 x1 x2).2.1)
      = stOf x0 x1 k0_pay2 := by
  rw [runA_state, rdSA_eq, rd0_eq, rd1_eq]; funext y; exact canon_statePieces _ _ _ _ _ _ _ _

/-- A later block leaves the output block of the state it finds, -/
theorem runB_out_read (hc0 : ¬cond0_0 i) (f : arg5.view.ty.Contents (Elt F)) :
    arg5.view.read (Elt F) (arg5.view.writes (Elt F) f (runB c i arg2 harg2 arg3 harg3 arg4 harg4 arg5 harg5 arg6 harg6 hc0 x0 x1 x2 xs0).1)
      = outOf x0 x1 x2 xs0 := by
  rw [runB_out, rdSB_eq, rd0_eq, rd1_eq, rd2_eq]; exact read_outPieces _ _ _ _ _ _

/-- and the state after it. -/
theorem runB_state_read (hc0 : ¬cond0_0 i) (f : arg6.view.ty.Contents (Elt F)) :
    arg6.view.read (Elt F) (arg6.view.writes (Elt F) f (runB c i arg2 harg2 arg3 harg3 arg4 harg4 arg5 harg5 arg6 harg6 hc0 x0 x1 x2 xs0).2.1)
      = stOf x0 x1 xs0 := by
  rw [runB_state, rdSB_eq, rd0_eq, rd1_eq]; funext y; exact canon_statePieces _ _ _ _ _ _ _ _

end Cert.KernelIdeal.Hgrn
end
-- ==== Proof.HgrnFrame.lean ====
/- The recurrence kernel's launch with its output named: after the body at a point the output window holds the
output block of the carried state, and the carried state is the one the block leaves. -/
module

public import proofs.«01_k».proof.Proof.HgrnBlock
public import Idealize.ShloMosaic.Lib.Claim

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state along the grid -/

/-- The carried state after the first `n` points: zero at the start of a sequence (every 32 points), then block after block. -/
def stAt (c : Dev nD) : (n : ℕ) → n < cfg0.N → Vec F S4x128x128 .f32
  | 0, hn => stOf (iblk m c 0 ⟨0, hn⟩) (iblk m c 1 ⟨0, hn⟩) k0_pay2
  | n + 1, hn => stOf (iblk m c 0 ⟨n + 1, hn⟩) (iblk m c 1 ⟨n + 1, hn⟩)
      (if (n + 1) % 32 = 0 then k0_pay2 else stAt c n (Nat.lt_of_succ_lt hn))

/-- The carried state a point starts from. -/
def stBefore (c : Dev nD) (t : Fin cfg0.N) : Vec F S4x128x128 .f32 :=
  if t.val % 32 = 0 then k0_pay2 else stAt m c (t.val - 1) (Nat.lt_of_le_of_lt (Nat.sub_le _ _) t.isLt)

theorem stAt_eq (c : Dev nD) (t : Fin cfg0.N) : stAt m c t.val t.isLt = stOf (iblk m c 0 t) (iblk m c 1 t) (stBefore m c t) := by
  obtain ⟨n, hn⟩ := t
  cases n <;> rfl

/-- The region invariant before position `n`: every scratch at anything before the first point, afterwards the carried
    state at what the point before left. -/
def PhiS (c : Dev nD) : (n : ℕ) → n ≤ cfg0.N → sProp 𝕄
  | 0, _ => Pipeline.ΦA spec0 c
  | n + 1, hn => iprop(iprop(owns (c : Thread nD τ) scM0_0 fullShare (stAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega))) ∗ (∃ r, prngReg c r)) := by
  cases n with
  | zero => exact absurd rfl hz
  | succ n => rfl

/-! ## The launch's data -/

/-- What the launch is proved with: each input's buffer at its block, the output's at the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (iblk m c 0 t) (iblk m c 1 t) (iblk m c 2 t) (stBefore m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outOf (iblk m c 0 t) (iblk m c 1 t) (iblk m c 2 t) (stBefore m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at a point where a sequence starts: whatever the carried state was, it leaves the output block and the
    state of a zero state. -/
theorem body_start (c : Dev nD) (t : Fin cfg0.N) (h0 : t.val % 32 = 0) :
    iprop(iprop(iprop((∃ d, owns (c : Thread nD τ) scM0_0 fullShare d)) ∗ (∃ r, prngReg c r)) ∗ (dats m 0 c).owesAt () t.castSucc
      ∗ (∃ d : Vec F S512x2048 .f32, owns (c : Thread nD τ) (ms0_0 t) fullShare (iblk m c 0 t)) ∗ (∃ d : Vec F S1x512 .f32, owns (c : Thread nD τ) (ms0_1 t) fullShare (iblk m c 1 t))
      ∗ (∃ d : Vec F S1x128 .f32, owns (c : Thread nD τ) (ms0_2 t) fullShare (iblk m c 2 t)) ∗ (∃ d, owns (c : Thread nD τ) (ms0_3 t) fullShare ((dats m 0 c).before 3 t d)))
    ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ, stAt_eq]
  rw [show stBefore m c t = k0_pay2 from if_pos h0]
  iintro ⟨⟨HS0, Hg⟩, Ho, ⟨%d0, H0⟩, ⟨%d1, H1⟩, ⟨%d2, H2⟩, ⟨%d3, H3⟩⟩
  iapply ((runA c (grid0.coords t) _ (hs0_0 t) _ (hs0_1 t) _ (hs0_2 t) _ (hs0_3 t) _ (Memref.isWhole_whole _) ((hcond0_0 t).mpr h0) (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hg]
  · isplitl [HS0]
    · unfold owns; iexists _; isplitr
      swap; · iexact HS0
      ipureintro; exact runA_state_read _ _ _ _ _ _ _ _ _ _ _ _ _ _ _ _ _
    iexact Hg
  isplitl [Ho]; · iexact Ho
  isplitl [H0]; · iexact H0
  isplitl [H1]; · iexact H1
  isplitl [H2]; · iexact H2
  unfold owns; iexists _; isplitr
  swap; · iexact H3
  ipureintro; exact runA_out_read _ _ _ _ _ _ _ _ _ _ _ _ _ _ _ _ _

set_option maxHeartbeats 3200000 in
/-- The body at any other point: from the carried state it finds. -/
theorem body_next (c : Dev nD) (t : Fin cfg0.N) (h0 : ¬t.val % 32 = 0) :
    iprop(iprop(iprop(owns (c : Thread nD τ) scM0_0 fullShare (stBefore m c t)) ∗ (∃ r, prngReg c r)) ∗ (dats m 0 c).owesAt () t.castSucc
      ∗ (∃ d : Vec F S512x2048 .f32, owns (c : Thread nD τ) (ms0_0 t) fullShare (iblk m c 0 t)) ∗ (∃ d : Vec F S1x512 .f32, owns (c : Thread nD τ) (ms0_1 t) fullShare (iblk m c 1 t))
      ∗ (∃ d : Vec F S1x128 .f32, owns (c : Thread nD τ) (ms0_2 t) fullShare (iblk m c 2 t)) ∗ (∃ d, owns (c : Thread nD τ) (ms0_3 t) fullShare ((dats m 0 c).before 3 t d)))
    ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ, stAt_eq]
  iintro ⟨⟨HS0, Hg⟩, Ho, ⟨%d0, H0⟩, ⟨%d1, H1⟩, ⟨%d2, H2⟩, ⟨%d3, H3⟩⟩
  iapply ((runB c (grid0.coords t) _ (hs0_0 t) _ (hs0_1 t) _ (hs0_2 t) _ (hs0_3 t) _ (Memref.isWhole_whole _) (fun h => h0 ((hcond0_0 t).mp h)) (iblk m c 0 t) (iblk m c 1 t) (iblk m c 2 t) (stBefore m c t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hg]
  · isplitl [HS0]
    · unfold owns; iexists _; isplitr
      swap; · iexact HS0
      ipureintro; exact runB_state_read _ _ _ _ _ _ _ _ _ _ _ _ _ _ _ _ _ _
    iexact Hg
  isplitl [Ho]; · iexact Ho
  isplitl [H0]; · iexact H0
  isplitl [H1]; · iexact H1
  isplitl [H2]; · iexact H2
  unfold owns; iexists _; isplitr
  swap; · iexact H3
  ipureintro; exact runB_out_read _ _ _ _ _ _ _ _ _ _ _ _ _ _ _ _ _ _

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2]
  by_cases h0 : t.val % 32 = 0
  · by_cases hz : t.val = 0
    · rw [PhiS_castSucc m c t, PhiS_zero m c _ _ hz, PhiA0_eq]
      exact body_start m c t h0
    · rw [PhiS_castSucc m c t, PhiS_pos m c _ _ hz]
      refine Idealize.SL.BI.BIBase.Entails.trans ?_ (body_start m c t h0)
      iintro ⟨⟨HS0, Hg⟩, Hr⟩
      isplitl [HS0 Hg]
      · isplitl [HS0]
        · iexists _; iexact HS0
        iexact Hg
      iexact Hr
  · have hz : t.val ≠ 0 := fun h => h0 (by rw [h])
    rw [PhiS_castSucc m c t, PhiS_pos m c _ _ hz]
    have e : stAt m c (t.val - 1) (Nat.lt_of_le_of_lt (Nat.sub_le _ _) t.isLt) = stBefore m c t := (if_neg h0).symm
    rw [e]
    exact body_next m c t h0

/-- The table's body at a point's slots is the body as spelt here. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS0, Hg⟩
  isplitl [HS0]
  · iexists _; iexact HS0
  iexact Hg

/-! ## The launch -/

set_option backward.isDefEq.respectTransparency.types false in
/-- The launch runs to its end with the output array tiled by the output blocks and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every argument array is unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The kernel over the reals runs to its end, changes none of its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hgrn
end
-- ==== Proof.HgrnRun.lean ====
/- What the recurrence kernel leaves in its output array: row `i` of the array is row `i mod 512` of the block
that grid point `i / 512` computes, from rows `512·(i / 512)` to `512·(i / 512) + 511` of the projection, the two
reshaped weight rows, and the state the point before it left. -/
module

public import proofs.«01_k».proof.Proof.HgrnFrame
public import Idealize.ShloMosaic.Lib.Pipeline.Value
public import Idealize.ShloMosaic.Lib.Claim
public import Idealize.ShloMosaic.Lib.Pointwise

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The output array -/

/-- The grid point that writes row `i`. -/
def ptOf (i : S32768x512.Idx) : Fin cfg0.N :=
  ⟨(i 0).val / 512, lt_of_lt_of_eq (by have : (i 0).val < 32768 := (i 0).isLt; omega) N_0.symm⟩

/-- An index's place within its block. -/
def locOf (i : S32768x512.Idx) : S512x512.Idx :=
  ix2 ⟨(i 0).val % 512, Nat.mod_lt _ (by decide)⟩ ⟨(i 1).val, (i 1).isLt⟩

/-- The output array after the run. -/
def G3 (c : Dev nD) : Buf (Elt F) ((c : Thread nD τ).loc main_v2) := fun i =>
  outOf (iblk m c 0 (ptOf i)) (iblk m c 1 (ptOf i)) (iblk m c 2 (ptOf i)) (stBefore m c (ptOf i)) (locOf i)

theorem idx3 : ∀ t : Fin cfg0.N, win0_3.index t (0 : Fin 2) = t.val ∧ win0_3.index t (1 : Fin 2) = 0 :=
  (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

/-- What point `t` writes back is block `t` of the array. -/
theorem flushed3_eq (c : Dev nD) (t : Fin cfg0.N) :
    (dats m 0 c).flushed 3 t = ((cfg0.win 3).blk t).view.read (Elt F) (G3 m c) := by
  show (cfg0.win 3).cut (grid0.coords t) ((dats m 0 c).after 3 t) = _
  rw [after0_3]
  obtain ⟨e0, e1⟩ := idx3 t
  funext y
  have hy0 : (y 0).val < 512 := (y 0).isLt
  have hy1 : (y 1).val < 512 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 512 + 1 * (y 1).val := rfl
  have hp : ptOf (((cfg0.win 3).blk t).view.emb y) = t := by
    apply Fin.ext
    show (((cfg0.win 3).blk t).view.emb y 0).val / 512 = _
    rw [hb0]; omega
  have hl : locOf (((cfg0.win 3).blk t).view.emb y) = (cfg0.win 3).xinj (grid0.coords t) y := by
    funext a; apply Fin.ext
    match a with
    | ⟨0, _⟩ => show (((cfg0.win 3).blk t).view.emb y 0).val % 512 = (y 0).val; rw [hb0]; omega
    | ⟨1, _⟩ => show (((cfg0.win 3).blk t).view.emb y 1).val = (y 1).val; rw [hb1]; omega
  show outOf _ _ _ _ ((cfg0.win 3).xinj (grid0.coords t) y) = G3 m c (((cfg0.win 3).blk t).view.emb y)
  unfold G3
  rw [hp, hl]

/-- An index is in point `t`'s block exactly when each coordinate is in the block's range. -/
theorem mem_blk3 (t : Fin cfg0.N) (i : S32768x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- The output array after the run is `G3`: the points' blocks tile it. -/
theorem final3 (c : Dev nD) : (dats m 0 c).arrAt 3 cfg0.N = G3 m c :=
  (dats m 0 c).arrAt_eq_of_cover 3 _ (fun t _ => flushed3_eq m c t) (fun i => by
    refine ⟨ptOf i, flush0_3 _, ?_⟩
    rw [mem_blk3]
    obtain ⟨e0, e1⟩ := idx3 (ptOf i)
    have hi0 : (i 0).val < 32768 := (i 0).isLt
    have hi1 : (i 1).val < 512 := (i 1).isLt
    have ht : (ptOf i).val = (i 0).val / 512 := rfl
    intro a
    match a with
    | ⟨0, _⟩ => show win0_3.index (ptOf i) (0 : Fin 2) * 512 ≤ (i 0).val ∧ (i 0).val < win0_3.index (ptOf i) (0 : Fin 2) * 512 + 512; omega
    | ⟨1, _⟩ => show win0_3.index (ptOf i) (1 : Fin 2) * 512 ≤ (i 1).val ∧ (i 1).val < win0_3.index (ptOf i) (1 : Fin 2) * 512 + 512; omega)

/-- The run: the output array ends as `G3`, the arguments as launched. -/
theorem run : θ_run defs (onTc (τ := τ) (main (F := F))) ⟨m, fun _ => 0, ρ⟩ fun r => ∀ c : Dev nD,
      r.2.mem ((c : Thread nD τ).loc main_v2) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final3 m c), h.2 c⟩) (θ_run_and (run_main m ρ) (unchanged m ρ))

/-! ## The blocks read -/

/-- Window 0's block at point `t` is rows `512 t` on of the projection. -/
theorem iblk0 (c : Dev nD) (t : Fin cfg0.N) (y : S512x2048.Idx) :
    (iblk m c 0 t : Vec F S512x2048 .f32) y = m ((c : Thread nD τ).loc main_arg0)
      (ix2 (⟨512 * t.val + (y 0).val, by have h : t.val < 64 := lt_of_lt_of_eq t.isLt N_0; have : (y 0).val < 512 := (y 0).isLt; omega⟩ : Fin 32768)
        (⟨(y 1).val, (y 1).isLt⟩ : Fin 2048)) := by
  show V m c main_arg0 (((cfg0.win 0).blk t).view.emb y) = _
  rw [V_main_arg0]
  congr 1
  obtain ⟨e0, e1⟩ := idx0 t
  have hb0 : (((cfg0.win 0).blk t).view.emb y 0).val = win0_0.index t (0 : Fin 2) * 512 + 1 * (y 0).val := rfl
  have hb1 : (((cfg0.win 0).blk t).view.emb y 1).val = win0_0.index t (1 : Fin 2) * 2048 + 1 * (y 1).val := rfl
  funext a; apply Fin.ext
  match a with
  | ⟨0, _⟩ => show (((cfg0.win 0).blk t).view.emb y 0).val = 512 * t.val + (y 0).val; rw [hb0]; omega
  | ⟨1, _⟩ => show (((cfg0.win 0).blk t).view.emb y 1).val = (y 1).val; rw [hb1]; omega

/-- Window 1's block is the lower bound as a row. -/
theorem iblk1 (c : Dev nD) (t : Fin cfg0.N) (k : Fin 512) :
    (iblk m c 1 t : Vec F S1x512 .f32) (ix2 0 k) = m ((c : Thread nD τ).loc main_arg1) (ix1 k) := by
  show V m c main_v0 (((cfg0.win 1).blk t).view.emb (ix2 (0 : Fin 1) k)) = _
  obtain ⟨e0, e1⟩ := idx1 t
  have hb1 : (((cfg0.win 1).blk t).view.emb (ix2 (0 : Fin 1) k) 1).val = win0_1.index t (1 : Fin 2) * 512 + 1 * k.val := rfl
  have he : (((cfg0.win 1).blk t).view.emb (ix2 (0 : Fin 1) k)) = (ix2 (0 : Fin 1) k : S1x512.Idx) := by
    funext a; apply Fin.ext
    match a with
    | ⟨0, _⟩ => exact congrArg (fun n => n * 1 + 0) e0
    | ⟨1, _⟩ => show (((cfg0.win 1).blk t).view.emb (ix2 (0 : Fin 1) k) 1).val = k.val; rw [hb1]; omega
  rw [he]
  entry_read
  pointwise

/-- Window 2's block is the norm's weight as a row. -/
theorem iblk2 (c : Dev nD) (t : Fin cfg0.N) (k : Fin 128) :
    (iblk m c 2 t : Vec F S1x128 .f32) (ix2 0 k) = m ((c : Thread nD τ).loc main_arg2) (ix1 k) := by
  show V m c main_v1 (((cfg0.win 2).blk t).view.emb (ix2 (0 : Fin 1) k)) = _
  obtain ⟨e0, e1⟩ := idx2 t
  have hb1 : (((cfg0.win 2).blk t).view.emb (ix2 (0 : Fin 1) k) 1).val = win0_2.index t (1 : Fin 2) * 128 + 1 * k.val := rfl
  have he : (((cfg0.win 2).blk t).view.emb (ix2 (0 : Fin 1) k)) = (ix2 (0 : Fin 1) k : S1x128.Idx) := by
    funext a; apply Fin.ext
    match a with
    | ⟨0, _⟩ => exact congrArg (fun n => n * 1 + 0) e0
    | ⟨1, _⟩ => show (((cfg0.win 2).blk t).view.emb (ix2 (0 : Fin 1) k) 1).val = k.val; rw [hb1]; omega
  rw [he]
  entry_read
  pointwise

end Cert.KernelIdeal.Hgrn
end
-- ==== Proof.HgrnSpec.lean ====
/- The gated recurrence over the reals, as formulas in the elements of its three arguments: the projection `X`
(32768 rows; 512 columns each of query, forget gate, value and output gate), the lower bound `L` of the forget
gate, and the weight `W` of the normalisation. Rows come in 512 chunks of 64, the first 256 the first sequence. -/
module

public import Idealize.ShloMosaic.PureOps.Ideal
public import Idealize.ShloMosaic.Lib.Pointwise

@[expose] public section

noncomputable section

namespace Cert.HgrnSpec

open Idealize.ShloMosaic

/-- Column `d` of head `h` among the 512 columns of a group. -/
def hcol (h : Fin 4) (d : Fin 128) : Fin 512 := ⟨128 * h.val + d.val, by omega⟩

/-- Row `s` of chunk `N`. -/
def rowN (N : Fin 512) (s : Fin 64) : Fin 32768 := ⟨64 * N.val + s.val, by omega⟩

/-- Column `k` of column group `b`: query, forget gate, value, output gate. -/
def colN (b : Fin 4) (k : Fin 512) : Fin 2048 := ⟨512 * b.val + k.val, by omega⟩

/-- Chunk `n` of sequence `b`. -/
def chk (b : Fin 2) (n : ℕ) : Fin 512 := ⟨(256 * b.val + n) % 512, Nat.mod_lt _ (by decide)⟩

variable (X : Fin 32768 → Fin 2048 → EReal) (L : Fin 512 → EReal) (W : Fin 128 → EReal)

/-- The logarithm of the forget gate. -/
def lf (N : Fin 512) (s : Fin 64) (k : Fin 512) : EReal :=
  Ideal.log (L k + (1 - L k) * Ideal.logistic (X (rowN N s) (colN 1 k)))

/-- The key: one minus the forget gate. -/
def ky (N : Fin 512) (s : Fin 64) (k : Fin 512) : EReal := (1 - L k) * Ideal.logistic (-X (rowN N s) (colN 1 k))

/-- The query through `x · σ(x)`. -/
def qq (N : Fin 512) (s : Fin 64) (k : Fin 512) : EReal :=
  X (rowN N s) (colN 0 k) * Ideal.logistic (X (rowN N s) (colN 0 k))

/-- The running sum of the logarithms along the chunk. -/
def cm (N : Fin 512) (c : Fin 64) (k : Fin 512) : EReal := ∑ s : Fin 64, if s ≤ c then lf X L N s k else 0

/-- The scores within a chunk, both operands scaled from the middle row. -/
def sc (N : Fin 512) (h : Fin 4) (a b : Fin 64) : EReal :=
  ∑ d : Fin 128, (qq X N a (hcol h d) * Ideal.exp (cm X L N a (hcol h d) - cm X L N 32 (hcol h d)))
    * (ky X L N b (hcol h d) * Ideal.exp (cm X L N 32 (hcol h d) - cm X L N b (hcol h d)))

/-- What a chunk adds to the state: keys scaled to the chunk's end against values. -/
def con (N : Fin 512) (h : Fin 4) (d e : Fin 128) : EReal :=
  ∑ s : Fin 64, (ky X L N s (hcol h d) * Ideal.exp (cm X L N 63 (hcol h d) - cm X L N s (hcol h d)))
    * X (rowN N s) (colN 2 (hcol h e))

/-- The state of sequence `b` before its chunk `n`: zero, then decayed and added to chunk after chunk. -/
def st (b : Fin 2) : ℕ → Fin 4 → Fin 128 → Fin 128 → EReal
  | 0 => fun _ _ _ => 0
  | n + 1 => fun h d e => Ideal.exp (cm X L (chk b n) 63 (hcol h d)) * st b n h d e + con X L (chk b n) h d e

/-- A chunk's mix: the masked scores against the values, plus the scaled query against the state. -/
def mix (b : Fin 2) (n : ℕ) (h : Fin 4) (c : Fin 64) (e : Fin 128) : EReal :=
  (∑ s : Fin 64, (if s ≤ c then sc X L (chk b n) h c s else 0) * X (rowN (chk b n) s) (colN 2 (hcol h e)))
    + ∑ d : Fin 128, (qq X (chk b n) c (hcol h d) * Ideal.exp (cm X L (chk b n) c (hcol h d))) * st X L b n h d e

/-- A row normalised by its root mean square, weighted and gated. -/
def fin (o g : Fin 128 → EReal) (e : Fin 128) : EReal :=
  o e * Ideal.rsqrt (Ideal.div (∑ k : Fin 128, o k * o k) (Ideal.ofBits .f32 0x43000000#32) + Ideal.ofBits .f32 0x358637BD#32)
    * W e * (g e * Ideal.logistic (g e))

/-- The output at row `c` of chunk `n` of sequence `b`, column `e` of head `h`. -/
def out (b : Fin 2) (n : ℕ) (h : Fin 4) (c : Fin 64) (e : Fin 128) : EReal :=
  fin W (mix X L b n h c) (fun k => X (rowN (chk b n) c) (colN 3 (hcol h k))) e

/-! ## Where the values are finite -/

theorem sig_bot : Ideal.logistic ⊥ = 0 := by
  unfold Ideal.logistic
  rw [EReal.neg_bot]
  show Ideal.div 1 (1 + ⊤) = 0
  have h : (1 : EReal) + ⊤ = ⊤ := EReal.coe_add_top 1
  rw [h]; unfold Ideal.div
  simp

theorem sig_top : Ideal.logistic ⊤ = 1 := by
  unfold Ideal.logistic
  rw [EReal.neg_top]
  show Ideal.div 1 (1 + 0) = 1
  unfold Ideal.div
  rw [add_zero, if_neg one_ne_zero]
  have h : (1 : EReal)⁻¹ = 1 := by
    show ((1 : ℝ) : EReal)⁻¹ = _
    rw [← EReal.coe_inv, inv_one]; rfl
  rw [h, one_mul]

/-- The sigmoid of any extended real is a real between 0 and 1, and that of its negative the rest to 1. -/
theorem sig_real (z : EReal) : ∃ r : ℝ, 0 ≤ r ∧ r ≤ 1 ∧ Ideal.logistic z = r ∧ Ideal.logistic (-z) = ((1 - r : ℝ) : EReal) := by
  induction z using EReal.rec with
  | bot =>
    exact ⟨0, le_refl _, zero_le_one, sig_bot, by rw [EReal.neg_bot, sig_top, sub_zero]; rfl⟩
  | top =>
    exact ⟨1, zero_le_one, le_refl _, sig_top, by rw [EReal.neg_top, sig_bot, sub_self]; rfl⟩
  | coe x =>
    have key : ∀ y : ℝ, Ideal.logistic (y : EReal) = (((1 + Real.exp (-y))⁻¹ : ℝ) : EReal) := fun y => by
      have hp : (0 : ℝ) < 1 + Real.exp (-y) := by positivity
      have h1 : (1 : EReal) + Ideal.exp (-(y : EReal)) = ((1 + Real.exp (-y) : ℝ) : EReal) := by
        rw [← EReal.coe_neg]; show (1 : EReal) + ((Real.exp (-y) : ℝ) : EReal) = _
        rw [EReal.coe_add]; rfl
      unfold Ideal.logistic Ideal.div
      rw [h1, if_neg (by exact_mod_cast hp.ne'), one_mul, ← EReal.coe_inv]
    refine ⟨(1 + Real.exp (-x))⁻¹, by positivity, ?_, key x, ?_⟩
    · exact inv_le_one_of_one_le₀ (by linarith [Real.exp_pos (-x)])
    · rw [← EReal.coe_neg, key]
      congr 1
      rw [neg_neg, Real.exp_neg]
      have := Real.exp_pos x
      field_simp
      ring

/-- One minus the sigmoid is the sigmoid of the negative. -/
theorem one_sub_sig (z : EReal) : 1 - Ideal.logistic z = Ideal.logistic (-z) := by
  obtain ⟨r, -, -, h1, h2⟩ := sig_real z
  rw [h1, h2, EReal.coe_sub]; rfl

/-- The lower bound strictly above 0 and at most 1. -/
def Unit01 (L : Fin 512 → EReal) : Prop := ∀ k, 0 < L k ∧ L k ≤ 1

variable {L}

theorem Unit01.real (hL : Unit01 L) (k : Fin 512) : ∃ l : ℝ, 0 < l ∧ l ≤ 1 ∧ L k = l := by
  obtain ⟨h0, h1⟩ := hL k
  have ht : L k ≠ ⊤ := fun h => by rw [h] at h1; exact absurd h1 (by decide)
  have hb : L k ≠ ⊥ := fun h => by rw [h] at h0; exact absurd h0 (by decide)
  refine ⟨(L k).toReal, ?_, ?_, (EReal.coe_toReal ht hb).symm⟩
  · rw [← EReal.coe_toReal ht hb] at h0; exact_mod_cast h0
  · rw [← EReal.coe_toReal ht hb] at h1; exact_mod_cast h1

/-- The logarithm of the forget gate is real. -/
theorem lf_real (hL : Unit01 L) (N : Fin 512) (s : Fin 64) (k : Fin 512) : ∃ r : ℝ, lf X L N s k = r := by
  obtain ⟨l, h0, h1, hl⟩ := hL.real k
  obtain ⟨r, r0, r1, hr, -⟩ := sig_real (X (rowN N s) (colN 1 k))
  refine ⟨Real.log (l + (1 - l) * r), ?_⟩
  have e : (l : EReal) + (1 - l) * r = ((l + (1 - l) * r : ℝ) : EReal) := by norm_cast
  have hp : 0 < l + (1 - l) * r := by nlinarith [mul_nonneg (sub_nonneg.mpr h1) r0]
  unfold lf
  rw [hl, hr, e]
  show (if l + (1 - l) * r ≤ 0 then (⊥ : EReal) else _) = _
  rw [if_neg (not_le.mpr hp)]

theorem sum_real {ι : Type} (t : Finset ι) (f : ι → EReal) (hf : ∀ i, ∃ r : ℝ, f i = r) : ∃ r : ℝ, ∑ i ∈ t, f i = r := by
  classical
  induction t using Finset.induction_on with
  | empty => exact ⟨0, rfl⟩
  | insert a t ha ih =>
    obtain ⟨r, hr⟩ := ih
    obtain ⟨q, hq⟩ := hf a
    exact ⟨q + r, by rw [Finset.sum_insert ha, hr, hq]; rfl⟩

/-- The running sum is real. -/
theorem cm_real (hL : Unit01 L) (N : Fin 512) (c : Fin 64) (k : Fin 512) : ∃ r : ℝ, cm X L N c k = r := by
  refine sum_real _ _ fun s => ?_
  split
  · exact lf_real X hL N s k
  · exact ⟨0, rfl⟩

/-- Exponentials of real differences compose. -/
theorem exp_sub_mul (a b c : EReal) (ha : ∃ r : ℝ, a = r) (hb : ∃ r : ℝ, b = r) (hc : ∃ r : ℝ, c = r) :
    Ideal.exp (a - b) * Ideal.exp (c - a) = Ideal.exp (c - b) := by
  obtain ⟨a, rfl⟩ := ha; obtain ⟨b, rfl⟩ := hb; obtain ⟨c, rfl⟩ := hc
  simp only [← EReal.coe_sub]
  show ((Real.exp (a - b) : ℝ) : EReal) * ((Real.exp (c - a) : ℝ) : EReal) = ((Real.exp (c - b) : ℝ) : EReal)
  rw [← EReal.coe_mul, ← Real.exp_add]
  congr 2
  ring

/-- The same from a difference back to its first term. -/
theorem exp_sub_mul_self (a b : EReal) (ha : ∃ r : ℝ, a = r) (hb : ∃ r : ℝ, b = r) : Ideal.exp (a - b) * Ideal.exp b = Ideal.exp a := by
  obtain ⟨a, rfl⟩ := ha; obtain ⟨b, rfl⟩ := hb
  simp only [← EReal.coe_sub]
  show ((Real.exp (a - b) : ℝ) : EReal) * ((Real.exp b : ℝ) : EReal) = ((Real.exp a : ℝ) : EReal)
  rw [← EReal.coe_mul, ← Real.exp_add]
  congr 2
  ring

end Cert.HgrnSpec
end
-- ==== Proof.HgrnPoint.lean ====
/- The recurrence kernel's chunk arithmetic over the reals, read at one index: each of the functions on whole
tiles as a formula in the elements of what it takes. -/
module

public import proofs.«01_k».proof.Proof.HgrnChunk
public import proofs.«01_k».proof.Proof.HgrnSpec
public import Idealize.ShloMosaic.Lib.Pointwise

@[expose] public section

set_option maxRecDepth 16384

noncomputable section

namespace Cert.KernelIdeal.Hgrn

open Cert.KernelIdeal Cert.KernelIdeal.Gen
open Cert.HgrnSpec
open Idealize.ShloMosaic Idealize.ShloMosaic.TcCoe Idealize.ShloMosaic.Tactic

theorem rows_apply (x0 : Vec Ideal S512x2048 .f32) (ci : Fin 8) (b : Fin 2) (s : Fin 64) (k : Fin 512) :
    rows (View.ld x0) ci b (ix2 s k) = x0 (ix2 ⟨64 * ci.val + s.val, by omega⟩ ⟨512 * b.val + k.val, by omega⟩) := by
  pointwise [rows]

theorem rowsH_apply (x0 : Vec Ideal S512x2048 .f32) (ci : Fin 8) (b : Fin 2) (h : Fin 4) (s : Fin 64) (d : Fin 128) :
    rowsH (View.ld x0) ci b h (ix2 s d)
      = x0 (ix2 ⟨64 * ci.val + s.val, by omega⟩ ⟨1024 + 512 * b.val + 128 * h.val + d.val, by omega⟩) := by
  pointwise [rowsH]

theorem colH_apply {e : FTy} (h : Fin 4) (x : FVec Ideal S64x512 e) (s : Fin 64) (d : Fin 128) :
    colH h x (ix2 s d) = x (ix2 s (hcol h d)) := by
  pointwise [colH, hcol]

theorem logF_apply (x1 : Vec Ideal S1x512 .f32) (z : Vec Ideal S64x512 .f32) (s : Fin 64) (k : Fin 512) :
    logF x1 z (ix2 s k) = Ideal.log (x1 (ix2 0 k) + (1 - x1 (ix2 0 k)) * Ideal.logistic (z (ix2 s k))) := by
  pointwise [logF, lbRow, lbCo]

theorem keyOf_apply (x1 : Vec Ideal S1x512 .f32) (z : Vec Ideal S64x512 .f32) (s : Fin 64) (k : Fin 512) :
    keyOf x1 z (ix2 s k) = (1 - x1 (ix2 0 k)) * (1 - Ideal.logistic (z (ix2 s k))) := by
  pointwise [keyOf, lbRow, lbCo]

theorem causalM_apply (c s : Fin 64) : causalM (ix2 c s) = if s ≤ c then 1#1 else 0#1 := by
  pointwise [causalM]
  revert c s
  decide +kernel

theorem trilDot_apply (x : FVec Ideal S64x512 .bf16) (c : Fin 64) (k : Fin 512) :
    trilDot x (ix2 c k) = ∑ s : Fin 64, trilM (F := Ideal) (ix2 c s) * x (ix2 s k) := by
  pointwise [trilDot]

theorem siluOf_apply (x : Vec Ideal S64x512 .f32) (s : Fin 64) (k : Fin 512) :
    siluOf x (ix2 s k) = x (ix2 s k) * Ideal.logistic (x (ix2 s k)) := by
  pointwise [siluOf]

theorem qa_apply (q : Vec Ideal S64x512 .f32) (c : FVec Ideal S64x512 .f32) (s : Fin 64) (k : Fin 512) :
    qa q c (ix2 s k) = q (ix2 s k) * Ideal.logistic (q (ix2 s k)) * Ideal.exp (c (ix2 s k) - c (ix2 32 k)) := by
  pointwise [qa, siluOf, rep, midOf]

theorem kb_apply (k0 c : FVec Ideal S64x512 .f32) (s : Fin 64) (k : Fin 512) :
    kb k0 c (ix2 s k) = k0 (ix2 s k) * Ideal.exp (c (ix2 32 k) - c (ix2 s k)) := by
  pointwise [kb, rep, midOf]

theorem qi_apply (q : Vec Ideal S64x512 .f32) (c : FVec Ideal S64x512 .f32) (s : Fin 64) (k : Fin 512) :
    qi q c (ix2 s k) = qa q c (ix2 s k) * Ideal.exp (c (ix2 32 k)) := by
  pointwise [qi, rep, midOf]

theorem kc_apply (k0 c : FVec Ideal S64x512 .f32) (s : Fin 64) (k : Fin 512) :
    kc k0 c (ix2 s k) = kb k0 c (ix2 s k) * Ideal.exp (c (ix2 63 k) - c (ix2 32 k)) := by
  pointwise [kc, rep, midOf, lastOf]

theorem scoreOf_apply (q : Vec Ideal S64x512 .f32) (k0 c : FVec Ideal S64x512 .f32) (h : Fin 4) (a b : Fin 64) :
    scoreOf q k0 c h (ix2 a b) = ∑ d : Fin 128, qa q c (ix2 a (hcol h d)) * kb k0 c (ix2 b (hcol h d)) := by
  pointwise [scoreOf, colH, hcol]

theorem conOf_apply (v : Vec Ideal S64x128 .f32) (k0 c : FVec Ideal S64x512 .f32) (h : Fin 4) (e d : Fin 128) :
    conOf v k0 c h (ix2 e d) = ∑ s : Fin 64, v (ix2 s e) * kc k0 c (ix2 s (hcol h d)) := by
  pointwise [conOf, colH, hcol]

theorem stepOf_apply (c : FVec Ideal S64x512 .f32) (con : FVec Ideal S128x128 .f32) (h : Fin 4) (st : FVec Ideal S128x128 .f32)
    (e d : Fin 128) :
    stepOf c con h st (ix2 e d) = Ideal.exp (c (ix2 63 (hcol h d))) * st (ix2 e d) + con (ix2 e d) := by
  pointwise [stepOf, lastOf, hcol]

theorem interOf_apply (q : Vec Ideal S64x512 .f32) (c : FVec Ideal S64x512 .f32) (h : Fin 4) (st : FVec Ideal S128x128 .f32)
    (s : Fin 64) (e : Fin 128) :
    interOf q c h st (ix2 s e) = ∑ d : Fin 128, qi q c (ix2 s (hcol h d)) * st (ix2 e d) := by
  pointwise [interOf, colH, hcol]

theorem mixOf_apply (sc : FVec Ideal S64x64 .f32) (v : Vec Ideal S64x128 .f32) (oi : FVec Ideal S64x128 .f32) (c : Fin 64) (e : Fin 128) :
    mixOf sc v oi (ix2 c e) = (∑ s : Fin 64, Scalar.select (causalM (ix2 c s)) (sc (ix2 c s)) (0 : EReal) * v (ix2 s e)) + oi (ix2 c e) := by
  pointwise [mixOf]

theorem normOf_apply (o : FVec Ideal S64x128 .f32) (nw : Vec Ideal S1x128 .f32) (g : Vec Ideal S64x128 .f32) (s : Fin 64) (e : Fin 128) :
    normOf o nw g (ix2 s e) = o (ix2 s e) * Ideal.rsqrt (Ideal.div (∑ k : Fin 128, o (ix2 s k) * o (ix2 s k)) (Ideal.ofBits .f32 0x43000000#32)
      + Ideal.ofBits .f32 0x358637BD#32) * nw (ix2 0 e) * (g (ix2 s e) * Ideal.logistic (g (ix2 s e))) := by
  pointwise [normOf]

end Cert.KernelIdeal.Hgrn
end
-- ==== Proof.HgrnValue.lean ====
/- The recurrence kernel's output block over the reals is the recurrence's formula: chunk by chunk, head by head,
each operand the kernel forms is the formula's. -/
module

public import proofs.«01_k».proof.Proof.HgrnPoint
public import proofs.«01_k».proof.Proof.HgrnBlock

@[expose] public section

set_option maxRecDepth 16384

noncomputable section

namespace Cert.KernelIdeal.Hgrn

open Cert.KernelIdeal Cert.KernelIdeal.Gen
open Cert.HgrnSpec
open Idealize.ShloMosaic Idealize.ShloMosaic.TcCoe Idealize.ShloMosaic.Tactic

/-! ## The running sum -/

theorem trilM_apply (c s : Fin 64) : trilM (F := Ideal) (ix2 c s) = if s ≤ c then (1 : EReal) else 0 := by
  have h := causalM_apply c s
  pointwise [trilM]
  rw [h]
  split
  · show (((BitVec.setWidth 32 1#1).toInt : ℝ) : EReal) = 1
    rw [show (BitVec.setWidth 32 1#1).toInt = 1 from by decide]; norm_num
  · show (((BitVec.setWidth 32 0#1).toInt : ℝ) : EReal) = 0
    rw [show (BitVec.setWidth 32 0#1).toInt = 0 from by decide]; norm_num

/-- The triangle times the parts of a real-valued chunk is its running sum: only the first part is not zero. -/
theorem cumOf_apply (x : FVec Ideal S64x512 .f32) (hx : ∀ s k, ∃ r : ℝ, x (ix2 s k) = (r : EReal)) (c : Fin 64) (k : Fin 512) :
    cumOf x (ix2 c k) = ∑ s : Fin 64, if s ≤ c then x (ix2 s k) else 0 := by
  have h1 : ∀ s, hiOf x (ix2 s k) = x (ix2 s k) := fun s => by pointwise [hiOf]
  have h2 : ∀ s, hiOf (resOf x) (ix2 s k) = (0 : EReal) := fun s => by
    obtain ⟨r, hr⟩ := hx s k
    pointwise [hiOf, resOf]
    rw [hr, ← EReal.coe_sub, sub_self]; rfl
  have h3 : ∀ s, hiOf (resOf (resOf x)) (ix2 s k) = (0 : EReal) := fun s => by
    obtain ⟨r, hr⟩ := hx s k
    pointwise [hiOf, resOf]
    rw [hr, ← EReal.coe_sub, ← EReal.coe_sub, sub_self]; rfl
  show trilDot (hiOf x) (ix2 c k) + trilDot (hiOf (resOf x)) (ix2 c k) + trilDot (hiOf (resOf (resOf x))) (ix2 c k) = _
  rw [trilDot_apply, trilDot_apply, trilDot_apply]
  simp only [h1, h2, h3, trilM_apply, mul_zero, Finset.sum_const_zero, add_zero, ite_mul, one_mul, zero_mul]

/-! ## A block, from what it holds -/

/-- Chunk `ci` of block `t`. -/
def chT (t : Fin 64) (ci : Fin 8) : Fin 512 := ⟨8 * t.val + ci.val, by omega⟩

/-- Row `r` of block `t`. -/
def rowT (t : Fin 64) (r : Fin 512) : Fin 32768 := ⟨512 * t.val + r.val, by omega⟩

section Block

variable (X : Fin 32768 → Fin 2048 → EReal) (L : Fin 512 → EReal) (W : Fin 128 → EReal)
variable (x0 : Vec Ideal S512x2048 .f32) (x1 : Vec Ideal S1x512 .f32) (x2 : Vec Ideal S1x128 .f32) (t : Fin 64)
variable (h0 : ∀ (r : Fin 512) (k : Fin 2048), x0 (ix2 r k) = X (rowT t r) k)
variable (h1 : ∀ k : Fin 512, x1 (ix2 0 k) = L k) (h2 : ∀ k : Fin 128, x2 (ix2 0 k) = W k)

include h0

theorem rows_q (ci : Fin 8) (s : Fin 64) (k : Fin 512) : rows (View.ld x0) ci 0 (ix2 s k) = X (rowN (chT t ci) s) (colN 0 k) := by
  rw [rows_apply, h0]
  congr 1 <;> apply Fin.ext <;> simp [rowN, rowT, chT, colN] <;> omega

theorem rows_f (ci : Fin 8) (s : Fin 64) (k : Fin 512) : rows (View.ld x0) ci 1 (ix2 s k) = X (rowN (chT t ci) s) (colN 1 k) := by
  rw [rows_apply, h0]
  congr 1 <;> apply Fin.ext <;> simp [rowN, rowT, chT, colN] <;> omega

theorem rows_v (ci : Fin 8) (h : Fin 4) (s : Fin 64) (d : Fin 128) :
    rowsH (View.ld x0) ci 0 h (ix2 s d) = X (rowN (chT t ci) s) (colN 2 (hcol h d)) := by
  rw [rowsH_apply, h0]
  congr 1 <;> apply Fin.ext <;> simp [rowN, rowT, chT, colN, hcol] <;> omega

theorem rows_g (ci : Fin 8) (h : Fin 4) (s : Fin 64) (d : Fin 128) :
    rowsH (View.ld x0) ci 1 h (ix2 s d) = X (rowN (chT t ci) s) (colN 3 (hcol h d)) := by
  rw [rowsH_apply, h0]
  congr 1 <;> apply Fin.ext <;> simp [rowN, rowT, chT, colN, hcol] <;> omega

include h1

theorem logF_eq (ci : Fin 8) (s : Fin 64) (k : Fin 512) :
    logF x1 (rows (View.ld x0) ci 1) (ix2 s k) = lf X L (chT t ci) s k := by
  rw [logF_apply, rows_f X x0 t h0, h1]; rfl

theorem keyOf_eq (ci : Fin 8) (s : Fin 64) (k : Fin 512) :
    keyOf x1 (rows (View.ld x0) ci 1) (ix2 s k) = ky X L (chT t ci) s k := by
  rw [keyOf_apply, rows_f X x0 t h0, h1, one_sub_sig]; rfl

variable (hL : Unit01 L)
include hL

theorem cumC_eq (ci : Fin 8) (c : Fin 64) (k : Fin 512) : cumC (View.ld x0) x1 ci (ix2 c k) = cm X L (chT t ci) c k := by
  unfold cumC
  rw [cumOf_apply _ (fun s k => by rw [logF_eq X L x0 x1 t h0 h1]; exact lf_real X hL _ _ _)]
  simp only [logF_eq X L x0 x1 t h0 h1]; rfl

/-- The key scaled to the chunk's end. -/
theorem kc_eq (ci : Fin 8) (s : Fin 64) (k : Fin 512) :
    kc (keyOf x1 (rows (View.ld x0) ci 1)) (cumC (View.ld x0) x1 ci) (ix2 s k)
      = ky X L (chT t ci) s k * Ideal.exp (cm X L (chT t ci) 63 k - cm X L (chT t ci) s k) := by
  rw [kc_apply, kb_apply, keyOf_eq X L x0 x1 t h0 h1]
  simp only [cumC_eq X L x0 x1 t h0 h1 hL]
  rw [mul_assoc, exp_sub_mul _ _ _ (cm_real X hL _ _ _) (cm_real X hL _ _ _) (cm_real X hL _ _ _)]

/-- The query scaled from the chunk's start. -/
theorem qi_eq (ci : Fin 8) (s : Fin 64) (k : Fin 512) :
    qi (rows (View.ld x0) ci 0) (cumC (View.ld x0) x1 ci) (ix2 s k)
      = qq X (chT t ci) s k * Ideal.exp (cm X L (chT t ci) s k) := by
  rw [qi_apply, qa_apply, rows_q X x0 t h0]
  simp only [cumC_eq X L x0 x1 t h0 h1 hL]
  rw [mul_assoc, exp_sub_mul_self _ _ (cm_real X hL _ _ _) (cm_real X hL _ _ _)]; rfl

/-- The scores. -/
theorem score_eq (ci : Fin 8) (h : Fin 4) (a b : Fin 64) :
    scoreOf (rows (View.ld x0) ci 0) (keyOf x1 (rows (View.ld x0) ci 1)) (cumC (View.ld x0) x1 ci) h (ix2 a b)
      = sc X L (chT t ci) h a b := by
  rw [scoreOf_apply]
  simp only [qa_apply, kb_apply, rows_q X x0 t h0, keyOf_eq X L x0 x1 t h0 h1, cumC_eq X L x0 x1 t h0 h1 hL]; rfl

/-- One step of a head's state. -/
theorem stepC_eq (ci : Fin 8) (h : Fin 4) (u : FVec Ideal S128x128 .f32) (S : Fin 128 → Fin 128 → EReal)
    (hu : ∀ e d, u (ix2 e d) = S d e) (e d : Fin 128) :
    stepC (View.ld x0) x1 ci h u (ix2 e d)
      = Ideal.exp (cm X L (chT t ci) 63 (hcol h d)) * S d e + con X L (chT t ci) h d e := by
  unfold stepC
  rw [stepOf_apply, conOf_apply, hu]
  simp only [kc_eq X L x0 x1 t h0 h1 hL, cumC_eq X L x0 x1 t h0 h1 hL, rows_v X x0 t h0]
  congr 1
  exact Finset.sum_congr rfl fun s _ => mul_comm _ _

/-- A head's state after `n` chunks of a group, when before the group it is the recurrence's state before chunk `j`. -/
theorem chainG_eq (b : Fin 2) (g : Fin 2) (h : Fin 4) (w : Vec Ideal S1x128x128 .f32) (j : ℕ) (hj : 256 * b.val + j = 8 * t.val + 4 * g.val)
    (hw : ∀ e d, w (ix3 0 e d) = st X L b j h d e) : ∀ n ≤ 4, ∀ e d, chainG (View.ld x0) x1 g h w n (ix2 e d) = st X L b (j + n) h d e
  | 0, _, e, d => by
    show shapeCast S128x128 w _ (ix2 e d) = _
    pointwise
    exact hw e d
  | n + 1, hn, e, d => by
    have hc : chT t (chunkAt g n) = chk b (j + n) := by
      apply Fin.ext; simp only [chT, chunkAt, chk]; omega
    show stepC (View.ld x0) x1 (chunkAt g n) h _ (ix2 e d) = _
    rw [stepC_eq X L x0 x1 t h0 h1 hL (chunkAt g n) h _ (fun d e => st X L b (j + n) h d e)
      (chainG_eq b g h w j hj hw n (by omega)), hc]
    rfl

/-- What a head holds after a group. -/
theorem groupOut_eq (b : Fin 2) (g : Fin 2) (h : Fin 4) (w : Vec Ideal S1x128x128 .f32) (j : ℕ) (hj : 256 * b.val + j = 8 * t.val + 4 * g.val)
    (hw : ∀ e d, w (ix3 0 e d) = st X L b j h d e) (e d : Fin 128) :
    groupOut (View.ld x0) x1 g h w (ix3 0 e d) = st X L b (j + 4) h d e := by
  rw [← chainG_eq X L x0 x1 t h0 h1 hL b g h w j hj hw 4 (le_refl _) e d]
  pointwise [groupOut]

include h2 in
/-- The output tile of chunk `n` of group `g`, head `h`. -/
theorem tileOf_eq (b : Fin 2) (w : Fin 2 → Fin 4 → Vec Ideal S1x128x128 .f32) (g : Fin 2) (n : ℕ) (hn : n < 4) (h : Fin 4)
    (j : ℕ) (hj : 256 * b.val + j = 8 * t.val + 4 * g.val)
    (hw : ∀ e d, w g h (ix3 0 e d) = st X L b j h d e) (s : Fin 64) (e : Fin 128) :
    tileOf (View.ld x0) x1 x2 w g n h (ix2 s e) = out X L W b (j + n) h s e := by
  have hc : chT t (chunkAt g n) = chk b (j + n) := by
    apply Fin.ext; simp only [chT, chunkAt, chk]; omega
  have hm : ∀ e, mixOf (scoreOf (rows (View.ld x0) (chunkAt g n) 0) (keyOf x1 (rows (View.ld x0) (chunkAt g n) 1)) (cumC (View.ld x0) x1 (chunkAt g n)) h)
      (rowsH (View.ld x0) (chunkAt g n) 0 h)
      (interOf (rows (View.ld x0) (chunkAt g n) 0) (cumC (View.ld x0) x1 (chunkAt g n)) h (chainG (View.ld x0) x1 g h (w g h) n)) (ix2 s e)
      = mix X L b (j + n) h s e := fun e => by
    rw [mixOf_apply, interOf_apply]
    simp only [qi_eq X L x0 x1 t h0 h1 hL, chainG_eq X L x0 x1 t h0 h1 hL b g h (w g h) j hj hw n hn.le, rows_v X x0 t h0,
      score_eq X L x0 x1 t h0 h1 hL, causalM_apply, hc]
    unfold mix
    congr 1
    refine Finset.sum_congr rfl fun s' _ => ?_
    congr 1
    split <;> rfl
  unfold tileOf
  rw [normOf_apply]
  simp only [hm, rows_g X x0 t h0, hc, h2]
  rfl

/-! ## The output block and the state after it -/

omit h0 h1 hL in
theorem stHead_apply (v : Vec Ideal S4x128x128 .f32) (h : Fin 4) (e d : Fin 128) : stHead v h (ix3 0 e d) = v (ix3 h e d) := by
  pointwise [stHead]

/-- Every head's state before a group, when before the block it is the recurrence's state before chunk `j`. -/
theorem stIn_eq (b : Fin 2) (v : Vec Ideal S4x128x128 .f32) (j : ℕ) (hj : 256 * b.val + j = 8 * t.val)
    (hv : ∀ h e d, v (ix3 h e d) = st X L b j h d e) (g : Fin 2) (h : Fin 4) (e d : Fin 128) :
    stIn (View.ld x0) x1 v g h (ix3 0 e d) = st X L b (j + 4 * g.val) h d e := by
  match g with
  | 0 => exact (stHead_apply v h e d).trans (hv h e d)
  | 1 => exact groupOut_eq X L x0 x1 t h0 h1 hL b 0 h _ j (by simpa using hj) (fun e d => (stHead_apply v h e d).trans (hv h e d)) e d

/-- The state after the block. -/
theorem stOf_eq (b : Fin 2) (v : Vec Ideal S4x128x128 .f32) (j : ℕ) (hj : 256 * b.val + j = 8 * t.val)
    (hv : ∀ h e d, v (ix3 h e d) = st X L b j h d e) (h : Fin 4) (e d : Fin 128) :
    stOf x0 x1 v (ix3 h e d) = st X L b (j + 8) h d e :=
  groupOut_eq X L x0 x1 t h0 h1 hL b 1 h _ (j + 4) (by simp; omega)
    (fun e d => stIn_eq X L x0 x1 t h0 h1 hL b v j hj hv 1 h e d) e d

include h2 in
/-- The output block. -/
theorem outOf_eq (b : Fin 2) (v : Vec Ideal S4x128x128 .f32) (j : ℕ) (hj : 256 * b.val + j = 8 * t.val)
    (hv : ∀ h e d, v (ix3 h e d) = st X L b j h d e) (r k : Fin 512) :
    outOf x0 x1 x2 v (ix2 r k) = out X L W b (j + r.val / 64) ⟨k.val / 128, by omega⟩ ⟨r.val % 64, Nat.mod_lt _ (by decide)⟩
      ⟨k.val % 128, Nat.mod_lt _ (by decide)⟩ := by
  have e := tileOf_eq X L W x0 x1 x2 t h0 h1 h2 hL b (stIn (View.ld x0) x1 v) ⟨r.val / 256, by omega⟩ (r.val / 64 % 4)
    (Nat.mod_lt _ (by decide)) ⟨k.val / 128, by omega⟩ (j + 4 * (r.val / 256)) (by simp; omega)
    (fun e d => stIn_eq X L x0 x1 t h0 h1 hL b v j hj hv _ _ e d) ⟨r.val % 64, Nat.mod_lt _ (by decide)⟩ ⟨k.val % 128, Nat.mod_lt _ (by decide)⟩
  rw [show j + 4 * (r.val / 256) + r.val / 64 % 4 = j + r.val / 64 from by omega] at e
  exact e

end Block

end Cert.KernelIdeal.Hgrn
end
-- ==== Proof.HgrnKernel.lean ====
/- The recurrence kernel's output array over the reals, at every index, is the recurrence's formula in its three
arguments, when the lower bound is above 0 and at most 1. -/
module

public import proofs.«01_k».proof.Proof.HgrnRun
public import proofs.«01_k».proof.Proof.HgrnValue

@[expose] public section

set_option maxRecDepth 16384

noncomputable section

namespace Cert.KernelIdeal.Hgrn

open Cert.KernelIdeal Cert.KernelIdeal.Gen
open Cert.HgrnSpec
open Idealize.ShloMosaic Idealize.ShloMosaic.TcCoe Idealize.ShloMosaic.Tactic

variable (m : (ℓ : Loc nD τ sig) → Buf (Elt Ideal) ℓ) (c : Dev nD)

/-- The projection, the lower bound and the weight as the run finds them. -/
def aX (r : Fin 32768) (k : Fin 2048) : EReal := m ((c : Thread nD τ).loc main_arg0) (ix2 r k)

@[inherit_doc aX]
def aL (k : Fin 512) : EReal := m ((c : Thread nD τ).loc main_arg1) (ix1 k)

@[inherit_doc aX]
def aW (k : Fin 128) : EReal := m ((c : Thread nD τ).loc main_arg2) (ix1 k)

theorem zeroState (h : Fin 4) (e d : Fin 128) : (k0_pay2 (F := Ideal)) (ix3 h e d) = (0 : EReal) := by
  pointwise [k0_pay2]

variable (hL : Unit01 (aL m c))

theorem blk0_apply (t : Fin cfg0.N) (r : Fin 512) (k : Fin 2048) :
    (iblk m c 0 t : Vec Ideal S512x2048 .f32) (ix2 r k)
      = aX m c (rowT (t.cast N_0) r) k :=
  iblk0 m c t (ix2 r k)

include hL

/-- The carried state after a point, from the one before it. -/
theorem stAt_step (t : Fin cfg0.N) (b : Fin 2) (j : ℕ) (hj : 256 * b.val + j = 8 * t.val)
    (hv : ∀ h e d, stBefore m c t (ix3 h e d) = st (aX m c) (aL m c) b j h d e) (h : Fin 4) (e d : Fin 128) :
    stAt m c t.val t.isLt (ix3 h e d) = st (aX m c) (aL m c) b (j + 8) h d e := by
  rw [stAt_eq]
  exact stOf_eq (aX m c) (aL m c) (iblk m c 0 t) (iblk m c 1 t) (t.cast N_0) (blk0_apply m c t) (iblk1 m c t) hL b
    (stBefore m c t) j hj hv h e d

omit hL in
theorem stBefore_first (t : Fin cfg0.N) (hz : t.val % 32 = 0) : stBefore m c t = k0_pay2 (F := Ideal) := if_pos hz

omit hL in
theorem stBefore_next (n : ℕ) (hn : n + 1 < cfg0.N) (hz : (n + 1) % 32 ≠ 0) :
    stBefore m c ⟨n + 1, hn⟩ = stAt m c n (Nat.lt_of_succ_lt hn) := if_neg hz

/-- The state a point starts from: the recurrence's state of its sequence before the point's first chunk. -/
theorem stBefore_value (b : Fin 2) (i : ℕ) (n : ℕ) (hn : n < cfg0.N) (hni : n = 32 * b.val + i) (hi : i < 32) :
    ∀ (h : Fin 4) (e d : Fin 128), stBefore m c ⟨n, hn⟩ (ix3 h e d) = st (aX m c) (aL m c) b (8 * i) h d e := by
  induction i generalizing n with
  | zero =>
    intro h e d
    rw [stBefore_first m c ⟨n, hn⟩ (by simp only; omega)]
    exact zeroState h e d
  | succ i ih =>
    intro h e d
    obtain ⟨k, rfl⟩ : ∃ k, n = k + 1 := ⟨n - 1, by omega⟩
    rw [stBefore_next m c k hn (by omega)]
    exact stAt_step m c hL ⟨k, Nat.lt_of_succ_lt hn⟩ b (8 * i) (by simp only; omega)
      (ih k (Nat.lt_of_succ_lt hn) (by omega) (by omega)) h e d

/-- The output array: the recurrence's formula at every index. -/
theorem G3_value (r : Fin 32768) (k : Fin 512) :
    G3 m c (ix2 r k) = out (aX m c) (aL m c) (aW m c) ⟨r.val / 16384, by omega⟩ (r.val / 64 % 256) ⟨k.val / 128, by omega⟩
      ⟨r.val % 64, Nat.mod_lt _ (by decide)⟩ ⟨k.val % 128, Nat.mod_lt _ (by decide)⟩ := by
  have hpt : (ptOf (ix2 r k)).val = r.val / 512 := rfl
  have e := outOf_eq (aX m c) (aL m c) (aW m c) (iblk m c 0 (ptOf (ix2 r k))) (iblk m c 1 (ptOf (ix2 r k))) (iblk m c 2 (ptOf (ix2 r k)))
    ((ptOf (ix2 r k)).cast N_0) (blk0_apply m c _) (iblk1 m c _) (iblk2 m c _) hL ⟨(ptOf (ix2 r k)).val / 32, by rw [hpt]; omega⟩
    (stBefore m c (ptOf (ix2 r k))) (8 * ((ptOf (ix2 r k)).val % 32))
    (by show 256 * ((ptOf (ix2 r k)).val / 32) + 8 * ((ptOf (ix2 r k)).val % 32) = 8 * (ptOf (ix2 r k)).val; omega)
    (stBefore_value m c hL _ ((ptOf (ix2 r k)).val % 32) (ptOf (ix2 r k)).val (ptOf (ix2 r k)).isLt
      (by show (ptOf (ix2 r k)).val = 32 * ((ptOf (ix2 r k)).val / 32) + (ptOf (ix2 r k)).val % 32; omega) (by omega)) ⟨r.val % 512, Nat.mod_lt _ (by decide)⟩ k
  refine e.trans ?_
  have e1 : (⟨(ptOf (ix2 r k)).val / 32, by rw [hpt]; omega⟩ : Fin 2) = ⟨r.val / 16384, by omega⟩ := Fin.ext (by simp only [hpt]; omega)
  have e2 : 8 * ((ptOf (ix2 r k)).val % 32) + r.val % 512 / 64 = r.val / 64 % 256 := by rw [hpt]; omega
  have e3 : (⟨r.val % 512 % 64, Nat.mod_lt _ (by decide)⟩ : Fin 64) = ⟨r.val % 64, Nat.mod_lt _ (by decide)⟩ := Fin.ext (by simp only; omega)
  simp only [e1, e2, e3]

end Cert.KernelIdeal.Hgrn
end
-- ==== Proof.HgrnCumsum.lean ====
/- The reference's running sum along a chunk, at an index: over the reals a window sum padded below by one less than
the window is the sum of the rows up to that one. -/
module

public import Idealize.ShloMosaic.Lib.Pointwise

@[expose] public section

noncomputable section

namespace Cert.HgrnSpec

open Idealize.ShloMosaic

theorem foldl_add_eq_sum {N : ℕ} (g : Fin N → EReal) (v : EReal) :
    (List.finRange N).foldl (fun r n => r + g n) v = v + ∑ n : Fin N, g n := by
  rw [Fin.sum_univ_def]
  generalize List.finRange N = l
  induction l generalizing v with
  | nil => simp
  | cons a l ih => rw [List.foldl_cons, ih, List.map_cons, List.sum_cons, add_assoc]

/-- The positions of a window of 64 along the fourth axis. -/
def winEquiv : Fin 64 ≃ (⟨5, ![1, 1, 1, 64, 1]⟩ : Shape).Idx where
  toFun w := ix5 0 0 0 w 0
  invFun i := i 3
  left_inv _ := rfl
  right_inv i := by
    refine Eq.trans ?_ (eq_ix5 i).symm
    have e : ∀ a b : Fin 1, a = b := fun a b => Subsingleton.elim a b
    show ix5 0 0 0 (i 3) 0 = _
    rw [e (i 0) 0, e (i 1) 0, e (i 2) 0, e (i 4) 0]
    rfl

theorem winEquiv_apply (w : Fin 64) : winEquiv w = ix5 0 0 0 w 0 := rfl

theorem cumsum_apply (x : (⟨5, ![2, 4, 256, 64, 128]⟩ : Shape).Idx → EReal) (v : (⟨0, ![]⟩ : Shape).Idx → EReal)
    (hv : ∀ i, v i = 0) (h : (⟨5, ![2, 4, 256, 64, 128]⟩ : Shape).ReduceWindows ![1, 1, 1, 64, 1] ![1, 1, 1, 1, 1]
      ![0, 0, 0, 63, 0] ![0, 0, 0, 0, 0] ⟨5, ![2, 4, 256, 64, 128]⟩) (hu : 0 < (⟨0, ![]⟩ : Shape).numel)
    (b : Fin 2) (hh : Fin 4) (n : Fin 256) (c : Fin 64) (d : Fin 128) :
    Host.reduceWindow (· + ·) ![1, 1, 1, 64, 1] ![1, 1, 1, 1, 1] ![0, 0, 0, 63, 0] ![0, 0, 0, 0, 0] x v h hu (ix5 b hh n c d)
      = ∑ s : Fin 64, if s ≤ c then x (ix5 b hh n s d) else 0 := by
  unfold Host.reduceWindow
  simp only [hv]
  refine (foldl_add_eq_sum _ 0).trans ?_
  rw [zero_add, ← Equiv.sum_comp (winEquiv.trans (Shape.rowMajor _))]
  have key : ∀ w : Fin 64, (if hin : ∀ a : Fin 5, ![0, 0, 0, 63, 0] a ≤ (ix5 b hh n c d a).val * ![1, 1, 1, 1, 1] a + (winEquiv w a).val ∧
        (ix5 b hh n c d a).val * ![1, 1, 1, 1, 1] a + (winEquiv w a).val - ![0, 0, 0, 63, 0] a < ![2, 4, 256, 64, 128] a
      then x (fun a => ⟨(ix5 b hh n c d a).val * ![1, 1, 1, 1, 1] a + (winEquiv w a).val - ![0, 0, 0, 63, 0] a, (hin a).2⟩) else 0)
      = if hw : 63 ≤ c.val + w.val then x (ix5 b hh n ⟨c.val + w.val - 63, by omega⟩ d) else 0 := by
    intro w
    by_cases hw : 63 ≤ c.val + w.val
    · rw [dif_pos hw, dif_pos]
      · congr 1
        funext a
        fin_cases a <;> apply Fin.ext <;> simp [winEquiv_apply]
      · intro a
        have h0 := b.isLt; have h1 := hh.isLt; have h2 := n.isLt; have h4 := d.isLt
        fin_cases a <;> simp [winEquiv_apply] <;> omega
    · rw [dif_neg hw, dif_neg]
      intro hin
      have := (hin 3).1
      simp [winEquiv_apply] at this
      omega
  refine (Finset.sum_congr rfl fun w _ => ?_).trans ((Finset.sum_congr rfl fun w _ => key w).trans ?_)
  · simp only [Equiv.trans_apply, Equiv.symm_apply_apply]
    rfl
  · have e1 : ∀ w : Fin 64, (if hw : 63 ≤ c.val + w.val then x (ix5 b hh n ⟨c.val + w.val - 63, by omega⟩ d) else 0)
        = if 63 ≤ c.val + w.val then x (ix5 b hh n ⟨(c.val + w.val - 63) % 64, Nat.mod_lt _ (by decide)⟩ d) else 0 := by
      intro w
      by_cases hw : 63 ≤ c.val + w.val
      · rw [dif_pos hw, if_pos hw]
        congr 3; omega
      · rw [dif_neg hw, if_neg hw]
    rw [Finset.sum_congr rfl fun w _ => e1 w, ← Finset.sum_filter, ← Finset.sum_filter]
    refine Finset.sum_nbij' (fun w => ⟨(c.val + w.val - 63) % 64, Nat.mod_lt _ (by decide)⟩)
      (fun s => ⟨(63 + s.val - c.val) % 64, Nat.mod_lt _ (by decide)⟩) ?_ ?_ ?_ ?_ ?_
    · intro w hw; simp only [Finset.mem_filter, Finset.mem_univ, true_and, Fin.le_def] at hw ⊢; omega
    · intro w hw; simp only [Finset.mem_filter, Finset.mem_univ, true_and, Fin.le_def] at hw ⊢; omega
    · intro w hw; simp only [Finset.mem_filter, Finset.mem_univ, true_and, Fin.ext_iff] at hw ⊢; omega
    · intro w hw; simp only [Finset.mem_filter, Finset.mem_univ, true_and, Fin.ext_iff, Fin.le_def] at hw ⊢; omega
    · intro w _; rfl

/-- The same for the reference's own operation. -/
theorem cumsum_add_apply (x : FVec Ideal ⟨5, ![2, 4, 256, 64, 128]⟩ .f32) (v : FVec Ideal ⟨0, ![]⟩ .f32)
    (hv : ∀ i, v i = (0 : EReal)) (h : (⟨5, ![2, 4, 256, 64, 128]⟩ : Shape).ReduceWindows ![1, 1, 1, 64, 1] ![1, 1, 1, 1, 1]
      ![0, 0, 0, 63, 0] ![0, 0, 0, 0, 0] ⟨5, ![2, 4, 256, 64, 128]⟩) (hu : 0 < (⟨0, ![]⟩ : Shape).numel)
    (b : Fin 2) (hh : Fin 4) (n : Fin 256) (c : Fin 64) (d : Fin 128) :
    Host.reduceWindowAdd ![1, 1, 1, 64, 1] ![1, 1, 1, 1, 1] ![0, 0, 0, 63, 0] ![0, 0, 0, 0, 0] x v h hu (ix5 b hh n c d)
      = (∑ s : Fin 64, if s ≤ c then x (ix5 b hh n s d) else 0 : EReal) := by
  unfold Host.reduceWindowAdd
  rw [Ideal.hostReduceWindowAdd_def]
  unfold Ideal.hostReduceWindowAdd
  exact cumsum_apply x (fun _ => v (Shape.Idx.first hu)) (fun _ => hv _) h _ b hh n c d

end Cert.HgrnSpec
end
-- ==== Proof.HgrnRefPre.lean ====
/- The reference over the reals: what its buffers hold before the loop, stretch by stretch, at an index. -/
module

public import proofs.«01_k».proof.Proof.Gen.ReferenceIdeal.Run
public import proofs.«01_k».proof.Proof.HgrnSpec
public import proofs.«01_k».proof.Proof.HgrnCumsum
public import Idealize.ShloMosaic.Lib.StableHlo.ReadAt

@[expose] public section

set_option maxRecDepth 16384

noncomputable section

namespace Cert.ReferenceIdeal.Hgrn

open Cert.ReferenceIdeal Cert.ReferenceIdeal.Gen Cert.ReferenceIdeal.Value
open Cert.HgrnSpec
open Idealize.ShloMosaic Idealize.ShloMosaic.TcCoe Idealize.ShloMosaic.Tactic Idealize.ShloMosaic.StableHlo

variable (V : Valuation τ sig (Elt Ideal))

variable (X : Fin 32768 → Fin 2048 → EReal) (L : Fin 512 → EReal)

/-! ## The gates -/

theorem pre0_v0 (r : Fin 32768) (k : Fin 512) :
    after hostOps0 V (Proc.devRef .tc main_v0) (ix2 r k) = V (Proc.devRef .tc main_arg0) (ix2 r (colN 0 k)) := by
  after_reads_at
  congr 2; apply Fin.ext; simp [colN]

theorem pre0_v2 (r : Fin 32768) (k : Fin 512) :
    after hostOps0 V (Proc.devRef .tc main_v2) (ix2 r k) = V (Proc.devRef .tc main_arg0) (ix2 r (colN 2 k)) := by
  after_reads_at
  rfl

theorem pre0_v3 (r : Fin 32768) (k : Fin 512) :
    after hostOps0 V (Proc.devRef .tc main_v3) (ix2 r k) = V (Proc.devRef .tc main_arg0) (ix2 r (colN 3 k)) := by
  after_reads_at
  rfl

section Gates

variable (hX : ∀ r k, V (Proc.devRef .tc main_arg0) (ix2 r k) = X r k) (hL : ∀ k, V (Proc.devRef .tc main_arg1) (ix1 k) = L k)
include hX hL

theorem pre0_v18 (r : Fin 32768) (k : Fin 512) : after hostOps0 V (Proc.devRef .tc main_v18) (ix2 r k)
    = (Ideal.log (L k + (1 - L k) * Ideal.logistic (X r (colN 1 k))) : EReal) := by
  rw [← hX, ← hL]
  after_reads_at
  rfl

theorem pre0_v30 (r : Fin 32768) (k : Fin 512) : after hostOps0 V (Proc.devRef .tc main_v30) (ix2 r k)
    = ((1 - L k) * Ideal.logistic (-X r (colN 1 k)) : EReal) := by
  rw [← hX, ← hL]
  after_reads_at
  rfl

end Gates

theorem pre1_v31 (q : Fin 32768 → Fin 512 → EReal) (hq : ∀ r k, V (Proc.devRef .tc main_v0) (ix2 r k) = q r k) (r : Fin 32768) (k : Fin 512) :
    after hostOps0_1 V (Proc.devRef .tc main_v31) (ix2 r k) = (q r k * Ideal.logistic (q r k) : EReal) := by
  rw [← hq]
  after_reads_at
  rfl

/-! ## By sequence, head, chunk, row and column -/

theorem row_eq (b : Fin 2) (n : Fin 256) (s : Fin 64) (h : b.val * 16384 + n.val * 64 + s.val < 32768) :
    (⟨b.val * 16384 + n.val * 64 + s.val, h⟩ : Fin 32768) = rowN (chk b n) s :=
  Fin.ext (by simp only [rowN, chk]; omega)

theorem col_eq (h : Fin 4) (d : Fin 128) (hh : h.val * 128 + d.val < 512) : (⟨h.val * 128 + d.val, hh⟩ : Fin 512) = hcol h d :=
  Fin.ext (by simp only [hcol]; omega)

theorem pre2_v33 (b : Fin 2) (h : Fin 4) (n : Fin 256) (s : Fin 64) (d : Fin 128) :
    after hostOps0_2 V (Proc.devRef .tc main_v33) (ix5 b h n s d)
      = V (Proc.devRef .tc main_v31) (ix2 (rowN (chk b n) s) (hcol h d)) := by
  after_reads_at
  rw [row_eq, col_eq]

theorem pre2_v35 (b : Fin 2) (h : Fin 4) (n : Fin 256) (s : Fin 64) (d : Fin 128) :
    after hostOps0_2 V (Proc.devRef .tc main_v35) (ix5 b h n s d)
      = V (Proc.devRef .tc main_v30) (ix2 (rowN (chk b n) s) (hcol h d)) := by
  after_reads_at
  rw [row_eq, col_eq]

theorem pre2_v37 (b : Fin 2) (h : Fin 4) (n : Fin 256) (s : Fin 64) (d : Fin 128) :
    after hostOps0_2 V (Proc.devRef .tc main_v37) (ix5 b h n s d)
      = V (Proc.devRef .tc main_v18) (ix2 (rowN (chk b n) s) (hcol h d)) := by
  after_reads_at
  rw [row_eq, col_eq]

theorem pre2_v39 (b : Fin 2) (h : Fin 4) (n : Fin 256) (s : Fin 64) (d : Fin 128) :
    after hostOps0_2 V (Proc.devRef .tc main_v39) (ix5 b h n s d)
      = V (Proc.devRef .tc main_v2) (ix2 (rowN (chk b n) s) (hcol h d)) := by
  after_reads_at
  rw [row_eq, col_eq]

/-! ## The running sum, the mask and the scores -/

theorem pre3_v40 (f : Fin 2 → Fin 4 → Fin 256 → Fin 64 → Fin 128 → EReal)
    (hf : ∀ b h n s d, V (Proc.devRef .tc main_v37) (ix5 b h n s d) = f b h n s d)
    (b : Fin 2) (h : Fin 4) (n : Fin 256) (c : Fin 64) (d : Fin 128) :
    after hostOps0_3 V (Proc.devRef .tc main_v40) (ix5 b h n c d) = (∑ s : Fin 64, if s ≤ c then f b h n s d else 0 : EReal) := by
  after_reads_simp
  simp -implicitDefEqProofs only [StableHlo.TRef.toBuf, StableHlo.TRef.ofBuf, cast_cast, cast_eq]
  clean_types
  refine (cumsum_add_apply (V (Proc.devRef .tc main_v37)) _ (fun i => ?_) _ h_S_ b h n c d).trans ?_
  · pointwise
  · simp only [hf]

theorem pre4_v41 (b : Fin 2) (h : Fin 4) (n : Fin 256) (d : Fin 128) :
    after hostOps0_4 V (Proc.devRef .tc main_v41) (ix5 b h n 0 d) = V (Proc.devRef .tc main_v40) (ix5 b h n 32 d) := by
  after_reads_at

theorem pre4_v42 (b : Fin 2) (h : Fin 4) (n : Fin 256) (d : Fin 128) :
    after hostOps0_4 V (Proc.devRef .tc main_v42) (ix5 b h n 0 d) = V (Proc.devRef .tc main_v40) (ix5 b h n 63 d) := by
  after_reads_at

theorem pre4_v43 (i j : Fin 64) : after hostOps0_4 V (Proc.devRef .tc main_v43) (ix2 i j) = 1#1 := by
  after_reads_at

theorem mask_word (i j : Fin 64) : Scalar.select (IntOp.cmpi CmpIPredicate.sge (IntOp.addi (BitVec.ofNat 32 i.val) 0#32) (BitVec.ofNat 32 j.val))
    (1#1) 0#1 = if j ≤ i then 1#1 else 0#1 := by
  revert i j; decide +kernel

theorem pre5_v44 (hv : ∀ i j, V (Proc.devRef .tc main_v43) (ix2 i j) = 1#1) (i j : Fin 64) :
    after hostOps0_5 V (Proc.devRef .tc main_v44) (ix2 i j) = if j ≤ i then 1#1 else 0#1 := by
  after_reads_at
  rw [hv]; exact mask_word i j

section Scores

variable (q k cum : Fin 2 → Fin 4 → Fin 256 → Fin 64 → Fin 128 → EReal)
variable (hk : ∀ b h n s d, V (Proc.devRef .tc main_v35) (ix5 b h n s d) = k b h n s d)
variable (hc : ∀ b h n s d, V (Proc.devRef .tc main_v40) (ix5 b h n s d) = cum b h n s d)
include hk hc

theorem pre6_v53 (hq : ∀ b h n s d, V (Proc.devRef .tc main_v33) (ix5 b h n s d) = q b h n s d)
    (hm : ∀ b h n d, V (Proc.devRef .tc main_v41) (ix5 b h n 0 d) = cum b h n 32 d)
    (b : Fin 2) (h : Fin 4) (n : Fin 256) (i j : Fin 64) :
    after hostOps0_6 V (Proc.devRef .tc main_v53) (ix5 b h n i j)
      = (∑ d : Fin 128, (q b h n i d * Ideal.exp (cum b h n i d - cum b h n 32 d))
        * (k b h n j d * Ideal.exp (cum b h n 32 d - cum b h n j d)) : EReal) := by
  simp only [← hq, ← hk, ← hc, ← hm]
  after_reads_at
  simp only [hm, hc]

theorem pre8_v63 (v : Fin 2 → Fin 4 → Fin 256 → Fin 64 → Fin 128 → EReal)
    (hv : ∀ b h n s d, V (Proc.devRef .tc main_v39) (ix5 b h n s d) = v b h n s d)
    (hl : ∀ b h n d, V (Proc.devRef .tc main_v42) (ix5 b h n 0 d) = cum b h n 63 d)
    (n : Fin 256) (b : Fin 2) (h : Fin 4) (d e : Fin 128) :
    after hostOps0_8 V (Proc.devRef .tc main_v69_1) (ix5 n b h d e)
      = (∑ s : Fin 64, (k b h n s d * Ideal.exp (cum b h n 63 d - cum b h n s d)) * v b h n s e : EReal) := by
  after_reads_simp
  simp only [id_eq]
  clean_types
  pointwise
  simp only [hl, hc, hk, hv]

end Scores

theorem pre6_cst : after hostOps0_6 V (Proc.devRef .tc main_cst_5) = fun _ => (0 : EReal) := by
  after_reads_simp
  funext i
  pointwise

theorem pre7_v54 (s : Fin 2 → Fin 4 → Fin 256 → Fin 64 → Fin 64 → EReal)
    (hs : ∀ b h n i j, V (Proc.devRef .tc main_v53) (ix5 b h n i j) = s b h n i j)
    (hm : ∀ i j, V (Proc.devRef .tc main_v44) (ix2 i j) = if j ≤ i then 1#1 else 0#1)
    (h0 : ∀ i, V (Proc.devRef .tc main_cst_5) i = (0 : EReal))
    (b : Fin 2) (h : Fin 4) (n : Fin 256) (i j : Fin 64) :
    after hostOps0_7 V (Proc.devRef .tc main_v54) (ix5 b h n i j) = (if j ≤ i then s b h n i j else 0 : EReal) := by
  after_reads_at
  rw [hm, hs]

  simp only [id_eq, h0]
  split <;> rfl

theorem pre8_v55 (s : Fin 2 → Fin 4 → Fin 256 → Fin 64 → Fin 64 → EReal) (v : Fin 2 → Fin 4 → Fin 256 → Fin 64 → Fin 128 → EReal)
    (hs : ∀ b h n i j, V (Proc.devRef .tc main_v54) (ix5 b h n i j) = s b h n i j)
    (hv : ∀ b h n s d, V (Proc.devRef .tc main_v39) (ix5 b h n s d) = v b h n s d)
    (b : Fin 2) (h : Fin 4) (n : Fin 256) (c : Fin 64) (e : Fin 128) :
    after hostOps0_8 V (Proc.devRef .tc main_v55) (ix5 b h n c e) = (∑ x : Fin 64, s b h n c x * v b h n x e : EReal) := by
  after_reads_at
  simp only [hs, hv]

theorem pre8_q (q cum : Fin 2 → Fin 4 → Fin 256 → Fin 64 → Fin 128 → EReal)
    (hq : ∀ b h n s d, V (Proc.devRef .tc main_v33) (ix5 b h n s d) = q b h n s d)
    (hc : ∀ b h n s d, V (Proc.devRef .tc main_v40) (ix5 b h n s d) = cum b h n s d)
    (n : Fin 256) (b : Fin 2) (h : Fin 4) (c : Fin 64) (d : Fin 128) :
    after hostOps0_8 V (Proc.devRef .tc main_v69_2) (ix5 n b h c d) = (q b h n c d * Ideal.exp (cum b h n c d) : EReal) := by
  after_reads_simp
  simp only [id_eq]
  clean_types
  pointwise
  rw [hq, hc]

theorem pre8_decay (cum : Fin 2 → Fin 4 → Fin 256 → Fin 64 → Fin 128 → EReal)
    (hl : ∀ b h n d, V (Proc.devRef .tc main_v42) (ix5 b h n 0 d) = cum b h n 63 d)
    (n : Fin 256) (b : Fin 2) (h : Fin 4) (d : Fin 128) :
    after hostOps0_8 V (Proc.devRef .tc main_v69_0) (ix4 n b h d) = (Ideal.exp (cum b h n 63 d) : EReal) := by
  rw [← hl]
  after_reads_simp
  simp only [id_eq]
  clean_types
  pointwise

theorem pre8_state (b : Fin 2) (h : Fin 4) (d e : Fin 128) :
    after hostOps0_8 V (Proc.devRef .tc main_v69_4) (ix4 b h d e) = (0 : EReal) := by
  after_reads_simp
  simp only [id_eq]
  clean_types
  pointwise

end Cert.ReferenceIdeal.Hgrn
end
-- ==== Proof.HgrnRefEntry.lean ====
/- The reference over the reals: the buffers at the loop's entry, as the recurrence's formulas in the arguments. -/
module

public import proofs.«01_k».proof.Proof.HgrnRefPre

@[expose] public section

set_option maxRecDepth 16384

noncomputable section

namespace Cert.ReferenceIdeal.Hgrn

open Cert.ReferenceIdeal Cert.ReferenceIdeal.Gen Cert.ReferenceIdeal.Value
open Cert.HgrnSpec
open Idealize.ShloMosaic Idealize.ShloMosaic.TcCoe Idealize.ShloMosaic.Tactic Idealize.ShloMosaic.StableHlo

variable (V : Valuation τ sig (Elt Ideal))

/-! ## The contents after each stretch before the loop -/

def w1 : Valuation τ sig (Elt Ideal) := after hostOps0 V
def w2 : Valuation τ sig (Elt Ideal) := after hostOps0_1 (w1 V)
def w3 : Valuation τ sig (Elt Ideal) := after hostOps0_2 (w2 V)
def w4 : Valuation τ sig (Elt Ideal) := after hostOps0_3 (w3 V)
def w5 : Valuation τ sig (Elt Ideal) := after hostOps0_4 (w4 V)
def w6 : Valuation τ sig (Elt Ideal) := after hostOps0_5 (w5 V)
def w7 : Valuation τ sig (Elt Ideal) := after hostOps0_6 (w6 V)
def w8 : Valuation τ sig (Elt Ideal) := after hostOps0_7 (w7 V)
def w9 : Valuation τ sig (Elt Ideal) := after hostOps0_8 (w8 V)

theorem entry_eq : afterL preI V = w9 V := rfl

theorem keep1 (r : Ref sig .tc) (h : r ∉ hostOps0_W) : w1 V (Proc.devRef .tc r) = V (Proc.devRef .tc r) :=
  after_of_writes_sub hostOps0 _ hostOps0_writes h
theorem keep2 (r : Ref sig .tc) (h : r ∉ hostOps0_1_W) : w2 V (Proc.devRef .tc r) = w1 V (Proc.devRef .tc r) :=
  after_of_writes_sub hostOps0_1 _ hostOps0_1_writes h
theorem keep3 (r : Ref sig .tc) (h : r ∉ hostOps0_2_W) : w3 V (Proc.devRef .tc r) = w2 V (Proc.devRef .tc r) :=
  after_of_writes_sub hostOps0_2 _ hostOps0_2_writes h
theorem keep4 (r : Ref sig .tc) (h : r ∉ hostOps0_3_W) : w4 V (Proc.devRef .tc r) = w3 V (Proc.devRef .tc r) :=
  after_of_writes_sub hostOps0_3 _ hostOps0_3_writes h
theorem keep5 (r : Ref sig .tc) (h : r ∉ hostOps0_4_W) : w5 V (Proc.devRef .tc r) = w4 V (Proc.devRef .tc r) :=
  after_of_writes_sub hostOps0_4 _ hostOps0_4_writes h
theorem keep6 (r : Ref sig .tc) (h : r ∉ hostOps0_5_W) : w6 V (Proc.devRef .tc r) = w5 V (Proc.devRef .tc r) :=
  after_of_writes_sub hostOps0_5 _ hostOps0_5_writes h
theorem keep7 (r : Ref sig .tc) (h : r ∉ hostOps0_6_W) : w7 V (Proc.devRef .tc r) = w6 V (Proc.devRef .tc r) :=
  after_of_writes_sub hostOps0_6 _ hostOps0_6_writes h
theorem keep8 (r : Ref sig .tc) (h : r ∉ hostOps0_7_W) : w8 V (Proc.devRef .tc r) = w7 V (Proc.devRef .tc r) :=
  after_of_writes_sub hostOps0_7 _ hostOps0_7_writes h
theorem keep9 (r : Ref sig .tc) (h : r ∉ hostOps0_8_W) : w9 V (Proc.devRef .tc r) = w8 V (Proc.devRef .tc r) :=
  after_of_writes_sub hostOps0_8 _ hostOps0_8_writes h

/-- What no stretch before the loop writes is as the run found it. -/
theorem entry_keep (r : Ref sig .tc) (h : r ∉ hostOps0_W ++ hostOps0_1_W ++ hostOps0_2_W ++ hostOps0_3_W ++ hostOps0_4_W ++ hostOps0_5_W
    ++ hostOps0_6_W ++ hostOps0_7_W ++ hostOps0_8_W) : w9 V (Proc.devRef .tc r) = V (Proc.devRef .tc r) := by
  simp only [List.mem_append, not_or] at h
  obtain ⟨⟨⟨⟨⟨⟨⟨⟨h1, h2⟩, h3⟩, h4⟩, h5⟩, h6⟩, h7⟩, h8⟩, h9⟩ := h
  rw [keep9 V r h9, keep8 V r h8, keep7 V r h7, keep6 V r h6, keep5 V r h5, keep4 V r h4, keep3 V r h3, keep2 V r h2, keep1 V r h1]

/-! ## The recurrence's quantities -/

variable (X : Fin 32768 → Fin 2048 → EReal) (L : Fin 512 → EReal)
variable (hX : ∀ r k, V (Proc.devRef .tc main_arg0) (ix2 r k) = X r k) (hL : ∀ k, V (Proc.devRef .tc main_arg1) (ix1 k) = L k)

abbrev fq (b : Fin 2) (h : Fin 4) (n : Fin 256) (s : Fin 64) (d : Fin 128) : EReal := qq X (chk b n) s (hcol h d)
abbrev fk (b : Fin 2) (h : Fin 4) (n : Fin 256) (s : Fin 64) (d : Fin 128) : EReal := ky X L (chk b n) s (hcol h d)
abbrev fv (b : Fin 2) (h : Fin 4) (n : Fin 256) (s : Fin 64) (d : Fin 128) : EReal := X (rowN (chk b n) s) (colN 2 (hcol h d))
abbrev fc (b : Fin 2) (h : Fin 4) (n : Fin 256) (s : Fin 64) (d : Fin 128) : EReal := cm X L (chk b n) s (hcol h d)
abbrev fs (b : Fin 2) (h : Fin 4) (n : Fin 256) (i j : Fin 64) : EReal := if j ≤ i then sc X L (chk b n) h i j else 0

include hX

theorem q3 (b : Fin 2) (h : Fin 4) (n : Fin 256) (s : Fin 64) (d : Fin 128) :
    w3 V (Proc.devRef .tc main_v33) (ix5 b h n s d) = fq X b h n s d :=
  (pre2_v33 (w2 V) b h n s d).trans
    (pre1_v31 (w1 V) (fun r k => X r (colN 0 k)) (fun r k => (pre0_v0 V r k).trans (hX _ _)) _ _)

theorem v3 (b : Fin 2) (h : Fin 4) (n : Fin 256) (s : Fin 64) (d : Fin 128) :
    w3 V (Proc.devRef .tc main_v39) (ix5 b h n s d) = fv X b h n s d := by
  refine (pre2_v39 (w2 V) b h n s d).trans ?_
  rw [keep2 V main_v2 (by decide)]
  exact (pre0_v2 V _ _).trans (hX _ _)

include hL

theorem k3 (b : Fin 2) (h : Fin 4) (n : Fin 256) (s : Fin 64) (d : Fin 128) :
    w3 V (Proc.devRef .tc main_v35) (ix5 b h n s d) = fk X L b h n s d := by
  refine (pre2_v35 (w2 V) b h n s d).trans ?_
  rw [keep2 V main_v30 (by decide)]
  exact pre0_v30 V X L hX hL _ _

theorem c4 (b : Fin 2) (h : Fin 4) (n : Fin 256) (c : Fin 64) (d : Fin 128) :
    w4 V (Proc.devRef .tc main_v40) (ix5 b h n c d) = fc X L b h n c d :=
  pre3_v40 (w3 V) (fun b h n s d => lf X L (chk b n) s (hcol h d)) (fun b h n s d => by
    refine (pre2_v37 (w2 V) b h n s d).trans ?_
    rw [keep2 V main_v18 (by decide)]
    exact pre0_v18 V X L hX hL _ _) b h n c d

theorem m5 (b : Fin 2) (h : Fin 4) (n : Fin 256) (d : Fin 128) :
    w5 V (Proc.devRef .tc main_v41) (ix5 b h n 0 d) = fc X L b h n 32 d :=
  (pre4_v41 (w4 V) b h n d).trans (c4 V X L hX hL b h n 32 d)

theorem l5 (b : Fin 2) (h : Fin 4) (n : Fin 256) (d : Fin 128) :
    w5 V (Proc.devRef .tc main_v42) (ix5 b h n 0 d) = fc X L b h n 63 d :=
  (pre4_v42 (w4 V) b h n d).trans (c4 V X L hX hL b h n 63 d)

theorem s7 (b : Fin 2) (h : Fin 4) (n : Fin 256) (i j : Fin 64) :
    w7 V (Proc.devRef .tc main_v53) (ix5 b h n i j) = sc X L (chk b n) h i j := by
  refine pre6_v53 (w6 V) (fq X) (fk X L) (fc X L) ?_ ?_ ?_ ?_ b h n i j
  · intro b h n s d
    rw [keep6 V main_v35 (by decide), keep5 V main_v35 (by decide), keep4 V main_v35 (by decide)]; exact k3 V X L hX hL b h n s d
  · intro b h n s d
    rw [keep6 V main_v40 (by decide), keep5 V main_v40 (by decide)]; exact c4 V X L hX hL b h n s d
  · intro b h n s d
    rw [keep6 V main_v33 (by decide), keep5 V main_v33 (by decide), keep4 V main_v33 (by decide)]; exact q3 V X hX b h n s d
  · intro b h n d
    rw [keep6 V main_v41 (by decide)]; exact m5 V X L hX hL b h n d

theorem s8 (b : Fin 2) (h : Fin 4) (n : Fin 256) (i j : Fin 64) :
    w8 V (Proc.devRef .tc main_v54) (ix5 b h n i j) = fs X L b h n i j := by
  refine pre7_v54 (w7 V) (fun b h n i j => sc X L (chk b n) h i j) (s7 V X L hX hL) (fun i j => ?_) (fun i => ?_) b h n i j
  · rw [keep7 V main_v44 (by decide)]
    exact pre5_v44 (w5 V) (pre4_v43 (w4 V)) i j
  · exact congrFun (pre6_cst (w6 V)) i

/-! ## At the loop's entry -/

theorem k8 (b : Fin 2) (h : Fin 4) (n : Fin 256) (s : Fin 64) (d : Fin 128) :
    w8 V (Proc.devRef .tc main_v35) (ix5 b h n s d) = fk X L b h n s d := by
  rw [keep8 V main_v35 (by decide), keep7 V main_v35 (by decide), keep6 V main_v35 (by decide), keep5 V main_v35 (by decide),
    keep4 V main_v35 (by decide)]
  exact k3 V X L hX hL b h n s d

theorem c8 (b : Fin 2) (h : Fin 4) (n : Fin 256) (s : Fin 64) (d : Fin 128) :
    w8 V (Proc.devRef .tc main_v40) (ix5 b h n s d) = fc X L b h n s d := by
  rw [keep8 V main_v40 (by decide), keep7 V main_v40 (by decide), keep6 V main_v40 (by decide), keep5 V main_v40 (by decide)]
  exact c4 V X L hX hL b h n s d

theorem l8 (b : Fin 2) (h : Fin 4) (n : Fin 256) (d : Fin 128) :
    w8 V (Proc.devRef .tc main_v42) (ix5 b h n 0 d) = fc X L b h n 63 d := by
  rw [keep8 V main_v42 (by decide), keep7 V main_v42 (by decide), keep6 V main_v42 (by decide)]
  exact l5 V X L hX hL b h n d

omit hL in
theorem q8 (b : Fin 2) (h : Fin 4) (n : Fin 256) (s : Fin 64) (d : Fin 128) :
    w8 V (Proc.devRef .tc main_v33) (ix5 b h n s d) = fq X b h n s d := by
  rw [keep8 V main_v33 (by decide), keep7 V main_v33 (by decide), keep6 V main_v33 (by decide), keep5 V main_v33 (by decide),
    keep4 V main_v33 (by decide)]
  exact q3 V X hX b h n s d

omit hL in
theorem v8 (b : Fin 2) (h : Fin 4) (n : Fin 256) (s : Fin 64) (d : Fin 128) :
    w8 V (Proc.devRef .tc main_v39) (ix5 b h n s d) = fv X b h n s d := by
  rw [keep8 V main_v39 (by decide), keep7 V main_v39 (by decide), keep6 V main_v39 (by decide), keep5 V main_v39 (by decide),
    keep4 V main_v39 (by decide)]
  exact v3 V X hX b h n s d

theorem entry_decay (n : Fin 256) (b : Fin 2) (h : Fin 4) (d : Fin 128) :
    w9 V (Proc.devRef .tc main_v69_0) (ix4 n b h d) = (Ideal.exp (cm X L (chk b n) 63 (hcol h d)) : EReal) :=
  pre8_decay (w8 V) (fc X L) (l8 V X L hX hL) n b h d

theorem entry_con (n : Fin 256) (b : Fin 2) (h : Fin 4) (d e : Fin 128) :
    w9 V (Proc.devRef .tc main_v69_1) (ix5 n b h d e) = con X L (chk b n) h d e :=
  pre8_v63 (w8 V) (fk X L) (fc X L) (k8 V X L hX hL) (c8 V X L hX hL) (fv X) (v8 V X hX) (l8 V X L hX hL) n b h d e

theorem entry_q (n : Fin 256) (b : Fin 2) (h : Fin 4) (c : Fin 64) (d : Fin 128) :
    w9 V (Proc.devRef .tc main_v69_2) (ix5 n b h c d)
      = (qq X (chk b n) c (hcol h d) * Ideal.exp (cm X L (chk b n) c (hcol h d)) : EReal) :=
  pre8_q (w8 V) (fq X) (fc X L) (q8 V X hX) (c8 V X L hX hL) n b h c d

theorem entry_v55 (b : Fin 2) (h : Fin 4) (n : Fin 256) (c : Fin 64) (e : Fin 128) :
    w9 V (Proc.devRef .tc main_v55) (ix5 b h n c e)
      = (∑ s : Fin 64, (if s ≤ c then sc X L (chk b n) h c s else 0) * X (rowN (chk b n) s) (colN 2 (hcol h e)) : EReal) :=
  pre8_v55 (w8 V) (fs X L) (fv X) (s8 V X L hX hL) (v8 V X hX) b h n c e

omit hL in
theorem entry_v3 (r : Fin 32768) (k : Fin 512) : w9 V (Proc.devRef .tc main_v3) (ix2 r k) = X r (colN 3 k) := by
  rw [keep9 V main_v3 (by decide), keep8 V main_v3 (by decide), keep7 V main_v3 (by decide), keep6 V main_v3 (by decide),
    keep5 V main_v3 (by decide), keep4 V main_v3 (by decide), keep3 V main_v3 (by decide), keep2 V main_v3 (by decide)]
  exact (pre0_v3 V r k).trans (hX _ _)

end Cert.ReferenceIdeal.Hgrn
end
-- ==== Proof.HgrnRefLoop.lean ====
/- The reference over the reals: one trip round its loop, and what the carried buffers hold after any number. -/
module

public import proofs.«01_k».proof.Proof.HgrnRefEntry
public import Idealize.ShloMosaic.Lib.DynamicIndex
public import Idealize.ShloMosaic.Lib.Pipeline.Value

@[expose] public section

set_option maxRecDepth 16384

noncomputable section

namespace Cert.ReferenceIdeal.Hgrn

open Cert.ReferenceIdeal Cert.ReferenceIdeal.Gen Cert.ReferenceIdeal.Value
open Cert.HgrnSpec
open Idealize.ShloMosaic Idealize.ShloMosaic.TcCoe Idealize.ShloMosaic.Tactic Idealize.ShloMosaic.StableHlo

variable (V : Valuation τ sig (Elt Ideal))

theorem slices4 (n : Fin 256) : S256x2x4x128.Slices ![n.val, 0, 0, 0] S1x2x4x128 :=
  ⟨rfl, by have := n.isLt; intro a; fin_cases a <;> simp <;> omega⟩

theorem slicesC (n : Fin 256) : S256x2x4x128x128.Slices ![n.val, 0, 0, 0, 0] S1x2x4x128x128 :=
  ⟨rfl, by have := n.isLt; intro a; fin_cases a <;> simp <;> omega⟩

theorem slicesQ (n : Fin 256) : S256x2x4x64x128.Slices ![n.val, 0, 0, 0, 0] S1x2x4x64x128 :=
  ⟨rfl, by have := n.isLt; intro a; fin_cases a <;> simp <;> omega⟩

theorem clampQ (n : Fin 256) (a : Fin 5) :
    (min (max (((![n.val, 0, 0, 0, 0] : Fin 5 → ℕ) a : ℕ) : Int) 0) ((S256x2x4x64x128.size a - S1x2x4x64x128.size a : ℕ) : Int)).toNat
      = (![n.val, 0, 0, 0, 0] : Fin 5 → ℕ) a := by
  have h : (![n.val, 0, 0, 0, 0] : Fin 5 → ℕ) a + S1x2x4x64x128.size a ≤ S256x2x4x64x128.size a := (slicesQ n).2 a
  omega

theorem start4 (x : IVec S_ 32) (n : Fin 256) (hx : x = fun _ => BitVec.ofNat 32 n.val) (a : Fin 4) :
    (((![x, constantI S_ 32 0#32, constantI S_ 32 0#32, constantI S_ 32 0#32] : Fin 4 → IVec S_ 32)) a (Shape.Idx.first h_S_)).toInt
      = ((![n.val, 0, 0, 0] : Fin 4 → ℕ) a : Int) := by
  subst hx
  fin_cases a
  · exact toInt_ofNat_of_lt (by have := n.isLt; omega)
  all_goals rfl

theorem start5 (x : IVec S_ 32) (n : Fin 256) (hx : x = fun _ => BitVec.ofNat 32 n.val) (a : Fin 5) :
    (((![x, constantI S_ 32 0#32, constantI S_ 32 0#32, constantI S_ 32 0#32, constantI S_ 32 0#32] : Fin 5 → IVec S_ 32)) a
      (Shape.Idx.first h_S_)).toInt = ((![n.val, 0, 0, 0, 0] : Fin 5 → ℕ) a : Int) := by
  subst hx
  fin_cases a
  · exact toInt_ofNat_of_lt (by have := n.isLt; omega)
  all_goals rfl

variable (n : Fin 256) (hn : V (Proc.devRef .tc main_v69_3) = fun _ => BitVec.ofNat 32 n.val)
include hn

/-- The state after a trip: decayed, and the chunk's contribution added. -/
theorem trip_state (b : Fin 2) (h : Fin 4) (d e : Fin 128) (dv sv cv : EReal)
    (hd : V (Proc.devRef .tc main_v69_0) (ix4 n b h d) = dv) (hs : V (Proc.devRef .tc main_v69_4) (ix4 b h d e) = sv)
    (hc : V (Proc.devRef .tc main_v69_1) (ix5 n b h d e) = cv) :
    afterL bodyI V (Proc.devRef .tc main_v69_4) (ix4 b h d e) = (dv * sv + cv : EReal) := by
  rw [trip_main_v69_4, Host.dynamicSlice_eq_extractStridedSlice S1x2x4x128 _ _ ![n.val, 0, 0, 0] _ (slices4 n) (start4 _ n hn),
    Host.dynamicSlice_eq_extractStridedSlice S1x2x4x128x128 _ _ ![n.val, 0, 0, 0, 0] _ (slicesC n) (start5 _ n hn)]
  simp only [id_eq]
  clean_types
  pointwise
  rw [← hd, ← hs, ← hc]

/-- The outputs after a trip: the chunk's slot is written, every other is kept. -/
theorem trip_outputs (q : Fin 64 → Fin 128 → EReal) (s : Fin 128 → Fin 128 → EReal) (n' : Fin 256) (b : Fin 2) (h : Fin 4)
    (hq : ∀ c d, V (Proc.devRef .tc main_v69_2) (ix5 n b h c d) = q c d)
    (hs : ∀ d e, V (Proc.devRef .tc main_v69_4) (ix4 b h d e) = s d e) (c : Fin 64) (e : Fin 128) (o : EReal)
    (ho : V (Proc.devRef .tc main_v69_5) (ix5 n' b h c e) = o) :
    afterL bodyI V (Proc.devRef .tc main_v69_5) (ix5 n' b h c e)
      = (if n' = n then ∑ d : Fin 128, q c d * s d e else o : EReal) := by
  rw [trip_main_v69_5, Host.dynamicSlice_eq_extractStridedSlice S1x2x4x64x128 _ _ ![n.val, 0, 0, 0, 0] _ (slicesQ n) (start5 _ n hn),
    Host.dynamicUpdateSlice_eq_updateSlice _ _ _ _ ![n.val, 0, 0, 0, 0] (fun a => by rw [start5 _ n hn]; exact clampQ n a) (slicesQ n)]
  simp only [id_eq]
  clean_types
  pointwise
  by_cases e' : n' = n
  · subst e'
    rw [dif_pos ⟨le_refl _, Nat.lt_succ_self _⟩, if_pos rfl]
    exact Finset.sum_congr rfl fun x _ => by rw [hq, hs]
  · rw [dif_neg (fun hh => e' (Fin.ext (by omega))), if_neg e', ho]

/-! ## What a trip leaves -/

omit hn in
theorem trip_keep (r : Ref sig .tc) (h0 : r ∉ condOps_W) (h : r ∉ while0Ops0_W ++ while0Ops0_1_W ++ while0Ops0_2_W ++ while0Ops0_3_W ++ while0Ops0_4_W
    ++ while0Ops0_5_W) : afterL bodyI (after condOps V) (Proc.devRef .tc r) = V (Proc.devRef .tc r) := by
  simp only [List.mem_append, not_or] at h
  obtain ⟨⟨⟨⟨⟨h1, h2⟩, h3⟩, h4⟩, h5⟩, h6⟩ := h
  simp only [bodyI, afterL_cons, afterL_nil]
  rw [after_of_writes_sub while0Ops0_5 _ while0Ops0_5_writes h6, after_of_writes_sub while0Ops0_4 _ while0Ops0_4_writes h5,
    after_of_writes_sub while0Ops0_3 _ while0Ops0_3_writes h4, after_of_writes_sub while0Ops0_2 _ while0Ops0_2_writes h3,
    after_of_writes_sub while0Ops0_1 _ while0Ops0_1_writes h2, after_of_writes_sub while0Ops0 _ while0Ops0_writes h1,
    after_of_writes_sub condOps _ condOps_writes h0]

omit hn n V in
/-- What no trip writes is as the loop found it. -/
theorem loop_keep (m : (ℓ : Loc nD τ sig) → Buf (Elt Ideal) ℓ) (cc : Dev nD) (r : Ref sig .tc) (h0 : r ∉ condOps_W)
    (h : r ∉ while0Ops0_W ++ while0Ops0_1_W ++ while0Ops0_2_W ++ while0Ops0_3_W ++ while0Ops0_4_W ++ while0Ops0_5_W) (k : ℕ) :
    atK m k cc (Proc.devRef .tc r) = w9 (launchContents m cc) (Proc.devRef .tc r) := by
  induction k with
  | zero => rfl
  | succ k ih => exact (trip_keep (atK m k cc) r h0 h).trans ih

section Loop

omit hn n V

variable (m : (ℓ : Loc nD τ sig) → Buf (Elt Ideal) ℓ) (cc : Dev nD)
variable (X : Fin 32768 → Fin 2048 → EReal) (L : Fin 512 → EReal)
variable (hX : ∀ r k, launchContents m cc (Proc.devRef .tc main_arg0) (ix2 r k) = X r k)
variable (hL : ∀ k, launchContents m cc (Proc.devRef .tc main_arg1) (ix1 k) = L k)

/-- A carried buffer that a trip only reads is what it was at the entry. -/
theorem carried_keep (k : ℕ) :
    (atK m k cc (Proc.devRef .tc main_v69_0) = w9 (launchContents m cc) (Proc.devRef .tc main_v69_0)
      ∧ atK m k cc (Proc.devRef .tc main_v69_1) = w9 (launchContents m cc) (Proc.devRef .tc main_v69_1))
      ∧ atK m k cc (Proc.devRef .tc main_v69_2) = w9 (launchContents m cc) (Proc.devRef .tc main_v69_2) := by
  induction k with
  | zero => exact ⟨⟨rfl, rfl⟩, rfl⟩
  | succ k ih =>
    have hc := cond_keeps (atK m k cc)
    exact ⟨⟨(trip_main_v69_0 (after condOps (atK m k cc))).trans ((hc main_v69_0 (by decide)).trans ih.1.1),
      (trip_main_v69_1 (after condOps (atK m k cc))).trans ((hc main_v69_1 (by decide)).trans ih.1.2)⟩,
      (trip_main_v69_2 (after condOps (atK m k cc))).trans ((hc main_v69_2 (by decide)).trans ih.2)⟩

theorem ctr_value (k : ℕ) : after condOps (atK m k cc) (Proc.devRef .tc main_v69_3) = fun _ => BitVec.ofNat 32 k := by
  rw [cond_keeps (atK m k cc) main_v69_3 (by decide), atK_ctr m cc k]
  funext _
  simp [Scf.iv]

include hX hL

theorem loop_state (k : ℕ) (hk : k ≤ 256) (b : Fin 2) (h : Fin 4) (d e : Fin 128) :
    atK m k cc (Proc.devRef .tc main_v69_4) (ix4 b h d e) = st X L b k h d e := by
  induction k generalizing b h d e with
  | zero => exact pre8_state (w8 (launchContents m cc)) b h d e
  | succ k ih =>
    have hc := cond_keeps (atK m k cc)
    refine trip_state (after condOps (atK m k cc)) ⟨k, by omega⟩ (ctr_value m cc k) b h d e _ _ _ ?_ ?_ ?_
    · rw [hc main_v69_0 (by decide), (carried_keep m cc k).1.1]
      exact entry_decay (launchContents m cc) X L hX hL ⟨k, by omega⟩ b h d
    · rw [hc main_v69_4 (by decide)]
      exact ih (by omega) b h d e
    · rw [hc main_v69_1 (by decide), (carried_keep m cc k).1.2]
      exact entry_con (launchContents m cc) X L hX hL ⟨k, by omega⟩ b h d e

theorem loop_outputs (k : ℕ) (hk : k ≤ 256) (n : Fin 256) (hnk : n.val < k) (b : Fin 2) (h : Fin 4) (c : Fin 64) (e : Fin 128) :
    atK m k cc (Proc.devRef .tc main_v69_5) (ix5 n b h c e)
      = (∑ d : Fin 128, (qq X (chk b n) c (hcol h d) * Ideal.exp (cm X L (chk b n) c (hcol h d))) * st X L b n h d e : EReal) := by
  induction k with
  | zero => omega
  | succ k ih =>
    have hc := cond_keeps (atK m k cc)
    refine (trip_outputs (after condOps (atK m k cc)) ⟨k, by omega⟩ (ctr_value m cc k)
      (fun c d => qq X (chk b k) c (hcol h d) * Ideal.exp (cm X L (chk b k) c (hcol h d))) (st X L b k h) n b h ?_ ?_ c e
      (atK m k cc (Proc.devRef .tc main_v69_5) (ix5 n b h c e)) (by rw [hc main_v69_5 (by decide)])).trans ?_
    · intro c d
      rw [hc main_v69_2 (by decide), (carried_keep m cc k).2]
      exact entry_q (launchContents m cc) X L hX hL ⟨k, by omega⟩ b h c d
    · intro d e
      rw [hc main_v69_4 (by decide)]
      exact loop_state m cc X L hX hL k (by omega) b h d e
    · by_cases hnk' : n.val = k
      · rw [if_pos (Fin.ext hnk'), ← hnk']
      · rw [if_neg (fun h => hnk' (congrArg Fin.val h))]
        exact ih (by omega) (by omega)

end Loop

end Cert.ReferenceIdeal.Hgrn
end
-- ==== Proof.HgrnRefPost.lean ====
/- The reference over the reals: after its loop, the normalised and gated output at an index. -/
module

public import proofs.«01_k».proof.Proof.HgrnRefPre

@[expose] public section

set_option maxRecDepth 16384

noncomputable section

namespace Cert.ReferenceIdeal.Hgrn

open Cert.ReferenceIdeal Cert.ReferenceIdeal.Gen Cert.ReferenceIdeal.Value
open Cert.HgrnSpec
open Idealize.ShloMosaic Idealize.ShloMosaic.TcCoe Idealize.ShloMosaic.Tactic Idealize.ShloMosaic.StableHlo

variable (V : Valuation τ sig (Elt Ideal))

theorem post9_v86 (a : Fin 2 → Fin 4 → Fin 256 → Fin 64 → Fin 128 → EReal) (o : Fin 256 → Fin 2 → Fin 4 → Fin 64 → Fin 128 → EReal)
    (W : Fin 128 → EReal) (ha : ∀ b h n c e, V (Proc.devRef .tc main_v55) (ix5 b h n c e) = a b h n c e)
    (ho : ∀ n b h c e, V (Proc.devRef .tc main_v69_5) (ix5 n b h c e) = o n b h c e)
    (hW : ∀ e, V (Proc.devRef .tc main_arg2) (ix1 e) = W e) (b : Fin 2) (t : Fin 16384) (h : Fin 4) (e : Fin 128)
    (x : Fin 128 → EReal) (hx : ∀ e, x e = a b h ⟨t.val / 64, by omega⟩ ⟨t.val % 64, Nat.mod_lt _ (by decide)⟩ e
      + o ⟨t.val / 64, by omega⟩ b h ⟨t.val % 64, Nat.mod_lt _ (by decide)⟩ e) :
    after hostOps0_9 V (Proc.devRef .tc main_v86) (ix4 b t h e)
      = (x e * Ideal.rsqrt (Ideal.div (∑ k : Fin 128, x k * x k) (Ideal.ofBits .f32 0x43000000#32) + Ideal.ofBits .f32 0x358637BD#32) * W e : EReal) := by
  simp only [hx, ← ha, ← ho, ← hW]
  after_reads_at

theorem post9_v87 (b : Fin 2) (t : Fin 16384) (h : Fin 4) (e : Fin 128) :
    after hostOps0_9 V (Proc.devRef .tc main_v87) (ix4 b t h e)
      = V (Proc.devRef .tc main_v3) (ix2 ⟨16384 * b.val + t.val, by omega⟩ (hcol h e)) := by
  after_reads_at
  congr 2
  · exact Fin.ext (by simp only; omega)
  · exact Fin.ext (by simp only [hcol]; omega)

theorem post10_v88 (g : Fin 2 → Fin 16384 → Fin 4 → Fin 128 → EReal) (hg : ∀ b t h e, V (Proc.devRef .tc main_v87) (ix4 b t h e) = g b t h e)
    (b : Fin 2) (t : Fin 16384) (h : Fin 4) (e : Fin 128) :
    after hostOps0_10 V (Proc.devRef .tc main_v88) (ix4 b t h e) = (g b t h e * Ideal.logistic (g b t h e) : EReal) := by
  rw [← hg]
  after_reads_at
  rfl

theorem post11_v90 (u g : Fin 2 → Fin 16384 → Fin 4 → Fin 128 → EReal) (hu : ∀ b t h e, V (Proc.devRef .tc main_v86) (ix4 b t h e) = u b t h e)
    (hg : ∀ b t h e, V (Proc.devRef .tc main_v88) (ix4 b t h e) = g b t h e) (r : Fin 32768) (k : Fin 512) :
    after hostOps0_11 V (Proc.devRef .tc main_v90) (ix2 r k)
      = (u ⟨r.val / 16384, by omega⟩ ⟨r.val % 16384, Nat.mod_lt _ (by decide)⟩ ⟨k.val / 128, by omega⟩ ⟨k.val % 128, Nat.mod_lt _ (by decide)⟩
        * g ⟨r.val / 16384, by omega⟩ ⟨r.val % 16384, Nat.mod_lt _ (by decide)⟩ ⟨k.val / 128, by omega⟩ ⟨k.val % 128, Nat.mod_lt _ (by decide)⟩ : EReal) := by
  rw [← hu, ← hg]
  after_reads_at

end Cert.ReferenceIdeal.Hgrn
end
-- ==== Proof.HgrnReference.lean ====
/- The reference's run over the reals: its result, at every index, is the recurrence's formula in its three arguments,
and its arguments end as they began. -/
module

public import proofs.«01_k».proof.Proof.HgrnRefLoop
public import proofs.«01_k».proof.Proof.HgrnRefPost

@[expose] public section

set_option maxRecDepth 16384

noncomputable section

namespace Cert.ReferenceIdeal.Hgrn

open Cert.ReferenceIdeal Cert.ReferenceIdeal.Gen Cert.ReferenceIdeal.Value
open Cert.HgrnSpec
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-- The contents once the loop has ended, and after each stretch that follows it. -/
def x0 : Valuation τ sig (Elt Ideal) := after condOps (atK m 256 c)
@[inherit_doc x0]
def x1 : Valuation τ sig (Elt Ideal) := after hostOps0_9 (x0 m c)
@[inherit_doc x0]
def x2 : Valuation τ sig (Elt Ideal) := after hostOps0_10 (x1 m c)
@[inherit_doc x0]
def x3 : Valuation τ sig (Elt Ideal) := after hostOps0_11 (x2 m c)

theorem final_eq : finalContents condOps preI bodyI postI 256 m c = x3 m c := rfl

/-- The references that each stretch after the loop writes. -/
abbrev post9W : List (Ref sig .tc) := [main_v70, main_v71, main_v72, main_v73, main_v74, main_cst_9, main_v75, main_v76, main_cst_10, main_v77, main_v78,
  main_cst_11, main_v79, main_v80, main_v81, main_v82, main_v83, main_v84, main_v85, main_v86, main_v87]
@[inherit_doc post9W]
abbrev post10W : List (Ref sig .tc) := [main_call8_v0, main_call8_v1, main_call8_cst, main_call8_v2, main_call8_v3, main_call8_cst_0, main_call8_v4,
  main_call8_v5, main_v88]
@[inherit_doc post9W]
abbrev post11W : List (Ref sig .tc) := [main_v89, main_v90]

theorem post9_writes : (hostOps0_9 : List (HloOp τ sig (Elt Ideal))).Forall fun op => op.writes ⊆ (post9W.map (Proc.devRef (τ := τ) .tc)).toFinset :=
  StableHlo.forall_writes_sub_of_map rfl
theorem post10_writes : (hostOps0_10 : List (HloOp τ sig (Elt Ideal))).Forall fun op => op.writes ⊆ (post10W.map (Proc.devRef (τ := τ) .tc)).toFinset :=
  StableHlo.forall_writes_sub_of_map rfl
theorem post11_writes : (hostOps0_11 : List (HloOp τ sig (Elt Ideal))).Forall fun op => op.writes ⊆ (post11W.map (Proc.devRef (τ := τ) .tc)).toFinset :=
  StableHlo.forall_writes_sub_of_map rfl

theorem x0_keep (r : Ref sig .tc) (h0 : r ∉ condOps_W)
    (h : r ∉ while0Ops0_W ++ while0Ops0_1_W ++ while0Ops0_2_W ++ while0Ops0_3_W ++ while0Ops0_4_W ++ while0Ops0_5_W) :
    x0 m c (Proc.devRef .tc r) = w9 (launchContents m c) (Proc.devRef .tc r) :=
  (after_of_writes_sub condOps _ condOps_writes h0).trans (loop_keep m c r h0 h 256)

theorem x1_keep (r : Ref sig .tc) (h : r ∉ post9W) : x1 m c (Proc.devRef .tc r) = x0 m c (Proc.devRef .tc r) :=
  after_of_writes_sub hostOps0_9 _ post9_writes h
theorem x2_keep (r : Ref sig .tc) (h : r ∉ post10W) : x2 m c (Proc.devRef .tc r) = x1 m c (Proc.devRef .tc r) :=
  after_of_writes_sub hostOps0_10 _ post10_writes h
theorem x3_keep (r : Ref sig .tc) (h : r ∉ post11W) : x3 m c (Proc.devRef .tc r) = x2 m c (Proc.devRef .tc r) :=
  after_of_writes_sub hostOps0_11 _ post11_writes h

/-- An argument ends as it began. -/
theorem arg0_end : x3 m c (Proc.devRef .tc main_arg0) = m ((c : Thread nD τ).loc main_arg0) := by
  rw [x3_keep m c _ (by decide), x2_keep m c _ (by decide), x1_keep m c _ (by decide), x0_keep m c _ (by decide) (by decide),
    entry_keep _ _ (by decide)]
@[inherit_doc arg0_end]
theorem arg1_end : x3 m c (Proc.devRef .tc main_arg1) = m ((c : Thread nD τ).loc main_arg1) := by
  rw [x3_keep m c _ (by decide), x2_keep m c _ (by decide), x1_keep m c _ (by decide), x0_keep m c _ (by decide) (by decide),
    entry_keep _ _ (by decide)]
@[inherit_doc arg0_end]
theorem arg2_end : x3 m c (Proc.devRef .tc main_arg2) = m ((c : Thread nD τ).loc main_arg2) := by
  rw [x3_keep m c _ (by decide), x2_keep m c _ (by decide), x1_keep m c _ (by decide), x0_keep m c _ (by decide) (by decide),
    entry_keep _ _ (by decide)]

variable (X : Fin 32768 → Fin 2048 → EReal) (L : Fin 512 → EReal) (W : Fin 128 → EReal)
variable (hX : ∀ r k, launchContents m c (Proc.devRef .tc main_arg0) (ix2 r k) = X r k)
variable (hL : ∀ k, launchContents m c (Proc.devRef .tc main_arg1) (ix1 k) = L k)
variable (hW : ∀ k, launchContents m c (Proc.devRef .tc main_arg2) (ix1 k) = W k)

include hX in
theorem gate_value (b : Fin 2) (t : Fin 16384) (h : Fin 4) (e : Fin 128) :
    x1 m c (Proc.devRef .tc main_v87) (ix4 b t h e) = X ⟨16384 * b.val + t.val, by omega⟩ (colN 3 (hcol h e)) := by
  refine (post9_v87 (x0 m c) b t h e).trans ?_
  rw [x0_keep m c _ (by decide) (by decide)]
  exact entry_v3 (launchContents m c) X hX _ _

include hX hL hW in
theorem norm_value (b : Fin 2) (t : Fin 16384) (h : Fin 4) (e : Fin 128) (n : ℕ) (hn : n = t.val / 64) :
    x1 m c (Proc.devRef .tc main_v86) (ix4 b t h e)
      = (mix X L b n h ⟨t.val % 64, Nat.mod_lt _ (by decide)⟩ e
          * Ideal.rsqrt (Ideal.div (∑ k : Fin 128, mix X L b n h ⟨t.val % 64, Nat.mod_lt _ (by decide)⟩ k
              * mix X L b n h ⟨t.val % 64, Nat.mod_lt _ (by decide)⟩ k) (Ideal.ofBits .f32 0x43000000#32)
            + Ideal.ofBits .f32 0x358637BD#32) * W e : EReal) := by
  subst hn
  refine post9_v86 (x0 m c)
    (fun b h n c e => ∑ s : Fin 64, (if s ≤ c then sc X L (chk b n) h c s else 0) * X (rowN (chk b n) s) (colN 2 (hcol h e)))
    (fun n b h c e => ∑ d : Fin 128, (qq X (chk b n) c (hcol h d) * Ideal.exp (cm X L (chk b n) c (hcol h d))) * st X L b n h d e)
    W ?_ ?_ ?_ b t h e (mix X L b (t.val / 64) h ⟨t.val % 64, Nat.mod_lt _ (by decide)⟩) (fun _ => rfl)
  · intro b h n cc e
    rw [x0_keep m c _ (by decide) (by decide)]
    exact entry_v55 (launchContents m c) X L hX hL b h n cc e
  · intro n b h cc e
    refine (congrFun (after_of_writes_sub condOps _ condOps_writes (by decide)) _).trans ?_
    exact loop_outputs m c X L hX hL 256 (le_refl _) n n.isLt b h cc e
  · intro e
    rw [x0_keep m c _ (by decide) (by decide), entry_keep _ _ (by decide)]
    exact hW e

include hX hL hW in
/-- The result: the recurrence's formula at every index. -/
theorem result_value (r : Fin 32768) (k : Fin 512) :
    x3 m c (Proc.devRef .tc main_v90) (ix2 r k)
      = out X L W ⟨r.val / 16384, by omega⟩ (r.val / 64 % 256) ⟨k.val / 128, by omega⟩
          ⟨r.val % 64, Nat.mod_lt _ (by decide)⟩ ⟨k.val % 128, Nat.mod_lt _ (by decide)⟩ := by
  refine (post11_v90 (x2 m c) (fun b t h e => x1 m c (Proc.devRef .tc main_v86) (ix4 b t h e))
    (fun b t h e => X ⟨16384 * b.val + t.val, by omega⟩ (colN 3 (hcol h e))
      * Ideal.logistic (X ⟨16384 * b.val + t.val, by omega⟩ (colN 3 (hcol h e)))) (fun b t h e => ?_) ?_ r k).trans ?_
  · rw [x2_keep m c _ (by decide)]
  · exact post10_v88 (x1 m c) (fun b t h e => X ⟨16384 * b.val + t.val, by omega⟩ (colN 3 (hcol h e))) (gate_value m c X hX)
  · simp only
    rw [norm_value m c X L W hX hL hW _ _ _ _ (r.val / 64 % 256) (by simp only; omega)]
    have hc : (⟨r.val % 16384 % 64, Nat.mod_lt _ (by decide)⟩ : Fin 64) = ⟨r.val % 64, Nat.mod_lt _ (by decide)⟩ := Fin.ext (by simp only; omega)
    have hr : (⟨16384 * (r.val / 16384) + r.val % 16384, by omega⟩ : Fin 32768)
        = rowN (chk ⟨r.val / 16384, by omega⟩ (r.val / 64 % 256)) ⟨r.val % 64, Nat.mod_lt _ (by decide)⟩ :=
      Fin.ext (by simp only [rowN, chk]; omega)
    rw [hc, hr]
    rfl

end Cert.ReferenceIdeal.Hgrn
end
-- ==== Proof.HgrnClaims.lean ====
/- The recurrence's claims: the reference's frame, what the precondition says of the lower bound, and the equality of
the two runs over the reals. -/
module

public import proofs.«01_k».proof.Defs
public import proofs.«01_k».proof.Proof.Gen.Pre_lb_in_unit
public import proofs.«01_k».proof.Proof.HgrnFrame
public import proofs.«01_k».proof.Proof.HgrnKernel
public import proofs.«01_k».proof.Proof.HgrnReference
public import Idealize.ShloMosaic.Lib.ReduceAll

@[expose] public section

set_option maxRecDepth 16384

noncomputable section

namespace Cert.Proof.Hgrn

open Cert.HgrnSpec
open Idealize.ShloMosaic Idealize.ShloMosaic.TcCoe Idealize.ShloMosaic.Tactic
open Idealize.SL Idealize.SL.Sem

/-! ## The precondition -/

theorem ogt_one {x y : EReal} (h : Ideal.cmp .ogt x y = 1#1) : y < x := by
  by_contra hn
  simp [Ideal.cmp, hn] at h

theorem ole_one {x y : EReal} (h : Ideal.cmp .ole x y = 1#1) : x ≤ y := by
  by_contra hn
  simp [Ideal.cmp, hn] at h

instance : Subsingleton (⟨0, ![]⟩ : Shape).Idx := ⟨fun a b => funext fun i => i.elim0⟩

theorem unit_of_pre (a : FVec Ideal Cert.Pre_lb_in_unit.S32768x2048 .f32) (l : FVec Ideal Cert.Pre_lb_in_unit.S512 .f32)
    (w : FVec Ideal Cert.Pre_lb_in_unit.S128 .f32) (h : Cert.Pre_lb_in_unit.fn (F := Ideal) a l w = fun _ => 1#1) :
    Unit01 (fun k => l (ix1 k)) := by
  intro k
  have h0 := congrFun h (fun i => i.elim0)
  dsimp only [Cert.Pre_lb_in_unit.fn] at h0
  obtain ⟨hp, hq⟩ := IntOp.andi_eq_one.1 h0
  have hp' := ogt_one (Host.reduce_andi_all _ _ _ _ _ hp (ix1 k))
  have hq' := ole_one (Host.reduce_andi_all _ _ _ _ _ hq (ix1 k))
  constructor
  · refine lt_of_eq_of_lt ?_ hp'
    pointwise
  · refine le_of_le_of_eq hq' ?_
    pointwise

/-! ## The reference's frame -/

theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v90)
            = Cert.ReferenceIdeal.Hgrn.x3 m c (Proc.devRef .tc Cert.ReferenceIdeal.main_v90)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨h c Cert.ReferenceIdeal.main_v90 rfl,
      (h c Cert.ReferenceIdeal.main_arg0 rfl).trans (Cert.ReferenceIdeal.Hgrn.arg0_end m c),
      (h c Cert.ReferenceIdeal.main_arg1 rfl).trans (Cert.ReferenceIdeal.Hgrn.arg1_end m c),
      (h c Cert.ReferenceIdeal.main_arg2 rfl).trans (Cert.ReferenceIdeal.Hgrn.arg2_end m c)⟩)
    (Cert.ReferenceIdeal.Value.run_fold m g)

theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (reference_run m g)

/-! ## The equality -/

theorem algebraic : Cert.algebraic_KernelIdeal_ReferenceIdeal_pre_lb_in_unit := by
  intro m g m' g' hpre hagree
  refine ⟨fun c => Cert.KernelIdeal.Hgrn.G3 m c, Cert.KernelIdeal.Hgrn.run m g, ?_⟩
  refine (θ_run Cert.ReferenceIdeal.defs _ _).mono (fun r h c => ⟨(h c).1.trans ?_, (h c).2⟩) (reference_run m' g')
  obtain ⟨e0, e1, e2⟩ := hagree c
  have hL : Unit01 (Cert.KernelIdeal.Hgrn.aL m c) := unit_of_pre _ _ _ (hpre c)
  refine funext fun i => ?_
  obtain ⟨r, k, rfl⟩ : ∃ r k, i = ix2 r k := ⟨_, _, eq_ix2 i⟩
  refine (Cert.ReferenceIdeal.Hgrn.result_value m' c (Cert.KernelIdeal.Hgrn.aX m c) (Cert.KernelIdeal.Hgrn.aL m c)
    (Cert.KernelIdeal.Hgrn.aW m c) (fun r k => congrFun e0 (ix2 r k)) (fun k => congrFun e1 (ix1 k))
    (fun k => congrFun e2 (ix1 k)) r k).trans ?_
  exact (Cert.KernelIdeal.Hgrn.G3_value m c hL r k).symm

end Cert.Proof.Hgrn
end
-- ==== Proof.KernelFrame.lean ====
/-
The frame of the recurrence's call at the device's own floats.  The kernel and its idealized form are the
same program text, and the proof of `Cert.KernelIdeal.Hgrn.frame` holds for every float type; so the two
programs are shown equal, body, definitions and host program, and the frame carried across.
-/
module

public import proofs.«01_k».proof.Defs
public import proofs.«01_k».proof.Proof.Gen.Kernel
public import proofs.«01_k».proof.Proof.HgrnFrame

@[expose] public section

set_option maxRecDepth 16384

noncomputable section

namespace Cert.Kernel.Hgrn

open Idealize.ShloMosaic Idealize.SL.Sem

variable {F : FTy → Type} [FloatOps F]

/-- The host programs are the same. -/
theorem main_same : Cert.Kernel.main (F := F) = Cert.KernelIdeal.main (F := F) := rfl

/-- The kernel's body is the same. -/
theorem body_same :
    Cert.Kernel.cc0_hgrn_mixer (F := F) = Cert.KernelIdeal.cc0_hgrn_mixer (F := F) := rfl

/-- The one label's body is the same at every point and staging buffer. -/
theorem labels_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig)
    (Val := Elt F) (Λ := Cert.Kernel.Λ₀)) ?_
  funext l x
  match l, x with
  | ⟨0, _⟩, (t, s) => rfl
  | ⟨_ + 1, h⟩, _ => exact absurd h (Nat.not_lt.2 (Nat.le_add_left _ _))

/-- So are the definitions with the pipeline's own labels. -/
theorem defs_same : Cert.Kernel.defs (F := F) = Cert.KernelIdeal.defs (F := F) :=
  congrArg (Pipeline.defs Cert.Kernel.pcfgs) labels_same

/-- The call runs, leaves its three arguments as they were, and every counter at zero. -/
theorem frame : Cert.quiescent_Kernel := fun m g _ => by
  rw [defs_same, main_same]
  exact Cert.KernelIdeal.Hgrn.frame (F := Bits) m g

end Cert.Kernel.Hgrn

end
-- ==== Proof.PostPieces.lean ====
/- The writes of the feed-forward kernel's body, named. The body runs 22 steps, n = 11·slab + chunk: a step's up-projection
writes a window of 264 rows (the carried 8, then the slab's 256), its activation reads the window at three shifts and saves the
window's last 8 rows, and its down-projection adds to the slab's accumulator. -/
module

public import proofs.«01_k».proof.Proof.Gen.PostIdeal.Frame

@[expose] public section

set_option maxRecDepth 16384

noncomputable section

namespace Cert.PostIdeal.Post

open Cert.PostIdeal Cert.PostIdeal.Gen
open Idealize.ShloMosaic Idealize.ShloMosaic.TcCoe Idealize.ShloMosaic.Tactic

variable {F : FTy → Type} [FloatOps F]

/-- A block as the body reads it: a rectangle of it at a time. -/
abbrev Rd (F : FTy → Type) (s : Shape) (t : EltTy) := (r : Rect s) → r.shape.Idx → Elt F t

/-- The lists of writes. -/
abbrev PL (F : FTy → Type) (s : Shape) (t : EltTy) := List (View.Piece (Elt F) s t)

/-- What the body reads, and the scratch it writes. -/
structure Ins (F : FTy → Type) where
  ya : Rd F S512x512 .f32
  yb : Rd F S512x256 .f32
  h : Rd F S512x1024 .f32
  woa : Rd F S512x1024 .bf16
  wob : Rd F S256x1024 .bf16
  g : Rd F S1x4x1024 .f32
  wup : Rd F S1x1024x5632 .bf16
  cw : Rd F S1x3x5632 .f32
  cb : Rd F S1x1x5632 .f32
  wdn : Rd F S1x2816x1024 .bf16
  out : View sig .tc .vmem S512x1024 .f32
  xn : View sig .tc .vmem S2x256x1024 .bf16
  st : View sig .tc .vmem S2x4x264x128 .f32
  carry : View sig .tc .vmem S11x4x8x128 .f32
  acc : View sig .tc .vmem S2x256x1024 .f32
  act : View sig .tc .vmem S2x256x256 .bf16
  /-- The carried rows a step finds, from the saves before it. -/
  crd : ℕ → PL F S11x4x8x128 .f32 → Vec F S1x4x8x128 .f32
  /-- The carry's writes before the first step. -/
  base : PL F S11x4x8x128 .f32

variable (p : Ins F)

/-! ## The rectangles -/

theorem rows_inb {w : ℕ} (i : ℕ) (a) : (![256 * (i % 2), 0] : Fin 2 → ℕ) a + (⟨2, ![256, w]⟩ : Shape).size a ≤ (⟨2, ![512, w]⟩ : Shape).size a := by
  have h0 : i % 2 < 2 := Nat.mod_lt _ (by omega)
  fin_cases a <;> simp <;> omega

theorem slab_inb {w : ℕ} (i : ℕ) (a) : (![i % 2, 0, 0] : Fin 3 → ℕ) a + (⟨3, ![1, 256, w]⟩ : Shape).size a ≤ (⟨3, ![2, 256, w]⟩ : Shape).size a := by
  have h0 : i % 2 < 2 := Nat.mod_lt _ (by omega)
  fin_cases a <;> simp; omega

theorem up_inb (j d : ℕ) (hd : d < 2) (a) : (![0, 0, 2816 * d + 256 * (j % 11)] : Fin 3 → ℕ) a + S1x1024x256.size a ≤ S1x1024x5632.size a := by
  have h0 : j % 11 < 11 := Nat.mod_lt _ (by omega)
  fin_cases a <;> simp; omega

theorem cw_inb (k j q : ℕ) (hk : k < 3) (hq : q < 4) (a) : (![0, k, 2816 * (q / 2) + 256 * (j % 11) + 128 * (q % 2)] : Fin 3 → ℕ) a + S1x1x128.size a ≤ S1x3x5632.size a := by
  have h0 : j % 11 < 11 := Nat.mod_lt _ (by omega)
  fin_cases a <;> simp <;> omega

theorem cb_inb (j q : ℕ) (hq : q < 4) (a) : (![0, 0, 2816 * (q / 2) + 256 * (j % 11) + 128 * (q % 2)] : Fin 3 → ℕ) a + S1x1x128.size a ≤ S1x1x5632.size a := by
  have h0 : j % 11 < 11 := Nat.mod_lt _ (by omega)
  fin_cases a <;> simp; omega

theorem st_inb (n q k : ℕ) (hq : q < 4) (hk : k < 9) (a) : (![n % 11 % 2, q, k, 0] : Fin 4 → ℕ) a + S1x1x256x128.size a ≤ S2x4x264x128.size a := by
  have h0 : n % 11 % 2 < 2 := Nat.mod_lt _ (by omega)
  fin_cases a <;> simp <;> omega

theorem st8_inb (n k : ℕ) (hk : k < 257) (a) : (![n % 11 % 2, 0, k, 0] : Fin 4 → ℕ) a + S1x4x8x128.size a ≤ S2x4x264x128.size a := by
  have h0 : n % 11 % 2 < 2 := Nat.mod_lt _ (by omega)
  fin_cases a <;> simp <;> omega

theorem carry_inb (j : ℕ) (a) : (![j % 11, 0, 0, 0] : Fin 4 → ℕ) a + S1x4x8x128.size a ≤ S11x4x8x128.size a := by
  have h0 : j % 11 < 11 := Nat.mod_lt _ (by omega)
  fin_cases a <;> simp; omega

theorem wdn_inb (j : ℕ) (a) : (![0, 256 * (j % 11), 0] : Fin 3 → ℕ) a + S1x256x1024.size a ≤ S1x2816x1024.size a := by
  have h0 : j % 11 < 11 := Nat.mod_lt _ (by omega)
  fin_cases a <;> simp; omega

abbrev rYa (i : ℕ) : Rect S512x512 := Rect.unit (s := S512x512) ![256 * (i % 2), 0] S256x512.size (rows_inb i)
abbrev rYb (i : ℕ) : Rect S512x256 := Rect.unit (s := S512x256) ![256 * (i % 2), 0] S256x256.size (rows_inb i)
abbrev rH (i : ℕ) : Rect S512x1024 := Rect.unit (s := S512x1024) ![256 * (i % 2), 0] S256x1024.size (rows_inb i)
abbrev rWoa : Rect S512x1024 := Rect.unit (s := S512x1024) ![0, 0] S512x1024.size inb_S512x1024_S512x1024_0_0
abbrev rWob : Rect S256x1024 := Rect.unit (s := S256x1024) ![0, 0] S256x1024.size inb_S256x1024_S256x1024_0_0
abbrev rSlab (i : ℕ) : Rect S2x256x1024 := Rect.unit (s := S2x256x1024) ![i % 2, 0, 0] S1x256x1024.size (slab_inb i)
abbrev rAct (i : ℕ) : Rect S2x256x256 := Rect.unit (s := S2x256x256) ![i % 2, 0, 0] S1x256x256.size (slab_inb i)
abbrev rUp (n d : ℕ) (hd : d < 2) : Rect S1x1024x5632 := Rect.unit (s := S1x1024x5632) ![0, 0, 2816 * d + 256 * (n % 11)] S1x1024x256.size (up_inb n d hd)
abbrev rCw (k n q : ℕ) (hk : k < 3) (hq : q < 4) : Rect S1x3x5632 := Rect.unit (s := S1x3x5632) ![0, k, 2816 * (q / 2) + 256 * (n % 11) + 128 * (q % 2)] S1x1x128.size (cw_inb k n q hk hq)
abbrev rCb (n q : ℕ) (hq : q < 4) : Rect S1x1x5632 := Rect.unit (s := S1x1x5632) ![0, 0, 2816 * (q / 2) + 256 * (n % 11) + 128 * (q % 2)] S1x1x128.size (cb_inb n q hq)
abbrev rSt (n q k : ℕ) (hq : q < 4) (hk : k < 9) : Rect S2x4x264x128 := Rect.unit (s := S2x4x264x128) ![n % 11 % 2, q, k, 0] S1x1x256x128.size (st_inb n q k hq hk)
abbrev rSt8 (n k : ℕ) (hk : k < 257) : Rect S2x4x264x128 := Rect.unit (s := S2x4x264x128) ![n % 11 % 2, 0, k, 0] S1x4x8x128.size (st8_inb n k hk)
abbrev rCarry (n : ℕ) : Rect S11x4x8x128 := Rect.unit (s := S11x4x8x128) ![n % 11, 0, 0, 0] S1x4x8x128.size (carry_inb n)
abbrev rWdn (n : ℕ) : Rect S1x2816x1024 := Rect.unit (s := S1x2816x1024) ![0, 256 * (n % 11), 0] S1x256x1024.size (wdn_inb n)

/-! ## Before the steps: the projection, the first residual, the normed rows, the zero accumulators -/

def g1 : Vec F S1x1x1024 .f32 := p.g (Rect.unit (s := S1x4x1024) ![0, 1, 0] S1x1x1024.size inb_S1x4x1024_S1x1x1024_0_1_0)
def g2 : Vec F S1x1x1024 .f32 := p.g (Rect.unit (s := S1x4x1024) ![0, 2, 0] S1x1x1024.size inb_S1x4x1024_S1x1x1024_0_2_0)
def g3 : Vec F S1x1x1024 .f32 := p.g (Rect.unit (s := S1x4x1024) ![0, 3, 0] S1x1x1024.size inb_S1x4x1024_S1x1x1024_0_3_0)

/-- A slab's output projection. -/
def proj (i : ℕ) : FVec F S256x1024 .f32 := k0_pay5 (p.ya (rYa i)) (p.woa rWoa) (p.yb (rYb i)) (p.wob rWob)

/-- A slab's rows after the first residual. -/
def res1 (i : ℕ) : FVec F S256x1024 .f32 := k0_pay6 (proj p i) (p.h (rH i)) (g1 p)

/-- A slab's normed rows. -/
def xnv (i : ℕ) : FVec F S1x256x1024 .bf16 := k0_pay7 (proj p i) (p.h (rH i)) (g1 p) (g2 p)

def outL0 : PL F S512x1024 .f32 := [⟨rH 1, res1 p 1⟩, ⟨rH 0, res1 p 0⟩]
def xnL : PL F S2x256x1024 .bf16 := [⟨rSlab 1, xnv p 1⟩, ⟨rSlab 0, xnv p 0⟩]
def accL0 : PL F S2x256x1024 .f32 := [⟨rSlab 1, k0_pay8⟩, ⟨rSlab 0, k0_pay8⟩]

/-! ## A step -/

/-- The normed rows a step reads. -/
def xr (n : ℕ) : Vec F S1x256x1024 .bf16 := p.xn.readCov (xnL p) (rSlab (n / 11)).toLoadRect

/-- A step's up-projection, a quarter: two column halves of the value, two of the gate. -/
def upv (n : ℕ) : Fin 4 → FVec F S1x1x256x128 .f32
  | 0 => k0_pay13 (xr p n) (p.wup (rUp n 0 (by decide)))
  | 1 => k0_pay15 (xr p n) (p.wup (rUp n 0 (by decide)))
  | 2 => k0_pay14 (xr p n) (p.wup (rUp n 1 (by decide)))
  | 3 => k0_pay16 (k0_pay11 (xr p n) (p.wup (rUp n 1 (by decide))))

/-- A step's window, written over what the window scratch holds. -/
def upL (n : ℕ) (cc : PL F S11x4x8x128 .f32) (tl : PL F S2x4x264x128 .f32) : PL F S2x4x264x128 .f32 :=
  ⟨rSt n 3 8 (by decide) (by decide), upv p n 3⟩ :: ⟨rSt n 1 8 (by decide) (by decide), upv p n 1⟩ :: ⟨rSt n 2 8 (by decide) (by decide), upv p n 2⟩
    :: ⟨rSt n 0 8 (by decide) (by decide), upv p n 0⟩ :: ⟨rSt8 n 0 (by decide), k0_pay12 (p.crd n cc)⟩ :: tl

/-- The window's rows from the k-th. -/
def win (n : ℕ) (sT : PL F S2x4x264x128 .f32) (q k : ℕ) (hq : q < 4) (hk : k < 9) : Vec F S1x1x256x128 .f32 :=
  p.st.readCov sT (rSt n q k hq hk).toLoadRect

/-- The value's convolution, a half. -/
def cval (n : ℕ) (sT : PL F S2x4x264x128 .f32) (q : ℕ) (hq : q < 4) : FVec F S256x128 .f32 :=
  k0_pay27 (k0_pay25 (p.cb (rCb n q hq)) (p.cw (rCw 0 n q (by decide) hq)) (win p n sT q 6 hq (by decide)))
    (p.cw (rCw 1 n q (by decide) hq)) (win p n sT q 7 hq (by decide)) (p.cw (rCw 2 n q (by decide) hq)) (win p n sT q 8 hq (by decide))

/-- A half of the activation, from the convolved value and gate. -/
def actH (v g : FVec F S256x128 .f32) : FVec F S256x128 .bf16 :=
  k0_pay30 v g (addf g (mulf (broadcast S256x128 (Scalar.ofBits .f32 0x3D372713#32)) (mulf g (mulf g g))))

/-- A step's activation. -/
def actv (n : ℕ) (sT : PL F S2x4x264x128 .f32) : FVec F S1x256x256 .bf16 :=
  shapeCast S1x256x256 (concatenate S256x256 1
    [⟨S256x128, actH (cval p n sT 0 (by decide)) (cval p n sT 2 (by decide))⟩, ⟨S256x128, actH (cval p n sT 1 (by decide)) (cval p n sT 3 (by decide))⟩]
    concatenates_S256x128_S256x128_S256x256_d1) shapeCasts_S256x256_S1x256x256

/-- A step's saved rows. -/
def savev (n : ℕ) (sT : PL F S2x4x264x128 .f32) : Vec F S1x4x8x128 .f32 := k0_pay38 (p.st.readCov sT (rSt8 n 256 (by decide)).toLoadRect)

/-- The window's writes and the carry's writes a step starts from. -/
def Q : ℕ → PL F S2x4x264x128 .f32 × PL F S11x4x8x128 .f32
  | 0 => (upL p 0 p.base [], p.base)
  | n + 1 =>
    bif Nat.beq (n % 11) 10 then
      (upL p (n + 1) (⟨rCarry n, savev p n (Q n).1⟩ :: (Q n).2) (Q n).1, ⟨rCarry n, savev p n (Q n).1⟩ :: (Q n).2)
    else
      (upL p (n + 1) (Q n).2 (Q n).1, ⟨rCarry n, savev p n (upL p (n + 1) (Q n).2 (Q n).1)⟩ :: (Q n).2)

/-- The window's writes a step's activation reads. -/
def stA (n : ℕ) : PL F S2x4x264x128 .f32 := bif Nat.beq (n % 11) 10 then (Q p n).1 else upL p (n + 1) (Q p n).2 (Q p n).1

/-- The activations' writes, the step's own last. -/
def actL : ℕ → PL F S2x256x256 .bf16
  | 0 => [⟨rAct 0, actv p 0 (stA p 0)⟩]
  | n + 1 => ⟨rAct ((n + 1) % 11), actv p (n + 1) (stA p (n + 1))⟩ :: actL n

/-- The accumulators' writes before a step's. -/
def accL : ℕ → PL F S2x256x1024 .f32
  | 0 => accL0
  | n + 1 => ⟨rSlab (n / 11), k0_pay49 (k0_pay48 (p.acc.readCov (accL n) (rSlab (n / 11)).toLoadRect)
      (p.act.readCov (actL p n) (rAct (n % 11)).toLoadRect) (p.wdn (rWdn n)))⟩ :: accL n

/-! ## After the steps: the second residual -/

def res2 (i : ℕ) (L : PL F S512x1024 .f32) : FVec F S256x1024 .f32 :=
  k0_pay267 (p.out.readCov L (rH i).toLoadRect) (p.acc.readCov (accL p (11 * i + 11)) (rSlab i).toLoadRect) (g3 p)

def outL1 : PL F S512x1024 .f32 := ⟨rH 0, res2 p 0 (outL0 p)⟩ :: outL0 p

def outL : PL F S512x1024 .f32 := ⟨rH 1, res2 p 1 (outL1 p)⟩ :: outL1 p

def carryL : PL F S11x4x8x128 .f32 := (Q p 22).2

/-! ## The two runs of the body -/

section
variable (c : Dev nD) (arg2 : Memref sig .tc .vmem S512x512 .f32) (harg2 : arg2.IsWhole) (arg3 : Memref sig .tc .vmem S512x256 .f32) (harg3 : arg3.IsWhole)
  (arg4 : Memref sig .tc .vmem S512x1024 .f32) (harg4 : arg4.IsWhole) (arg5 : Memref sig .tc .vmem S512x1024 .bf16) (harg5 : arg5.IsWhole)
  (arg6 : Memref sig .tc .vmem S256x1024 .bf16) (harg6 : arg6.IsWhole) (arg7 : Memref sig .tc .vmem S1x4x1024 .f32) (harg7 : arg7.IsWhole)
  (arg8 : Memref sig .tc .vmem S1x1024x5632 .bf16) (harg8 : arg8.IsWhole) (arg9 : Memref sig .tc .vmem S1x3x5632 .f32) (harg9 : arg9.IsWhole)
  (arg10 : Memref sig .tc .vmem S1x1x5632 .f32) (harg10 : arg10.IsWhole) (arg11 : Memref sig .tc .vmem S1x2816x1024 .bf16) (harg11 : arg11.IsWhole)
  (arg12 : Memref sig .tc .vmem S512x1024 .f32) (arg13 : Memref sig .tc .vmem S2x256x1024 .bf16) (arg14 : Memref sig .tc .vmem S2x4x264x128 .f32)
  (arg15 : Memref sig .tc .vmem S11x4x8x128 .f32) (harg15 : arg15.IsWhole) (arg16 : Memref sig .tc .vmem S2x256x1024 .f32) (arg17 : Memref sig .tc .vmem S2x256x256 .bf16)
  (x0 : Vec F S512x512 .f32) (x1 : Vec F S512x256 .f32) (x2 : Vec F S512x1024 .f32) (x3 : Vec F S512x1024 .bf16) (x4 : Vec F S256x1024 .bf16)
  (x5 : Vec F S1x4x1024 .f32) (x6 : Vec F S1x1024x5632 .bf16) (x7 : Vec F S1x3x5632 .f32) (x8 : Vec F S1x1x5632 .f32) (x9 : Vec F S1x2816x1024 .bf16)
  (xs2 : Vec F S11x4x8x128 .f32)

/-- The zero state a sequence's first block starts from. -/
def zeroPiece : View.Piece (Elt F) S11x4x8x128 .f32 := ⟨Rect.unit ![0, 0, 0, 0] S11x4x8x128.size inb_S11x4x8x128_S11x4x8x128_0_0_0_0, k0_pay1⟩

/-- What a sequence's first block reads. -/
def insA : Ins F where
  ya r := View.readAt (Elt F) arg2.view r.toLoadRect (harg2.unread x0)
  yb r := View.readAt (Elt F) arg3.view r.toLoadRect (harg3.unread x1)
  h r := View.readAt (Elt F) arg4.view r.toLoadRect (harg4.unread x2)
  woa r := View.readAt (Elt F) arg5.view r.toLoadRect (harg5.unread x3)
  wob r := View.readAt (Elt F) arg6.view r.toLoadRect (harg6.unread x4)
  g r := View.readAt (Elt F) arg7.view r.toLoadRect (harg7.unread x5)
  wup r := View.readAt (Elt F) arg8.view r.toLoadRect (harg8.unread x6)
  cw r := View.readAt (Elt F) arg9.view r.toLoadRect (harg9.unread x7)
  cb r := View.readAt (Elt F) arg10.view r.toLoadRect (harg10.unread x8)
  wdn r := View.readAt (Elt F) arg11.view r.toLoadRect (harg11.unread x9)
  out := arg12.view
  xn := arg13.view
  st := arg14.view
  carry := arg15.view
  acc := arg16.view
  act := arg17.view
  crd n cc := arg15.view.readCov cc (rCarry n).toLoadRect
  base := [zeroPiece]

/-- What a later block reads. -/
def insB : Ins F where
  ya r := View.readAt (Elt F) arg2.view r.toLoadRect (harg2.unread x0)
  yb r := View.readAt (Elt F) arg3.view r.toLoadRect (harg3.unread x1)
  h r := View.readAt (Elt F) arg4.view r.toLoadRect (harg4.unread x2)
  woa r := View.readAt (Elt F) arg5.view r.toLoadRect (harg5.unread x3)
  wob r := View.readAt (Elt F) arg6.view r.toLoadRect (harg6.unread x4)
  g r := View.readAt (Elt F) arg7.view r.toLoadRect (harg7.unread x5)
  wup r := View.readAt (Elt F) arg8.view r.toLoadRect (harg8.unread x6)
  cw r := View.readAt (Elt F) arg9.view r.toLoadRect (harg9.unread x7)
  cb r := View.readAt (Elt F) arg10.view r.toLoadRect (harg10.unread x8)
  wdn r := View.readAt (Elt F) arg11.view r.toLoadRect (harg11.unread x9)
  out := arg12.view
  xn := arg13.view
  st := arg14.view
  carry := arg15.view
  acc := arg16.view
  act := arg17.view
  crd n cc := bif Nat.blt n 11 then View.readAt (Elt F) arg15.view (rCarry n).toLoadRect (harg15.unread xs2) else arg15.view.readCov cc (rCarry n).toLoadRect
  base := []
end

end Cert.PostIdeal.Post
end
-- ==== Proof.PostWindow.lean ====
/- What the feed-forward kernel's body reads back of its own writes. -/
module

public import proofs.«01_k».proof.Proof.PostPieces
public import Idealize.ShloMosaic.Lib.WritesUnit
public import Idealize.ShloMosaic.Lib.Pointwise

@[expose] public section

set_option maxRecDepth 16384

noncomputable section

namespace Cert.PostIdeal.Post

open Cert.PostIdeal Cert.PostIdeal.Gen
open Idealize.ShloMosaic Idealize.ShloMosaic.TcCoe Idealize.ShloMosaic.Tactic

variable {F : FTy → Type} [FloatOps F]

/-- A scratch's contents after a list of writes. -/
abbrev aft {s : Shape} {t : EltTy} (v : View sig .tc .vmem s t) (L : PL F s t) : s.Idx → Elt F t :=
  v.read (Elt F) (v.writes (Elt F) v.junk L)

/-- A rectangle read back right after it is written is what was written. -/
theorem cov_hit {s : Shape} {t : EltTy} (v : View sig .tc .vmem s t) (o o' size : Fin s.rank → ℕ) (inb : ∀ a, o a + size a ≤ s.size a)
    (inb' : ∀ a, o' a + size a ≤ s.size a) (h : o = o') (x : (⟨s.rank, size⟩ : Shape).Idx → Elt F t) (L : PL F s t) :
    v.readCov (⟨Rect.unit o size inb, x⟩ :: L) (Rect.unit o' size inb').toLoadRect = x := by
  subst h
  funext j
  exact View.read_writes_cons_emb v v.junk (Rect.unit o size inb) x L j

/-! ## Slabs -/

section
variable {w : ℕ} {t : EltTy} (v : View sig .tc .vmem ⟨3, ![2, 256, w]⟩ t)

theorem slab_hit (i k : ℕ) (h : i % 2 = k % 2) (x : (⟨3, ![1, 256, w]⟩ : Shape).Idx → Elt F t) (L : PL F ⟨3, ![2, 256, w]⟩ t) :
    v.readCov (⟨Rect.unit (s := ⟨3, ![2, 256, w]⟩) ![i % 2, 0, 0] (⟨3, ![1, 256, w]⟩ : Shape).size (slab_inb i), x⟩ :: L)
      (Rect.unit (s := ⟨3, ![2, 256, w]⟩) ![k % 2, 0, 0] (⟨3, ![1, 256, w]⟩ : Shape).size (slab_inb k)).toLoadRect = x := by
  exact cov_hit v _ _ _ _ _ (by rw [h]) x L

theorem slab_skip (i k : ℕ) (h : i % 2 ≠ k % 2) (x : (⟨3, ![1, 256, w]⟩ : Shape).Idx → Elt F t) (L : PL F ⟨3, ![2, 256, w]⟩ t) :
    v.readCov (⟨Rect.unit (s := ⟨3, ![2, 256, w]⟩) ![i % 2, 0, 0] (⟨3, ![1, 256, w]⟩ : Shape).size (slab_inb i), x⟩ :: L)
      (Rect.unit (s := ⟨3, ![2, 256, w]⟩) ![k % 2, 0, 0] (⟨3, ![1, 256, w]⟩ : Shape).size (slab_inb k)).toLoadRect
      = v.readCov L (Rect.unit (s := ⟨3, ![2, 256, w]⟩) ![k % 2, 0, 0] (⟨3, ![1, 256, w]⟩ : Shape).size (slab_inb k)).toLoadRect := by
  funext j
  have hj : (j 0).val < 1 := (j 0).isLt
  refine View.read_writes_cons_unit_of_not_mem v v.junk _ x L _ rfl (0 : Fin 3) ?_
  show k % 2 + 1 * (j 0).val < i % 2 ∨ i % 2 + 1 ≤ k % 2 + 1 * (j 0).val
  omega
end

theorem rows_hit (v : View sig .tc .vmem S512x1024 .f32) (i k : ℕ) (h : i % 2 = k % 2) (x : S256x1024.Idx → Elt F .f32) (L : PL F S512x1024 .f32) :
    v.readCov (⟨rH i, x⟩ :: L) (rH k).toLoadRect = x := by
  exact cov_hit v _ _ _ _ _ (by rw [h]) x L

theorem rows_skip (v : View sig .tc .vmem S512x1024 .f32) (i k : ℕ) (h : i % 2 ≠ k % 2) (x : S256x1024.Idx → Elt F .f32) (L : PL F S512x1024 .f32) :
    v.readCov (⟨rH i, x⟩ :: L) (rH k).toLoadRect = v.readCov L (rH k).toLoadRect := by
  funext j
  have hj : (j 0).val < 256 := (j 0).isLt
  refine View.read_writes_cons_unit_of_not_mem v v.junk _ x L _ rfl (0 : Fin 2) ?_
  show 256 * (k % 2) + 1 * (j 0).val < 256 * (i % 2) ∨ 256 * (i % 2) + 256 ≤ 256 * (k % 2) + 1 * (j 0).val
  omega

variable (p : Ins F)

/-- A step reads its slab's normed rows. -/
theorem xr_eq (n : ℕ) (i : ℕ) (hi : i < 2) (hn : n / 11 = i) : xr p n = xnv p i := by
  subst hn
  unfold xr xnL
  obtain h | h : n / 11 = 0 ∨ n / 11 = 1 := by omega
  · rw [h, slab_skip _ _ _ (by decide), slab_hit _ _ _ rfl]
  · rw [h, slab_hit _ _ _ rfl]

/-! ## The window -/

/-- A step's window below the carried rows is its up-projection. -/
theorem upL_hi (n : ℕ) (cc : PL F S11x4x8x128 .f32) (tl : PL F S2x4x264x128 .f32) (s : Fin 2) (hs : s.val = n % 11 % 2)
    (q : Fin 4) (ρ : Fin 264) (r : Fin 256) (hr : ρ.val = r.val + 8) (c : Fin 128) :
    aft p.st (upL p n cc tl) (ix4 s q ρ c) = upv p n q (ix4 (0 : Fin 1) (0 : Fin 1) r c) := by
  have hx : ∀ (k : ℕ), k = q.val → ∀ a, ((ix4 s q ρ c : S2x4x264x128.Idx) a).val
      = (![n % 11 % 2, k, 8, 0] : Fin 4 → ℕ) a + ((ix4 (0 : Fin 1) (0 : Fin 1) r c : S1x1x256x128.Idx) a).val := by
    intro k hk a
    fin_cases a
    · show s.val = n % 11 % 2 + 0; omega
    · show q.val = k + 0; omega
    · show ρ.val = 8 + r.val; omega
    · show c.val = 0 + c.val; omega
  have hq : ∀ (k : ℕ), k ≠ q.val → ((ix4 s q ρ c : S2x4x264x128.Idx) (1 : Fin 4)).val < k ∨ k + 1 ≤ ((ix4 s q ρ c : S2x4x264x128.Idx) (1 : Fin 4)).val := by
    intro k hk
    show q.val < k ∨ k + 1 ≤ q.val
    omega
  unfold aft upL
  fin_cases q
  · rw [View.read_writes_cons_unit_of_not_mem p.st _ _ _ _ _ rfl (1 : Fin 4) (hq 3 (by decide)),
      View.read_writes_cons_unit_of_not_mem p.st _ _ _ _ _ rfl (1 : Fin 4) (hq 1 (by decide)),
      View.read_writes_cons_unit_of_not_mem p.st _ _ _ _ _ rfl (1 : Fin 4) (hq 2 (by decide))]
    exact View.read_writes_cons_unit_of_mem p.st _ _ _ _ _ _ rfl (hx 0 rfl)
  · rw [View.read_writes_cons_unit_of_not_mem p.st _ _ _ _ _ rfl (1 : Fin 4) (hq 3 (by decide))]
    exact View.read_writes_cons_unit_of_mem p.st _ _ _ _ _ _ rfl (hx 1 rfl)
  · rw [View.read_writes_cons_unit_of_not_mem p.st _ _ _ _ _ rfl (1 : Fin 4) (hq 3 (by decide)),
      View.read_writes_cons_unit_of_not_mem p.st _ _ _ _ _ rfl (1 : Fin 4) (hq 1 (by decide))]
    exact View.read_writes_cons_unit_of_mem p.st _ _ _ _ _ _ rfl (hx 2 rfl)
  · exact View.read_writes_cons_unit_of_mem p.st _ _ _ _ _ _ rfl (hx 3 rfl)

theorem pay12_eq (x : Vec F S1x4x8x128 .f32) : k0_pay12 x = x := by
  unfold k0_pay12
  funext j
  obtain ⟨a, q, r, c, rfl⟩ : ∃ a q r c, j = ix4 a q r c := ⟨_, _, _, _, eq_ix4 j⟩
  obtain rfl : a = 0 := by ext; omega
  pointwise

theorem pay38_eq (x : Vec F S1x4x8x128 .f32) : k0_pay38 x = x := pay12_eq x

/-- A step's window's first rows are the carried rows it found. -/
theorem upL_lo (n : ℕ) (cc : PL F S11x4x8x128 .f32) (tl : PL F S2x4x264x128 .f32) (s : Fin 2) (hs : s.val = n % 11 % 2)
    (q : Fin 4) (ρ : Fin 264) (r : Fin 8) (hr : ρ.val = r.val) (c : Fin 128) :
    aft p.st (upL p n cc tl) (ix4 s q ρ c) = p.crd n cc (ix4 (0 : Fin 1) q r c) := by
  have hρ : ((ix4 s q ρ c : S2x4x264x128.Idx) (2 : Fin 4)).val < 8 ∨ 8 + 256 ≤ ((ix4 s q ρ c : S2x4x264x128.Idx) (2 : Fin 4)).val := by
    left; show ρ.val < 8; omega
  unfold aft upL
  rw [View.read_writes_cons_unit_of_not_mem p.st _ _ _ _ _ rfl (2 : Fin 4) hρ,
    View.read_writes_cons_unit_of_not_mem p.st _ _ _ _ _ rfl (2 : Fin 4) hρ,
    View.read_writes_cons_unit_of_not_mem p.st _ _ _ _ _ rfl (2 : Fin 4) hρ,
    View.read_writes_cons_unit_of_not_mem p.st _ _ _ _ _ rfl (2 : Fin 4) hρ, pay12_eq]
  refine View.read_writes_cons_unit_of_mem p.st _ _ _ _ _ _ rfl fun a => ?_
  fin_cases a
  · show s.val = n % 11 % 2 + 0; omega
  · show q.val = 0 + q.val; omega
  · show ρ.val = 0 + r.val; omega
  · show c.val = 0 + c.val; omega

/-- A step's window does not reach the other slot. -/
theorem upL_skip (n : ℕ) (cc : PL F S11x4x8x128 .f32) (tl : PL F S2x4x264x128 .f32) (s : Fin 2) (hs : s.val ≠ n % 11 % 2)
    (q : Fin 4) (ρ : Fin 264) (c : Fin 128) : aft p.st (upL p n cc tl) (ix4 s q ρ c) = aft p.st tl (ix4 s q ρ c) := by
  have h0 : n % 11 % 2 < 2 := Nat.mod_lt _ (by decide)
  have hρ : ((ix4 s q ρ c : S2x4x264x128.Idx) (0 : Fin 4)).val < n % 11 % 2 ∨ n % 11 % 2 + 1 ≤ ((ix4 s q ρ c : S2x4x264x128.Idx) (0 : Fin 4)).val := by
    show s.val < n % 11 % 2 ∨ n % 11 % 2 + 1 ≤ s.val
    omega
  unfold aft upL
  rw [View.read_writes_cons_unit_of_not_mem p.st _ _ _ _ _ rfl (0 : Fin 4) hρ,
    View.read_writes_cons_unit_of_not_mem p.st _ _ _ _ _ rfl (0 : Fin 4) hρ,
    View.read_writes_cons_unit_of_not_mem p.st _ _ _ _ _ rfl (0 : Fin 4) hρ,
    View.read_writes_cons_unit_of_not_mem p.st _ _ _ _ _ rfl (0 : Fin 4) hρ,
    View.read_writes_cons_unit_of_not_mem p.st _ _ _ _ _ rfl (0 : Fin 4) hρ]

theorem Q_snd (n : ℕ) : (Q p (n + 1)).2 = ⟨rCarry n, savev p n (stA p n)⟩ :: (Q p n).2 := by
  rw [Q, stA]
  cases Nat.beq (n % 11) 10 <;> rfl

/-- The newest window of a step's list is its own. -/
theorem Q_fst (n : ℕ) : ∃ m tl, m ≤ n ∧ n ≤ m + 1 ∧ (Q p n).1 = upL p n (Q p m).2 tl := by
  cases n with
  | zero => exact ⟨0, [], le_rfl, by omega, rfl⟩
  | succ n =>
    by_cases h : n % 11 = 10
    · refine ⟨n + 1, (Q p n).1, le_rfl, by omega, ?_⟩
      rw [Q_snd, Q, stA, h]; rfl
    · refine ⟨n, (Q p n).1, by omega, le_rfl, ?_⟩
      have hb : Nat.beq (n % 11) 10 = false := by
        cases hb : Nat.beq (n % 11) 10 with
        | false => rfl
        | true => exact absurd (Nat.eq_of_beq_eq_true hb) h
      rw [Q, hb]; rfl

/-- The window an activation reads, as its own step wrote it. -/
theorem stA_own (n : ℕ) : ∃ m tl, m ≤ n ∧ n ≤ m + 1 ∧ ∀ (s : Fin 2), s.val = n % 11 % 2 → ∀ (q : Fin 4) (ρ : Fin 264) (c : Fin 128),
    aft p.st (stA p n) (ix4 s q ρ c) = aft p.st (upL p n (Q p m).2 tl) (ix4 s q ρ c) := by
  obtain ⟨m, tl, h1, h2, e⟩ := Q_fst p n
  refine ⟨m, tl, h1, h2, fun s hs q ρ c => ?_⟩
  rw [← e]
  unfold stA
  cases hb : Nat.beq (n % 11) 10 with
  | true => rfl
  | false =>
    have h : n % 11 ≠ 10 := by
      intro h
      rw [h] at hb
      exact absurd hb (by decide)
    exact upL_skip p (n + 1) _ _ s (by omega) q ρ c

theorem stA_hi (n : ℕ) (s : Fin 2) (hs : s.val = n % 11 % 2)
    (q : Fin 4) (ρ : Fin 264) (r : Fin 256) (hr : ρ.val = r.val + 8) (c : Fin 128) :
    aft p.st (stA p n) (ix4 s q ρ c) = upv p n q (ix4 (0 : Fin 1) (0 : Fin 1) r c) := by
  obtain ⟨m, tl, -, -, e⟩ := stA_own p n
  rw [e s hs, upL_hi p n _ _ s hs q ρ r hr c]

/-- The saved rows are the up-projection's last eight. -/
theorem savev_eq (n : ℕ) (q : Fin 4) (r : Fin 8) (R : Fin 256) (hR : R.val = r.val + 248) (c : Fin 128) :
    savev p n (stA p n) (ix4 (0 : Fin 1) q r c) = upv p n q (ix4 (0 : Fin 1) (0 : Fin 1) R c) := by
  have h0 : n % 11 % 2 < 2 := Nat.mod_lt _ (by decide)
  unfold savev
  rw [pay38_eq, ← stA_hi p n ⟨n % 11 % 2, h0⟩ rfl q ⟨r.val + 256, by omega⟩ R (by show r.val + 256 = _; omega) c]
  show aft p.st (stA p n) _ = _
  congr 1
  funext a
  apply Fin.ext
  fin_cases a
  · show n % 11 % 2 + 1 * 0 = _; rfl
  · show 0 + 1 * q.val = q.val; omega
  · show 256 + 1 * r.val = r.val + 256; omega
  · show 0 + 1 * c.val = c.val; omega

/-! ## The carry -/

theorem carry_hit (n k : ℕ) (h : n % 11 = k % 11) (x : S1x4x8x128.Idx → Elt F .f32) (L : PL F S11x4x8x128 .f32) (v : View sig .tc .vmem S11x4x8x128 .f32) :
    v.readCov (⟨rCarry n, x⟩ :: L) (rCarry k).toLoadRect = x := by
  exact cov_hit v _ _ _ _ _ (by rw [h]) x L

theorem carry_skip (n k : ℕ) (h : n % 11 ≠ k % 11) (x : S1x4x8x128.Idx → Elt F .f32) (L : PL F S11x4x8x128 .f32) (v : View sig .tc .vmem S11x4x8x128 .f32) :
    v.readCov (⟨rCarry n, x⟩ :: L) (rCarry k).toLoadRect = v.readCov L (rCarry k).toLoadRect := by
  funext j
  have hj : (j 0).val < 1 := (j 0).isLt
  refine View.read_writes_cons_unit_of_not_mem v v.junk _ x L _ rfl (0 : Fin 4) ?_
  show k % 11 + 1 * (j 0).val < n % 11 ∨ n % 11 + 1 ≤ k % 11 + 1 * (j 0).val
  omega

/-- A row not yet saved holds what it held before the steps. -/
theorem carry_base (v : View sig .tc .vmem S11x4x8x128 .f32) (m k : ℕ) (hm : m ≤ k) (hk : k < 11) :
    v.readCov (Q p m).2 (rCarry k).toLoadRect = v.readCov p.base (rCarry k).toLoadRect := by
  induction m with
  | zero => rfl
  | succ m ih => rw [Q_snd, carry_skip _ _ (by omega), ih (by omega)]

/-- A row holds what the step eleven before saved in it. -/
theorem carry_saved (v : View sig .tc .vmem S11x4x8x128 .f32) (m k : ℕ) (hm : m ≤ k) (hk : k < m + 11) (h11 : 11 ≤ k) :
    v.readCov (Q p m).2 (rCarry k).toLoadRect = savev p (k - 11) (stA p (k - 11)) := by
  induction m with
  | zero => omega
  | succ m ih =>
    rw [Q_snd]
    by_cases h : k = m + 11
    · subst h
      rw [carry_hit _ _ (by omega), Nat.add_sub_cancel]
    · rw [carry_skip _ _ (by omega), ih (by omega) (by omega)]

/-- The body finds, in its first eleven steps, the rows of a state from before the block; then the rows it saved itself. -/
def Finds (ci : Vec F S11x4x8x128 .f32) : Prop := ∀ n m, n < 22 → m ≤ n → n ≤ m + 1 →
  p.crd n (Q p m).2 = if n < 11 then View.ld ci (rCarry n) else savev p (n - 11) (stA p (n - 11))

variable {p}

/-- The carried rows a step finds. -/
def cv (p : Ins F) (ci : Vec F S11x4x8x128 .f32) (n : ℕ) (q : Fin 4) (r : Fin 8) (c : Fin 128) : Elt F .f32 :=
  if n < 11 then ci (ix4 ⟨n % 11, Nat.mod_lt _ (by decide)⟩ q r c)
  else upv p (n - 11) q (ix4 (0 : Fin 1) (0 : Fin 1) ⟨r.val + 248, by omega⟩ c)

theorem stA_lo {ci : Vec F S11x4x8x128 .f32} (hf : Finds p ci) (n : ℕ) (hn : n < 22) (s : Fin 2) (hs : s.val = n % 11 % 2)
    (q : Fin 4) (ρ : Fin 264) (r : Fin 8) (hr : ρ.val = r.val) (c : Fin 128) :
    aft p.st (stA p n) (ix4 s q ρ c) = cv p ci n q r c := by
  obtain ⟨m, tl, h1, h2, e⟩ := stA_own p n
  rw [e s hs, upL_lo p n _ _ s hs q ρ r hr c, hf n m hn h1 h2]
  unfold cv
  by_cases h : n < 11
  · rw [if_pos h, if_pos h]
    refine congrArg ci ?_
    funext a
    apply Fin.ext
    fin_cases a
    · show n % 11 + 1 * 0 = n % 11; omega
    · show 0 + 1 * q.val = q.val; omega
    · show 0 + 1 * r.val = r.val; omega
    · show 0 + 1 * c.val = c.val; omega
  · rw [if_neg h, if_neg h]
    exact savev_eq p _ _ _ _ rfl _

/-- A window's row, `k` above the slab's rows. -/
theorem win_apply {ci : Vec F S11x4x8x128 .f32} (hf : Finds p ci) (n : ℕ) (hn : n < 22) (q k : ℕ) (hq : q < 4) (hk : k < 9) (r : Fin 256) (c : Fin 128) :
    win p n (stA p n) q k hq hk (ix4 (0 : Fin 1) (0 : Fin 1) r c)
      = if h : r.val + k < 8 then cv p ci n ⟨q, hq⟩ ⟨r.val + k, h⟩ c
        else upv p n ⟨q, hq⟩ (ix4 (0 : Fin 1) (0 : Fin 1) ⟨r.val + k - 8, by omega⟩ c) := by
  have h0 : n % 11 % 2 < 2 := Nat.mod_lt _ (by decide)
  have e : win p n (stA p n) q k hq hk (ix4 (0 : Fin 1) (0 : Fin 1) r c)
      = aft p.st (stA p n) (ix4 ⟨n % 11 % 2, h0⟩ ⟨q, hq⟩ ⟨r.val + k, by omega⟩ c) := by
    show aft p.st (stA p n) _ = _
    congr 1
    funext a
    apply Fin.ext
    fin_cases a
    · show n % 11 % 2 + 1 * 0 = _; rfl
    · show q + 1 * 0 = q; omega
    · show k + 1 * r.val = r.val + k; omega
    · show 0 + 1 * c.val = c.val; omega
  rw [e]
  by_cases h : r.val + k < 8
  · rw [dif_pos h]
    exact stA_lo hf n hn _ rfl _ _ _ rfl _
  · rw [dif_neg h]
    exact stA_hi p n _ rfl _ _ _ (by show r.val + k = r.val + k - 8 + 8; omega) _

/-- The carry's last contents. -/
theorem carryL_apply (v : View sig .tc .vmem S11x4x8x128 .f32) (j : Fin 11) (q : Fin 4) (r : Fin 8) (c : Fin 128) :
    aft v (carryL p) (ix4 j q r c) = upv p (11 + j.val) q (ix4 (0 : Fin 1) (0 : Fin 1) ⟨r.val + 248, by omega⟩ c) := by
  have h := carry_saved p v 22 (22 + j.val) (by omega) (by omega) (by omega)
  have e : 22 + j.val - 11 = 11 + j.val := by omega
  rw [e] at h
  rw [← savev_eq p (11 + j.val) q r _ rfl c, ← h]
  show aft v (carryL p) _ = aft v (carryL p) _
  congr 1
  funext a
  apply Fin.ext
  fin_cases a
  · show j.val = (22 + j.val) % 11 + 1 * 0; omega
  · show q.val = 0 + 1 * q.val; omega
  · show r.val = 0 + 1 * r.val; omega
  · show c.val = 0 + 1 * c.val; omega

/-! ## The accumulators and the output -/

variable (p)

theorem actL_hit (n : ℕ) : p.act.readCov (actL p n) (rAct (n % 11)).toLoadRect = actv p n (stA p n) := by
  cases n with
  | zero => exact slab_hit _ _ _ rfl _ _
  | succ n => exact slab_hit _ _ _ rfl _ _

/-- A slab's accumulator after some chunks. -/
def accV (i : ℕ) : ℕ → Vec F S1x256x1024 .f32
  | 0 => k0_pay8
  | k + 1 => k0_pay49 (k0_pay48 (accV i k) (actv p (11 * i + k) (stA p (11 * i + k))) (p.wdn (rWdn (11 * i + k))))

theorem accL_0 (k : ℕ) (hk : k ≤ 11) : p.acc.readCov (accL p k) (rSlab 0).toLoadRect = accV p 0 k
    ∧ p.acc.readCov (accL p k) (rSlab 1).toLoadRect = k0_pay8 := by
  induction k with
  | zero =>
    refine ⟨?_, ?_⟩
    · unfold accL accL0
      rw [slab_skip _ _ _ (by decide), slab_hit _ _ _ rfl]; rfl
    · unfold accL accL0
      rw [slab_hit _ _ _ rfl]
  | succ k ih =>
    obtain ⟨ih0, ih1⟩ := ih (by omega)
    have hd : k / 11 = 0 := by omega
    refine ⟨?_, ?_⟩
    · rw [accL, hd, slab_hit _ _ _ rfl, ih0, actL_hit, accV]
      rw [show 11 * 0 + k = k by omega]
    · rw [accL, hd, slab_skip _ _ _ (by decide), ih1]

theorem accL_1 (k : ℕ) (hk : k ≤ 11) : p.acc.readCov (accL p (11 + k)) (rSlab 1).toLoadRect = accV p 1 k := by
  induction k with
  | zero => exact (accL_0 p 11 le_rfl).2
  | succ k ih =>
    have hd : (11 + k) / 11 = 1 := by omega
    rw [← Nat.add_assoc, accL, hd, slab_hit _ _ _ rfl, ih (by omega), actL_hit, accV]

theorem accL_eq (i : Fin 2) : p.acc.readCov (accL p (11 * i.val + 11)) (rSlab i.val).toLoadRect = accV p i.val 11 := by
  fin_cases i
  · exact (accL_0 p 11 le_rfl).1
  · exact accL_1 p 11 le_rfl

/-- A slab's output rows. -/
def outV (i : ℕ) : FVec F S256x1024 .f32 := k0_pay267 (res1 p i) (accV p i 11) (g3 p)

theorem outL_apply (v : View sig .tc .vmem S512x1024 .f32) (i : Fin 2) (r : Fin 256) (R : Fin 512) (hR : R.val = 256 * i.val + r.val) (k : Fin 1024) :
    aft v (outL p) (ix2 R k) = outV p i.val (ix2 r k) := by
  have e : aft v (outL p) (ix2 R k) = v.readCov (outL p) (rH i.val).toLoadRect (ix2 r k) := by
    show aft v (outL p) _ = aft v (outL p) _
    congr 1
    funext a
    apply Fin.ext
    fin_cases a
    · show R.val = 256 * (i.val % 2) + 1 * r.val
      have := i.isLt
      omega
    · show k.val = 0 + 1 * k.val; omega
  rw [e]
  unfold outV
  rw [← accL_eq p i]
  fin_cases i
  · show v.readCov (outL p) (rH 0).toLoadRect (ix2 r k) = _
    unfold outL outL1
    rw [rows_skip _ _ _ (by decide), rows_hit _ _ _ rfl]
    unfold res2 outL0
    rw [rows_skip _ _ _ (by decide), rows_hit _ _ _ rfl]
  · show v.readCov (outL p) (rH 1).toLoadRect (ix2 r k) = _
    unfold outL
    rw [rows_hit _ _ _ rfl]
    unfold res2 outL1 outL0
    rw [rows_skip _ _ _ (by decide), rows_hit _ _ _ rfl]

end Cert.PostIdeal.Post
end
-- ==== Proof.PostSpec.lean ====
/- What the post layer's block computes, as plain formulas over the reals, row by row: the output projection, the
normed residual, the up-projection, the short causal convolution, the gated activation, the down-projection and the
second normed residual. -/
module

public import proofs.«01_k».proof.Proof.Gen.PostIdeal
public import Idealize.ShloMosaic.Lib.Pointwise

@[expose] public section

set_option maxRecDepth 16384

noncomputable section

namespace Cert.PostSpec

open Idealize.ShloMosaic

/-- A row's root-mean-square scale. -/
def rms (f : Fin 1024 → EReal) : EReal :=
  Ideal.rsqrt (Ideal.div (∑ k, f k * f k) (Scalar.ofBits (F := Ideal) .f32 0x44800000#32 : EReal) + (Scalar.ofBits (F := Ideal) .f32 0x358637BD#32 : EReal))

/-- The activation of a gate and a value. -/
def act (v g : EReal) : EReal :=
  g * ((Scalar.ofBits (F := Ideal) .f32 0x3F000000#32 : EReal) * ((Scalar.ofBits (F := Ideal) .f32 0x3F800000#32 : EReal) + Ideal.tanh ((Scalar.ofBits (F := Ideal) .f32 0x3F4C422A#32 : EReal) * (g + (Scalar.ofBits (F := Ideal) .f32 0x3D372713#32 : EReal) * (g * (g * g)))))) * v

/-- The arguments: the two mixers' rows, the residual rows, and one layer's weights. -/
structure Args where
  ya : Fin 32768 → Fin 512 → EReal
  yb : Fin 32768 → Fin 256 → EReal
  h : Fin 32768 → Fin 1024 → EReal
  wo : Fin 768 → Fin 1024 → EReal
  g : Fin 4 → Fin 1024 → EReal
  wu : Fin 1024 → Fin 5632 → EReal
  cw : Fin 3 → Fin 5632 → EReal
  cb : Fin 5632 → EReal
  wd : Fin 2816 → Fin 1024 → EReal

namespace Args

variable (A : Args)

/-- The output projection. -/
def o (R : Fin 32768) (k : Fin 1024) : EReal :=
  (∑ x : Fin 512, A.ya R x * A.wo ⟨x.val, by omega⟩ k) + ∑ x : Fin 256, A.yb R x * A.wo ⟨512 + x.val, by omega⟩ k

/-- The rows after the first residual. -/
def res (R : Fin 32768) (k : Fin 1024) : EReal := A.h R k + A.o R k * rms (A.o R) * A.g 1 k

/-- The normed rows. -/
def xn (R : Fin 32768) (k : Fin 1024) : EReal := A.res R k * rms (A.res R) * A.g 2 k

/-- The up-projection. -/
def u (R : Fin 32768) (n : Fin 5632) : EReal := ∑ k : Fin 1024, A.xn R k * A.wu k n

/-- The up-projection `d` rows before row `R` in its sequence: zero before the sequence's start. -/
def ub (R d : ℕ) (n : Fin 5632) : EReal :=
  if h : d ≤ R % 16384 ∧ R < 32768 then A.u ⟨R - d, by omega⟩ n else 0

/-- The short convolution. -/
def conv (R : Fin 32768) (n : Fin 5632) : EReal :=
  A.cb n + A.cw 0 n * A.ub R.val 2 n + A.cw 1 n * A.ub R.val 1 n + A.cw 2 n * A.ub R.val 0 n

/-- The gated activation. -/
def a (R : Fin 32768) (e : Fin 2816) : EReal := act (A.conv R ⟨e.val, by omega⟩) (A.conv R ⟨2816 + e.val, by omega⟩)

/-- The down-projection. -/
def f (R : Fin 32768) (k : Fin 1024) : EReal := ∑ e : Fin 2816, A.a R e * A.wd e k

/-- The rows the layer leaves. -/
def out (R : Fin 32768) (k : Fin 1024) : EReal := A.res R k + A.f R k * rms (A.f R) * A.g 3 k

end Args

end Cert.PostSpec
end
-- ==== Proof.PostPoint.lean ====
/- The post kernel's body arithmetic over the reals, read at one index. -/
module

public import proofs.«01_k».proof.Proof.PostWindow
public import proofs.«01_k».proof.Proof.PostSpec
public import Idealize.ShloMosaic.Lib.Pointwise

@[expose] public section

set_option maxRecDepth 16384

noncomputable section

namespace Cert.PostIdeal.Post

open Cert.PostIdeal Cert.PostIdeal.Gen
open Cert.PostSpec
open Idealize.ShloMosaic Idealize.ShloMosaic.TcCoe Idealize.ShloMosaic.Tactic

theorem pay5_apply (a : Vec Ideal S256x512 .f32) (b : Vec Ideal S512x1024 .bf16) (c : Vec Ideal S256x256 .f32) (d : Vec Ideal S256x1024 .bf16)
    (r : Fin 256) (k : Fin 1024) :
    k0_pay5 a b c d (ix2 r k) = ((∑ x : Fin 512, a (ix2 r x) * b (ix2 x k)) + ∑ x : Fin 256, c (ix2 r x) * d (ix2 x k) : EReal) := by
  pointwise [k0_pay5]

theorem pay6_apply (o h : FVec Ideal S256x1024 .f32) (g : Vec Ideal S1x1x1024 .f32) (r : Fin 256) (k : Fin 1024) :
    k0_pay6 o h g (ix2 r k) = (h (ix2 r k) + o (ix2 r k) * rms (fun x => o (ix2 r x)) * g (ix3 0 0 k) : EReal) := by
  pointwise [k0_pay6, rms]

theorem pay7_apply (o h : FVec Ideal S256x1024 .f32) (g g' : Vec Ideal S1x1x1024 .f32) (r : Fin 256) (k : Fin 1024) :
    k0_pay7 o h g g' (ix3 0 r k) = (k0_pay6 o h g (ix2 r k) * rms (fun x => k0_pay6 o h g (ix2 r x)) * g' (ix3 0 0 k) : EReal) := by
  generalize e : k0_pay6 o h g = z
  unfold k0_pay7
  rw [e]
  pointwise [rms]

theorem pay8_apply (r : Fin 256) (k : Fin 1024) : k0_pay8 (F := Ideal) (ix3 0 r k) = (0 : EReal) := by
  pointwise [k0_pay8]

theorem pay1_apply (j : Fin 11) (q : Fin 4) (r : Fin 8) (c : Fin 128) : k0_pay1 (F := Ideal) (ix4 j q r c) = (0 : EReal) := by
  pointwise [k0_pay1]

theorem pay13_apply (x : Vec Ideal S1x256x1024 .bf16) (w : Vec Ideal S1x1024x256 .bf16) (r : Fin 256) (c : Fin 128) :
    k0_pay13 x w (ix4 0 0 r c) = (∑ k : Fin 1024, x (ix3 0 r k) * w (ix3 0 k ⟨c.val, by omega⟩) : EReal) := by
  pointwise [k0_pay13, k0_pay10, k0_pay9]

theorem pay15_apply (x : Vec Ideal S1x256x1024 .bf16) (w : Vec Ideal S1x1024x256 .bf16) (r : Fin 256) (c : Fin 128) :
    k0_pay15 x w (ix4 0 0 r c) = (∑ k : Fin 1024, x (ix3 0 r k) * w (ix3 0 k ⟨128 + c.val, by omega⟩) : EReal) := by
  pointwise [k0_pay15, k0_pay10, k0_pay9]

theorem pay14_apply (x : Vec Ideal S1x256x1024 .bf16) (w : Vec Ideal S1x1024x256 .bf16) (r : Fin 256) (c : Fin 128) :
    k0_pay14 x w (ix4 0 0 r c) = (∑ k : Fin 1024, x (ix3 0 r k) * w (ix3 0 k ⟨c.val, by omega⟩) : EReal) := by
  pointwise [k0_pay14, k0_pay11, k0_pay9]

theorem pay16_apply (x : Vec Ideal S1x256x1024 .bf16) (w : Vec Ideal S1x1024x256 .bf16) (r : Fin 256) (c : Fin 128) :
    k0_pay16 (k0_pay11 x w) (ix4 0 0 r c) = (∑ k : Fin 1024, x (ix3 0 r k) * w (ix3 0 k ⟨128 + c.val, by omega⟩) : EReal) := by
  pointwise [k0_pay16, k0_pay11, k0_pay9]

theorem conv_apply (b w0 : Vec Ideal S1x1x128 .f32) (x0 : Vec Ideal S1x1x256x128 .f32) (w1 : Vec Ideal S1x1x128 .f32) (x1 : Vec Ideal S1x1x256x128 .f32)
    (w2 : Vec Ideal S1x1x128 .f32) (x2 : Vec Ideal S1x1x256x128 .f32) (r : Fin 256) (c : Fin 128) :
    k0_pay27 (k0_pay25 b w0 x0) w1 x1 w2 x2 (ix2 r c) = (b (ix3 0 0 c) + w0 (ix3 0 0 c) * x0 (ix4 0 0 r c) + w1 (ix3 0 0 c) * x1 (ix4 0 0 r c) + w2 (ix3 0 0 c) * x2 (ix4 0 0 r c) : EReal) := by
  pointwise [k0_pay27, k0_pay25]

theorem actH_apply (v g : FVec Ideal S256x128 .f32) (r : Fin 256) (c : Fin 128) :
    actH v g (ix2 r c) = act (v (ix2 r c)) (g (ix2 r c)) := by
  pointwise [actH, k0_pay30, act]

theorem actCat_apply (a b : FVec Ideal S256x128 .bf16) (r c : Fin 256) :
    (shapeCast S1x256x256 (concatenate S256x256 1 [⟨S256x128, a⟩, ⟨S256x128, b⟩] concatenates_S256x128_S256x128_S256x256_d1) shapeCasts_S256x256_S1x256x256 :
      FVec Ideal S1x256x256 .bf16) (ix3 0 r c)
      = if h : c.val < 128 then a (ix2 r ⟨c.val, h⟩) else b (ix2 r ⟨c.val - 128, by omega⟩) := by
  pointwise

theorem pay49_apply (a : Vec Ideal S1x256x1024 .f32) (x : Vec Ideal S1x256x256 .bf16) (w : Vec Ideal S1x256x1024 .bf16) (r : Fin 256) (k : Fin 1024) :
    k0_pay49 (k0_pay48 a x w) (ix3 0 r k) = (a (ix3 0 r k) + ∑ e : Fin 256, x (ix3 0 r e) * w (ix3 0 e k) : EReal) := by
  pointwise [k0_pay49, k0_pay48]

theorem pay267_apply (z : Vec Ideal S256x1024 .f32) (a : Vec Ideal S1x256x1024 .f32) (g : Vec Ideal S1x1x1024 .f32) (r : Fin 256) (k : Fin 1024) :
    k0_pay267 z a g (ix2 r k) = (z (ix2 r k) + a (ix3 0 r k) * rms (fun x => a (ix3 0 r x)) * g (ix3 0 0 k) : EReal) := by
  pointwise [k0_pay267, rms]

end Cert.PostIdeal.Post
end
-- ==== Proof.PostValue.lean ====
/- A block of the post kernel over the reals: its output rows and the rows it carries on are the layer's formula, when
what it reads is the layer's arguments and the carried rows it starts from are the up-projection's. -/
module

public import proofs.«01_k».proof.Proof.PostPoint

@[expose] public section

set_option maxRecDepth 16384

noncomputable section

namespace Cert.PostIdeal.Post

open Cert.PostIdeal Cert.PostIdeal.Gen
open Cert.PostSpec
open Idealize.ShloMosaic Idealize.ShloMosaic.TcCoe Idealize.ShloMosaic.Tactic

/-- Row `r` of slab `i` of block `t`. -/
def rowS (t : Fin 64) (i : Fin 2) (r : Fin 256) : Fin 32768 := ⟨512 * t.val + 256 * i.val + r.val, by omega⟩

/-- Column `c` of quarter `q` of a step's chunk. -/
def qcol (n q : ℕ) (hq : q < 4) (c : Fin 128) : Fin 5632 := ⟨2816 * (q / 2) + 256 * (n % 11) + 128 * (q % 2) + c.val, by omega⟩

/-- Column `c` of a half of a step's chunk. -/
def ucol (n d : ℕ) (hd : d < 2) (c : Fin 256) : Fin 5632 := ⟨2816 * d + 256 * (n % 11) + c.val, by omega⟩

/-- Row `e` of a step's chunk of the down-projection. -/
def drow (n : ℕ) (e : Fin 256) : Fin 2816 := ⟨256 * (n % 11) + e.val, by omega⟩

/-- What a block reads is the arguments' block `t`. -/
structure Reads (A : Args) (t : Fin 64) (p : Ins Ideal) : Prop where
  ya : ∀ (i : Fin 2) (r : Fin 256) (x : Fin 512), p.ya (rYa i.val) (ix2 r x) = A.ya (rowS t i r) x
  yb : ∀ (i : Fin 2) (r : Fin 256) (x : Fin 256), p.yb (rYb i.val) (ix2 r x) = A.yb (rowS t i r) x
  h : ∀ (i : Fin 2) (r : Fin 256) (x : Fin 1024), p.h (rH i.val) (ix2 r x) = A.h (rowS t i r) x
  woa : ∀ (x : Fin 512) (k : Fin 1024), p.woa rWoa (ix2 x k) = A.wo ⟨x.val, by omega⟩ k
  wob : ∀ (x : Fin 256) (k : Fin 1024), p.wob rWob (ix2 x k) = A.wo ⟨512 + x.val, by omega⟩ k
  g1 : ∀ k : Fin 1024, g1 p (ix3 0 0 k) = A.g 1 k
  g2 : ∀ k : Fin 1024, g2 p (ix3 0 0 k) = A.g 2 k
  g3 : ∀ k : Fin 1024, g3 p (ix3 0 0 k) = A.g 3 k
  wup : ∀ (n d : ℕ) (hd : d < 2) (k : Fin 1024) (c : Fin 256), p.wup (rUp n d hd) (ix3 0 k c) = A.wu k (ucol n d hd c)
  cw : ∀ (k n q : ℕ) (hk : k < 3) (hq : q < 4) (c : Fin 128), p.cw (rCw k n q hk hq) (ix3 0 0 c) = A.cw ⟨k, hk⟩ (qcol n q hq c)
  cb : ∀ (n q : ℕ) (hq : q < 4) (c : Fin 128), p.cb (rCb n q hq) (ix3 0 0 c) = A.cb (qcol n q hq c)
  wdn : ∀ (n : ℕ) (e : Fin 256) (k : Fin 1024), p.wdn (rWdn n) (ix3 0 e k) = A.wd (drow n e) k

/-- The carried rows a block starts from: the up-projection's last two rows before the block. -/
def Carries (A : Args) (t : Fin 64) (ci : Vec Ideal S11x4x8x128 .f32) : Prop :=
  ∀ (j : Fin 11) (q : Fin 4) (r : Fin 8) (c : Fin 128), 6 ≤ r.val → ci (ix4 j q r c) = A.ub (512 * t.val) (8 - r.val) (qcol j.val q.val q.isLt c)

variable {A : Args} {t : Fin 64} {p : Ins Ideal} (hr : Reads A t p)

include hr

theorem proj_value (i : Fin 2) (r : Fin 256) (k : Fin 1024) : proj p i.val (ix2 r k) = A.o (rowS t i r) k := by
  unfold proj Args.o
  rw [pay5_apply]
  simp only [hr.ya, hr.yb, hr.woa, hr.wob]

theorem res1_value (i : Fin 2) (r : Fin 256) (k : Fin 1024) : res1 p i.val (ix2 r k) = A.res (rowS t i r) k := by
  unfold res1 Args.res
  rw [pay6_apply, hr.h, hr.g1]
  simp only [proj_value hr]

theorem xnv_value (i : Fin 2) (r : Fin 256) (k : Fin 1024) : xnv p i.val (ix3 0 r k) = A.xn (rowS t i r) k := by
  unfold xnv Args.xn
  rw [pay7_apply, hr.g2]
  have e : ∀ x, k0_pay6 (proj p i.val) (p.h (rH i.val)) (g1 p) (ix2 r x) = A.res (rowS t i r) x := res1_value hr i r
  simp only [e]

/-- A step's up-projection. -/
theorem upv_value (i : Fin 2) (n : ℕ) (hn : n / 11 = i.val) (q : Fin 4) (r : Fin 256) (c : Fin 128) :
    upv p n q (ix4 0 0 r c) = A.u (rowS t i r) (qcol n q.val q.isLt c) := by
  have hx : ∀ k, xr p n (ix3 0 r k) = A.xn (rowS t i r) k := fun k => by
    rw [xr_eq p n i.val i.isLt hn]; exact xnv_value hr i r k
  have hc : n % 11 < 11 := Nat.mod_lt _ (by decide)
  unfold Args.u
  fin_cases q
  · refine (pay13_apply _ _ r c).trans (Finset.sum_congr rfl fun k _ => ?_)
    rw [hx, hr.wup]; congr 2
  · refine (pay15_apply _ _ r c).trans (Finset.sum_congr rfl fun k _ => ?_)
    rw [hx, hr.wup]; congr 2; apply Fin.ext; simp [ucol, qcol]; omega
  · refine (pay14_apply _ _ r c).trans (Finset.sum_congr rfl fun k _ => ?_)
    rw [hx, hr.wup]; congr 2
  · refine (pay16_apply _ _ r c).trans (Finset.sum_congr rfl fun k _ => ?_)
    rw [hx, hr.wup]; congr 2; apply Fin.ext; simp [ucol, qcol]; omega

/-- A block leaves the up-projection's last rows to the next. -/
theorem carry_value (v : View sig .tc .vmem S11x4x8x128 .f32) (t' : Fin 64) (ht : t'.val = t.val + 1) (h0 : t'.val % 32 ≠ 0) :
    Carries A t' (aft v (carryL p)) := by
  intro j q r c h6
  rw [carryL_apply, upv_value hr 1 (11 + j.val) (by show _ = 1; omega)]
  unfold Args.ub
  rw [dif_pos (by omega)]
  congr 1
  · apply Fin.ext; show 512 * t.val + 256 * 1 + (r.val + 248) = 512 * t'.val - (8 - r.val); omega
  · apply Fin.ext; show 2816 * (q.val / 2) + 256 * ((11 + j.val) % 11) + 128 * (q.val % 2) + c.val = 2816 * (q.val / 2) + 256 * (j.val % 11) + 128 * (q.val % 2) + c.val; omega

variable {ci : Vec Ideal S11x4x8x128 .f32} (hf : Finds p ci) (hc : Carries A t ci)
include hf hc

/-- A window's row is the up-projection's, one or two rows before for the first two taps. -/
theorem win_value (i : Fin 2) (n : ℕ) (hn : n / 11 = i.val) (q k : ℕ) (hq : q < 4) (hk : k < 9) (h6 : 6 ≤ k) (r : Fin 256) (c : Fin 128) :
    win p n (stA p n) q k hq hk (ix4 0 0 r c) = A.ub (rowS t i r).val (8 - k) (qcol n q hq c) := by
  have hi := i.isLt
  rw [win_apply hf n (by omega)]
  by_cases h : r.val + k < 8
  · rw [dif_pos h]
    unfold cv
    by_cases h11 : n < 11
    · rw [if_pos h11, hc _ _ _ _ (by show 6 ≤ r.val + k; omega)]
      have hi0 : i.val = 0 := by omega
      have e : qcol (n % 11) q hq c = qcol n q hq c := Fin.ext (by simp [qcol])
      show A.ub (512 * t.val) (8 - (r.val + k)) (qcol (n % 11) q hq c) = A.ub (512 * t.val + 256 * i.val + r.val) (8 - k) (qcol n q hq c)
      rw [e]
      unfold Args.ub
      by_cases hz : 8 - (r.val + k) ≤ 512 * t.val % 16384
      · rw [dif_pos ⟨hz, by omega⟩, dif_pos (by omega)]
        congr 1; apply Fin.ext; simp only; omega
      · rw [dif_neg (by omega), dif_neg (by omega)]
    · rw [if_neg h11, upv_value hr 0 (n - 11) (by show _ = 0; omega)]
      have hi1 : i.val = 1 := by omega
      have e : qcol (n - 11) q hq c = qcol n q hq c := Fin.ext (by simp only [qcol]; omega)
      show A.u _ (qcol (n - 11) q hq c) = A.ub (512 * t.val + 256 * i.val + r.val) (8 - k) (qcol n q hq c)
      rw [e]
      unfold Args.ub
      rw [dif_pos (by omega)]
      congr 1; apply Fin.ext; show 512 * t.val + 256 * 0 + (r.val + k + 248) = 512 * t.val + 256 * i.val + r.val - (8 - k); omega
  · rw [dif_neg h, upv_value hr i n hn]
    show A.u _ (qcol n q hq c) = A.ub (512 * t.val + 256 * i.val + r.val) (8 - k) (qcol n q hq c)
    unfold Args.ub
    rw [dif_pos (by omega)]
    congr 1; apply Fin.ext; show 512 * t.val + 256 * i.val + (r.val + k - 8) = 512 * t.val + 256 * i.val + r.val - (8 - k); omega

theorem cval_value (i : Fin 2) (n : ℕ) (hn : n / 11 = i.val) (q : ℕ) (hq : q < 4) (r : Fin 256) (c : Fin 128) :
    cval p n (stA p n) q hq (ix2 r c) = A.conv (rowS t i r) (qcol n q hq c) := by
  unfold cval
  rw [conv_apply, hr.cb, hr.cw, hr.cw, hr.cw, win_value hr hf hc i n hn q 6 hq _ (by decide), win_value hr hf hc i n hn q 7 hq _ (by decide),
    win_value hr hf hc i n hn q 8 hq _ (by decide)]
  rfl

theorem actv_value (i : Fin 2) (n : ℕ) (hn : n / 11 = i.val) (r e : Fin 256) :
    actv p n (stA p n) (ix3 0 r e) = A.a (rowS t i r) (drow n e) := by
  have hm : n % 11 < 11 := Nat.mod_lt _ (by decide)
  unfold actv Args.a
  rw [actCat_apply]
  by_cases h : e.val < 128
  · rw [dif_pos h, actH_apply, cval_value hr hf hc i n hn, cval_value hr hf hc i n hn]
    congr 2 <;> apply Fin.ext <;> simp [qcol, drow]
    omega
  · rw [dif_neg h, actH_apply, cval_value hr hf hc i n hn, cval_value hr hf hc i n hn]
    congr 2 <;> apply Fin.ext <;> simp [qcol, drow] <;> omega

/-- A slab's accumulator after some chunks: the down-projection over those chunks. -/
theorem accV_value (i : Fin 2) (k : ℕ) (hk : k ≤ 11) (r : Fin 256) (x : Fin 1024) :
    accV p i.val k (ix3 0 r x) = ∑ e ∈ Finset.range (256 * k), if h : e < 2816 then A.a (rowS t i r) ⟨e, h⟩ * A.wd ⟨e, h⟩ x else 0 := by
  induction k with
  | zero => unfold accV; rw [pay8_apply]; rfl
  | succ k ih =>
    rw [accV, pay49_apply, ih (by omega), Nat.mul_succ, Finset.sum_range_add, Finset.sum_range (n := 256)]
    congr 1
    refine Finset.sum_congr rfl fun e _ => ?_
    rw [dif_pos (by omega), actv_value hr hf hc i _ (by omega), hr.wdn]
    congr 2 <;> apply Fin.ext <;> simp [drow] <;> omega

theorem acc_value (i : Fin 2) (r : Fin 256) (x : Fin 1024) : accV p i.val 11 (ix3 0 r x) = A.f (rowS t i r) x := by
  rw [accV_value hr hf hc i 11 le_rfl]
  unfold Args.f
  rw [show 256 * 11 = 2816 from rfl, Finset.sum_range]
  refine Finset.sum_congr rfl fun e _ => ?_
  rw [dif_pos e.isLt]

theorem outV_value (i : Fin 2) (r : Fin 256) (k : Fin 1024) : outV p i.val (ix2 r k) = A.out (rowS t i r) k := by
  unfold outV Args.out
  rw [pay267_apply, res1_value hr, hr.g3]
  simp only [acc_value hr hf hc]

/-- A block's output rows are the layer's formula. -/
theorem out_value (v : View sig .tc .vmem S512x1024 .f32) (r : Fin 512) (k : Fin 1024) (R : Fin 32768) (hR : R.val = 512 * t.val + r.val) :
    aft v (outL p) (ix2 r k) = A.out R k := by
  rw [outL_apply p v ⟨r.val / 256, by omega⟩ ⟨r.val % 256, Nat.mod_lt _ (by decide)⟩ r (by simp only; omega) k, outV_value hr hf hc]
  congr 1
  apply Fin.ext
  simp only [rowS]
  omega

end Cert.PostIdeal.Post
end
-- ==== Proof.PostFinds.lean ====
/- What the carried rows hold when a step reads them: in the first eleven steps what the block started from, then what
the step eleven before saved. -/
module

public import proofs.«01_k».proof.Proof.PostWindow

@[expose] public section

set_option maxRecDepth 16384

noncomputable section

namespace Cert.PostIdeal.Post

open Cert.PostIdeal Cert.PostIdeal.Gen
open Idealize.ShloMosaic Idealize.ShloMosaic.TcCoe Idealize.ShloMosaic.Tactic

variable {F : FTy → Type} [FloatOps F]
variable (arg2 : Memref sig .tc .vmem S512x512 .f32) (harg2 : arg2.IsWhole) (arg3 : Memref sig .tc .vmem S512x256 .f32) (harg3 : arg3.IsWhole)
  (arg4 : Memref sig .tc .vmem S512x1024 .f32) (harg4 : arg4.IsWhole) (arg5 : Memref sig .tc .vmem S512x1024 .bf16) (harg5 : arg5.IsWhole)
  (arg6 : Memref sig .tc .vmem S256x1024 .bf16) (harg6 : arg6.IsWhole) (arg7 : Memref sig .tc .vmem S1x4x1024 .f32) (harg7 : arg7.IsWhole)
  (arg8 : Memref sig .tc .vmem S1x1024x5632 .bf16) (harg8 : arg8.IsWhole) (arg9 : Memref sig .tc .vmem S1x3x5632 .f32) (harg9 : arg9.IsWhole)
  (arg10 : Memref sig .tc .vmem S1x1x5632 .f32) (harg10 : arg10.IsWhole) (arg11 : Memref sig .tc .vmem S1x2816x1024 .bf16) (harg11 : arg11.IsWhole)
  (arg12 : Memref sig .tc .vmem S512x1024 .f32) (arg13 : Memref sig .tc .vmem S2x256x1024 .bf16) (arg14 : Memref sig .tc .vmem S2x4x264x128 .f32)
  (arg15 : Memref sig .tc .vmem S11x4x8x128 .f32) (harg15 : arg15.IsWhole) (arg16 : Memref sig .tc .vmem S2x256x1024 .f32) (arg17 : Memref sig .tc .vmem S2x256x256 .bf16)
  (x0 : Vec F S512x512 .f32) (x1 : Vec F S512x256 .f32) (x2 : Vec F S512x1024 .f32) (x3 : Vec F S512x1024 .bf16) (x4 : Vec F S256x1024 .bf16)
  (x5 : Vec F S1x4x1024 .f32) (x6 : Vec F S1x1024x5632 .bf16) (x7 : Vec F S1x3x5632 .f32) (x8 : Vec F S1x1x5632 .f32) (x9 : Vec F S1x2816x1024 .bf16)
  (xs2 : Vec F S11x4x8x128 .f32)

/-- The zero state's piece read back is zero everywhere. -/
theorem zero_read (v : View sig .tc .vmem S11x4x8x128 .f32) (n : ℕ) :
    v.readCov [zeroPiece (F := F)] (rCarry n).toLoadRect = View.ld (k0_pay1 (F := F)) (rCarry n) := by
  funext j
  show v.read (Elt F) (v.writes (Elt F) v.junk [zeroPiece]) ((rCarry n).emb j) = k0_pay1 ((rCarry n).emb j)
  have h := View.read_writes_cons_emb v v.junk (zeroPiece (F := F)).1 (zeroPiece (F := F)).2 [] ((rCarry n).emb j)
  refine Eq.trans ?_ h
  congr 1
  funext a
  apply Fin.ext
  fin_cases a
  · show ((rCarry n).emb j 0).val = 0 + 1 * ((rCarry n).emb j 0).val; omega
  · show ((rCarry n).emb j 1).val = 0 + 1 * ((rCarry n).emb j 1).val; omega
  · show ((rCarry n).emb j 2).val = 0 + 1 * ((rCarry n).emb j 2).val; omega
  · show ((rCarry n).emb j 3).val = 0 + 1 * ((rCarry n).emb j 3).val; omega

/-- A sequence's first block starts from zeros. -/
theorem findsA : Finds (insA arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9) (k0_pay1 (F := F)) := by
  intro n m hn hm hm'
  by_cases h : n < 11
  · rw [if_pos h]
    exact (carry_base _ _ m n hm h).trans (zero_read _ n)
  · rw [if_neg h]
    exact carry_saved _ _ m n hm (by omega) (by omega)

/-- A later block starts from what the block before left. -/
theorem findsB : Finds (insB arg2 harg2 arg3 harg3 arg4 harg4 arg5 harg5 arg6 harg6 arg7 harg7 arg8 harg8 arg9 harg9 arg10 harg10 arg11 harg11 arg12 arg13 arg14 arg15 harg15 arg16 arg17 x0 x1 x2 x3 x4 x5 x6 x7 x8 x9 xs2) xs2 := by
  intro n m hn hm hm'
  by_cases h : n < 11
  · rw [if_pos h]
    show (bif Nat.blt n 11 then View.readAt (Elt F) arg15.view (rCarry n).toLoadRect (harg15.unread xs2) else _) = _
    rw [show Nat.blt n 11 = true from by simpa [Nat.blt] using h]
    show View.readAt (Elt F) arg15.view (rCarry n).toLoadRect (harg15.unread xs2) = _
    rw [View.readAt_eq_ld, harg15.read_unread]
  · rw [if_neg h]
    show (bif Nat.blt n 11 then View.readAt (Elt F) arg15.view (rCarry n).toLoadRect (harg15.unread xs2) else _) = _
    have hb : Nat.blt n 11 = false := by
      cases hb : Nat.blt n 11 with
      | false => rfl
      | true => exact absurd (Nat.le_of_ble_eq_true hb) (by omega)
    rw [hb]
    exact carry_saved _ _ m n hm (by omega) (by omega)

end Cert.PostIdeal.Post
end
-- ==== Proof.PostReads.lean ====
/- What a block of the post kernel reads through its rectangles is the layer's arguments, when each of its operand blocks
is. -/
module

public import proofs.«01_k».proof.Proof.PostValue
public import proofs.«01_k».proof.Proof.PostFinds

@[expose] public section

set_option maxRecDepth 16384

noncomputable section

namespace Cert.PostIdeal.Post

open Cert.PostIdeal Cert.PostIdeal.Gen
open Cert.PostSpec
open Idealize.ShloMosaic Idealize.ShloMosaic.TcCoe Idealize.ShloMosaic.Tactic

/-- Row `r` of block `t`. -/
def rowB (t : Fin 64) (r : Fin 512) : Fin 32768 := ⟨512 * t.val + r.val, by omega⟩

/-- The operand blocks of grid point `t` hold the layer's arguments. -/
structure Blocks (A : Args) (t : Fin 64) (x0 : Vec Ideal S512x512 .f32) (x1 : Vec Ideal S512x256 .f32) (x2 : Vec Ideal S512x1024 .f32)
    (x3 : Vec Ideal S512x1024 .bf16) (x4 : Vec Ideal S256x1024 .bf16) (x5 : Vec Ideal S1x4x1024 .f32) (x6 : Vec Ideal S1x1024x5632 .bf16)
    (x7 : Vec Ideal S1x3x5632 .f32) (x8 : Vec Ideal S1x1x5632 .f32) (x9 : Vec Ideal S1x2816x1024 .bf16) : Prop where
  b0 : ∀ (r : Fin 512) (x : Fin 512), x0 (ix2 r x) = A.ya (rowB t r) x
  b1 : ∀ (r : Fin 512) (x : Fin 256), x1 (ix2 r x) = A.yb (rowB t r) x
  b2 : ∀ (r : Fin 512) (x : Fin 1024), x2 (ix2 r x) = A.h (rowB t r) x
  b3 : ∀ (x : Fin 512) (k : Fin 1024), x3 (ix2 x k) = A.wo ⟨x.val, by omega⟩ k
  b4 : ∀ (x : Fin 256) (k : Fin 1024), x4 (ix2 x k) = A.wo ⟨512 + x.val, by omega⟩ k
  b5 : ∀ (i : Fin 4) (k : Fin 1024), x5 (ix3 0 i k) = A.g i k
  b6 : ∀ (k : Fin 1024) (n : Fin 5632), x6 (ix3 0 k n) = A.wu k n
  b7 : ∀ (i : Fin 3) (n : Fin 5632), x7 (ix3 0 i n) = A.cw i n
  b8 : ∀ n : Fin 5632, x8 (ix3 0 0 n) = A.cb n
  b9 : ∀ (e : Fin 2816) (k : Fin 1024), x9 (ix3 0 e k) = A.wd e k

/-- The row of a block a slab's row is. -/
def rowI (i : Fin 2) (r : Fin 256) : Fin 512 := ⟨256 * i.val + r.val, by omega⟩

theorem rows_emb {w : ℕ} (i : Fin 2) (r : Fin 256) (x : Fin w) :
    (Rect.unit (s := ⟨2, ![512, w]⟩) ![256 * (i.val % 2), 0] (⟨2, ![256, w]⟩ : Shape).size (rows_inb i.val)).emb (ix2 r x) = ix2 (rowI i r) x := by
  funext a
  apply Fin.ext
  fin_cases a
  · show 256 * (i.val % 2) + 1 * r.val = 256 * i.val + r.val; omega
  · show 0 + 1 * x.val = x.val; omega

theorem row_eq (t : Fin 64) (i : Fin 2) (r : Fin 256) : rowB t (rowI i r) = rowS t i r :=
  Fin.ext (by show 512 * t.val + (256 * i.val + r.val) = 512 * t.val + 256 * i.val + r.val; omega)

theorem g_emb (i : Fin 4) (inb : ∀ a, (![0, i.val, 0] : Fin 3 → ℕ) a + S1x1x1024.size a ≤ S1x4x1024.size a) (k : Fin 1024) :
    (Rect.unit (s := S1x4x1024) ![0, i.val, 0] S1x1x1024.size inb).emb (ix3 0 0 k) = ix3 0 i k := by
  funext a
  apply Fin.ext
  fin_cases a
  · rfl
  · show i.val + 1 * 0 = i.val; omega
  · show 0 + 1 * k.val = k.val; omega

variable (arg2 : Memref sig .tc .vmem S512x512 .f32) (harg2 : arg2.IsWhole) (arg3 : Memref sig .tc .vmem S512x256 .f32) (harg3 : arg3.IsWhole)
  (arg4 : Memref sig .tc .vmem S512x1024 .f32) (harg4 : arg4.IsWhole) (arg5 : Memref sig .tc .vmem S512x1024 .bf16) (harg5 : arg5.IsWhole)
  (arg6 : Memref sig .tc .vmem S256x1024 .bf16) (harg6 : arg6.IsWhole) (arg7 : Memref sig .tc .vmem S1x4x1024 .f32) (harg7 : arg7.IsWhole)
  (arg8 : Memref sig .tc .vmem S1x1024x5632 .bf16) (harg8 : arg8.IsWhole) (arg9 : Memref sig .tc .vmem S1x3x5632 .f32) (harg9 : arg9.IsWhole)
  (arg10 : Memref sig .tc .vmem S1x1x5632 .f32) (harg10 : arg10.IsWhole) (arg11 : Memref sig .tc .vmem S1x2816x1024 .bf16) (harg11 : arg11.IsWhole)
  (arg12 : Memref sig .tc .vmem S512x1024 .f32) (arg13 : Memref sig .tc .vmem S2x256x1024 .bf16) (arg14 : Memref sig .tc .vmem S2x4x264x128 .f32)
  (arg15 : Memref sig .tc .vmem S11x4x8x128 .f32) (harg15 : arg15.IsWhole) (arg16 : Memref sig .tc .vmem S2x256x1024 .f32) (arg17 : Memref sig .tc .vmem S2x256x256 .bf16)
  (x0 : Vec Ideal S512x512 .f32) (x1 : Vec Ideal S512x256 .f32) (x2 : Vec Ideal S512x1024 .f32) (x3 : Vec Ideal S512x1024 .bf16) (x4 : Vec Ideal S256x1024 .bf16)
  (x5 : Vec Ideal S1x4x1024 .f32) (x6 : Vec Ideal S1x1024x5632 .bf16) (x7 : Vec Ideal S1x3x5632 .f32) (x8 : Vec Ideal S1x1x5632 .f32) (x9 : Vec Ideal S1x2816x1024 .bf16)
  (xs2 : Vec Ideal S11x4x8x128 .f32)

variable (A : Args) (t : Fin 64) (hb : Blocks A t x0 x1 x2 x3 x4 x5 x6 x7 x8 x9)
include hb

/-- A sequence's first block reads the arguments. -/
theorem readsA : Reads A t (insA arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9) where
  ya i r x := by
    show View.readAt (Elt Ideal) arg2.view (rYa i.val).toLoadRect (harg2.unread x0) (ix2 r x) = _
    rw [View.readAt_eq_ld, harg2.read_unread, ← row_eq, ← hb.b0, ← rows_emb]
    rfl
  yb i r x := by
    show View.readAt (Elt Ideal) arg3.view (rYb i.val).toLoadRect (harg3.unread x1) (ix2 r x) = _
    rw [View.readAt_eq_ld, harg3.read_unread, ← row_eq, ← hb.b1, ← rows_emb]
    rfl
  h i r x := by
    show View.readAt (Elt Ideal) arg4.view (rH i.val).toLoadRect (harg4.unread x2) (ix2 r x) = _
    rw [View.readAt_eq_ld, harg4.read_unread, ← row_eq, ← hb.b2, ← rows_emb]
    rfl
  woa x k := by
    show View.readAt (Elt Ideal) arg5.view rWoa.toLoadRect (harg5.unread x3) (ix2 x k) = _
    rw [View.readAt_eq_ld, harg5.read_unread, ← hb.b3]
    show x3 _ = x3 _
    congr 1; funext a; apply Fin.ext
    fin_cases a
    · show 0 + 1 * x.val = x.val; omega
    · show 0 + 1 * k.val = k.val; omega
  wob x k := by
    show View.readAt (Elt Ideal) arg6.view rWob.toLoadRect (harg6.unread x4) (ix2 x k) = _
    rw [View.readAt_eq_ld, harg6.read_unread, ← hb.b4]
    show x4 _ = x4 _
    congr 1; funext a; apply Fin.ext
    fin_cases a
    · show 0 + 1 * x.val = x.val; omega
    · show 0 + 1 * k.val = k.val; omega
  g1 k := by
    show View.readAt (Elt Ideal) arg7.view (Rect.unit (s := S1x4x1024) ![0, 1, 0] S1x1x1024.size inb_S1x4x1024_S1x1x1024_0_1_0).toLoadRect (harg7.unread x5) (ix3 0 0 k) = _
    rw [View.readAt_eq_ld, harg7.read_unread, ← hb.b5, ← g_emb 1 inb_S1x4x1024_S1x1x1024_0_1_0]
    rfl
  g2 k := by
    show View.readAt (Elt Ideal) arg7.view (Rect.unit (s := S1x4x1024) ![0, 2, 0] S1x1x1024.size inb_S1x4x1024_S1x1x1024_0_2_0).toLoadRect (harg7.unread x5) (ix3 0 0 k) = _
    rw [View.readAt_eq_ld, harg7.read_unread, ← hb.b5, ← g_emb 2 inb_S1x4x1024_S1x1x1024_0_2_0]
    rfl
  g3 k := by
    show View.readAt (Elt Ideal) arg7.view (Rect.unit (s := S1x4x1024) ![0, 3, 0] S1x1x1024.size inb_S1x4x1024_S1x1x1024_0_3_0).toLoadRect (harg7.unread x5) (ix3 0 0 k) = _
    rw [View.readAt_eq_ld, harg7.read_unread, ← hb.b5, ← g_emb 3 inb_S1x4x1024_S1x1x1024_0_3_0]
    rfl
  wup n d hd k c := by
    show View.readAt (Elt Ideal) arg8.view (rUp n d hd).toLoadRect (harg8.unread x6) (ix3 0 k c) = _
    rw [View.readAt_eq_ld, harg8.read_unread, ← hb.b6]
    show x6 _ = x6 _
    congr 1; funext a; apply Fin.ext
    fin_cases a
    · rfl
    · show 0 + 1 * k.val = k.val; omega
    · show 2816 * d + 256 * (n % 11) + 1 * c.val = 2816 * d + 256 * (n % 11) + c.val; omega
  cw k n q hk hq c := by
    show View.readAt (Elt Ideal) arg9.view (rCw k n q hk hq).toLoadRect (harg9.unread x7) (ix3 0 0 c) = _
    rw [View.readAt_eq_ld, harg9.read_unread, ← hb.b7]
    show x7 _ = x7 _
    congr 1; funext a; apply Fin.ext
    fin_cases a
    · rfl
    · show k + 1 * 0 = k; omega
    · show 2816 * (q / 2) + 256 * (n % 11) + 128 * (q % 2) + 1 * c.val = 2816 * (q / 2) + 256 * (n % 11) + 128 * (q % 2) + c.val; omega
  cb n q hq c := by
    show View.readAt (Elt Ideal) arg10.view (rCb n q hq).toLoadRect (harg10.unread x8) (ix3 0 0 c) = _
    rw [View.readAt_eq_ld, harg10.read_unread, ← hb.b8]
    show x8 _ = x8 _
    congr 1; funext a; apply Fin.ext
    fin_cases a
    · rfl
    · rfl
    · show 2816 * (q / 2) + 256 * (n % 11) + 128 * (q % 2) + 1 * c.val = 2816 * (q / 2) + 256 * (n % 11) + 128 * (q % 2) + c.val; omega
  wdn n e k := by
    show View.readAt (Elt Ideal) arg11.view (rWdn n).toLoadRect (harg11.unread x9) (ix3 0 e k) = _
    rw [View.readAt_eq_ld, harg11.read_unread, ← hb.b9]
    show x9 _ = x9 _
    congr 1; funext a; apply Fin.ext
    fin_cases a
    · rfl
    · show 256 * (n % 11) + 1 * e.val = 256 * (n % 11) + e.val; omega
    · show 0 + 1 * k.val = k.val; omega

/-- A later block reads the arguments. -/
theorem readsB : Reads A t (insB arg2 harg2 arg3 harg3 arg4 harg4 arg5 harg5 arg6 harg6 arg7 harg7 arg8 harg8 arg9 harg9 arg10 harg10 arg11 harg11 arg12 arg13 arg14 arg15 harg15 arg16 arg17 x0 x1 x2 x3 x4 x5 x6 x7 x8 x9 xs2) := by
  have h := readsA arg2 harg2 arg3 harg3 arg4 harg4 arg5 harg5 arg6 harg6 arg7 harg7 arg8 harg8 arg9 harg9 arg10 harg10 arg11 harg11 arg12 arg13 arg14 arg15 arg16 arg17 x0 x1 x2 x3 x4 x5 x6 x7 x8 x9 A t hb
  exact ⟨h.ya, h.yb, h.h, h.woa, h.wob, h.g1, h.g2, h.g3, h.wup, h.cw, h.cb, h.wdn⟩

end Cert.PostIdeal.Post
end
-- ==== Proof.PostOperands.lean ====
/- The operand blocks of the post kernel, read at an index: rows `512 t` on of the two mixers' rows and of the residual
rows, the two row ranges of the output projection, and layer 1 of each stacked weight. -/
module

public import proofs.«01_k».proof.Proof.PostReads
public import proofs.«01_k».proof.Proof.Gen.PostIdeal.Value
public import Idealize.ShloMosaic.Lib.Claim

@[expose] public section

set_option maxRecDepth 16384

noncomputable section

namespace Cert.PostIdeal.Post

open Cert.PostIdeal Cert.PostIdeal.Gen
open Cert.PostSpec
open Idealize.ShloMosaic Idealize.ShloMosaic.TcCoe Idealize.ShloMosaic.Tactic

variable (m : (ℓ : Loc nD τ sig) → Buf (Elt Ideal) ℓ) (c : Dev nD)

/-- The layer's arguments as the run finds them. -/
def argsOf : Args where
  ya R x := m ((c : Thread nD τ).loc main_arg0) (ix2 R x)
  yb R x := m ((c : Thread nD τ).loc main_arg1) (ix2 R x)
  h R x := m ((c : Thread nD τ).loc main_arg2) (ix2 R x)
  wo x k := m ((c : Thread nD τ).loc main_arg3) (ix2 x k)
  g i k := m ((c : Thread nD τ).loc main_arg4) (ix3 1 i k)
  wu k n := m ((c : Thread nD τ).loc main_arg5) (ix3 1 k n)
  cw i n := m ((c : Thread nD τ).loc main_arg6) (ix3 1 i n)
  cb n := m ((c : Thread nD τ).loc main_arg7) (ix2 1 n)
  wd e k := m ((c : Thread nD τ).loc main_arg8) (ix3 1 e k)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)

theorem idx6 : ∀ t : Fin cfg0.N, win0_6.index t (0 : Fin 3) = 1 ∧ win0_6.index t (1 : Fin 3) = 0 ∧ win0_6.index t (2 : Fin 3) = 0 :=
  (by decide +kernel : ∀ t : Fin grid0.N, _)

theorem idx7 : ∀ t : Fin cfg0.N, win0_7.index t (0 : Fin 3) = 1 ∧ win0_7.index t (1 : Fin 3) = 0 ∧ win0_7.index t (2 : Fin 3) = 0 :=
  (by decide +kernel : ∀ t : Fin grid0.N, _)

theorem idx8 : ∀ t : Fin cfg0.N, win0_8.index t (0 : Fin 3) = 1 ∧ win0_8.index t (1 : Fin 3) = 0 ∧ win0_8.index t (2 : Fin 3) = 0 :=
  (by decide +kernel : ∀ t : Fin grid0.N, _)

theorem idx9 : ∀ t : Fin cfg0.N, win0_9.index t (0 : Fin 3) = 1 ∧ win0_9.index t (1 : Fin 3) = 0 ∧ win0_9.index t (2 : Fin 3) = 0 :=
  (by decide +kernel : ∀ t : Fin grid0.N, _)

variable (t : Fin cfg0.N)

/-- The grid point, as a block number. -/
abbrev tB : Fin 64 := t.cast N_0

theorem iblk0 (r : Fin 512) (x : Fin 512) : (iblk m c 0 t : Vec Ideal S512x512 .f32) (ix2 r x) = (argsOf m c).ya (rowB (tB t) r) x := by
  show V m c main_arg0 (((cfg0.win 0).blk t).view.emb (ix2 r x)) = m ((c : Thread nD τ).loc main_arg0) (ix2 (rowB (tB t) r) x)
  rw [V_main_arg0]
  congr 1
  obtain ⟨e0, e1⟩ := idx0 t
  have hb0 : (((cfg0.win 0).blk t).view.emb (ix2 r x) 0).val = win0_0.index t (0 : Fin 2) * 512 + 1 * r.val := rfl
  have hb1 : (((cfg0.win 0).blk t).view.emb (ix2 r x) 1).val = win0_0.index t (1 : Fin 2) * 512 + 1 * x.val := rfl
  funext a; apply Fin.ext
  match a with
  | ⟨0, _⟩ => show (((cfg0.win 0).blk t).view.emb (ix2 r x) 0).val = 512 * t.val + r.val; rw [hb0]; omega
  | ⟨1, _⟩ => show (((cfg0.win 0).blk t).view.emb (ix2 r x) 1).val = x.val; rw [hb1]; omega

theorem iblk1 (r : Fin 512) (x : Fin 256) : (iblk m c 1 t : Vec Ideal S512x256 .f32) (ix2 r x) = (argsOf m c).yb (rowB (tB t) r) x := by
  show V m c main_arg1 (((cfg0.win 1).blk t).view.emb (ix2 r x)) = m ((c : Thread nD τ).loc main_arg1) (ix2 (rowB (tB t) r) x)
  rw [V_main_arg1]
  congr 1
  obtain ⟨e0, e1⟩ := idx1 t
  have hb0 : (((cfg0.win 1).blk t).view.emb (ix2 r x) 0).val = win0_1.index t (0 : Fin 2) * 512 + 1 * r.val := rfl
  have hb1 : (((cfg0.win 1).blk t).view.emb (ix2 r x) 1).val = win0_1.index t (1 : Fin 2) * 256 + 1 * x.val := rfl
  funext a; apply Fin.ext
  match a with
  | ⟨0, _⟩ => show (((cfg0.win 1).blk t).view.emb (ix2 r x) 0).val = 512 * t.val + r.val; rw [hb0]; omega
  | ⟨1, _⟩ => show (((cfg0.win 1).blk t).view.emb (ix2 r x) 1).val = x.val; rw [hb1]; omega

theorem iblk2 (r : Fin 512) (x : Fin 1024) : (iblk m c 2 t : Vec Ideal S512x1024 .f32) (ix2 r x) = (argsOf m c).h (rowB (tB t) r) x := by
  show V m c main_arg2 (((cfg0.win 2).blk t).view.emb (ix2 r x)) = m ((c : Thread nD τ).loc main_arg2) (ix2 (rowB (tB t) r) x)
  rw [V_main_arg2]
  congr 1
  obtain ⟨e0, e1⟩ := idx2 t
  have hb0 : (((cfg0.win 2).blk t).view.emb (ix2 r x) 0).val = win0_2.index t (0 : Fin 2) * 512 + 1 * r.val := rfl
  have hb1 : (((cfg0.win 2).blk t).view.emb (ix2 r x) 1).val = win0_2.index t (1 : Fin 2) * 1024 + 1 * x.val := rfl
  funext a; apply Fin.ext
  match a with
  | ⟨0, _⟩ => show (((cfg0.win 2).blk t).view.emb (ix2 r x) 0).val = 512 * t.val + r.val; rw [hb0]; omega
  | ⟨1, _⟩ => show (((cfg0.win 2).blk t).view.emb (ix2 r x) 1).val = x.val; rw [hb1]; omega

theorem iblk3 (x : Fin 512) (k : Fin 1024) : (iblk m c 3 t : Vec Ideal S512x1024 .bf16) (ix2 x k) = (argsOf m c).wo ⟨x.val, by omega⟩ k := by
  show V m c main_v4 (((cfg0.win 3).blk t).view.emb (ix2 x k)) = m ((c : Thread nD τ).loc main_arg3) (ix2 _ k)
  obtain ⟨e0, e1⟩ := idx3 t
  have hb0 : (((cfg0.win 3).blk t).view.emb (ix2 x k) 0).val = win0_3.index t (0 : Fin 2) * 512 + 1 * x.val := rfl
  have hb1 : (((cfg0.win 3).blk t).view.emb (ix2 x k) 1).val = win0_3.index t (1 : Fin 2) * 1024 + 1 * k.val := rfl
  have he : (((cfg0.win 3).blk t).view.emb (ix2 x k)) = (ix2 x k : S512x1024.Idx) := by
    funext a; apply Fin.ext
    match a with
    | ⟨0, _⟩ => show (((cfg0.win 3).blk t).view.emb (ix2 x k) 0).val = x.val; rw [hb0]; omega
    | ⟨1, _⟩ => show (((cfg0.win 3).blk t).view.emb (ix2 x k) 1).val = k.val; rw [hb1]; omega
  rw [he]
  entry_read
  pointwise

theorem iblk4 (x : Fin 256) (k : Fin 1024) : (iblk m c 4 t : Vec Ideal S256x1024 .bf16) (ix2 x k) = (argsOf m c).wo ⟨512 + x.val, by omega⟩ k := by
  show V m c main_v6 (((cfg0.win 4).blk t).view.emb (ix2 x k)) = m ((c : Thread nD τ).loc main_arg3) (ix2 _ k)
  obtain ⟨e0, e1⟩ := idx4 t
  have hb0 : (((cfg0.win 4).blk t).view.emb (ix2 x k) 0).val = win0_4.index t (0 : Fin 2) * 256 + 1 * x.val := rfl
  have hb1 : (((cfg0.win 4).blk t).view.emb (ix2 x k) 1).val = win0_4.index t (1 : Fin 2) * 1024 + 1 * k.val := rfl
  have he : (((cfg0.win 4).blk t).view.emb (ix2 x k)) = (ix2 x k : S256x1024.Idx) := by
    funext a; apply Fin.ext
    match a with
    | ⟨0, _⟩ => show (((cfg0.win 4).blk t).view.emb (ix2 x k) 0).val = x.val; rw [hb0]; omega
    | ⟨1, _⟩ => show (((cfg0.win 4).blk t).view.emb (ix2 x k) 1).val = k.val; rw [hb1]; omega
  rw [he]
  entry_read
  pointwise

theorem iblk5 (i : Fin 4) (k : Fin 1024) : (iblk m c 5 t : Vec Ideal S1x4x1024 .f32) (ix3 (0 : Fin 1) i k) = (argsOf m c).g i k := by
  show V m c main_arg4 (((cfg0.win 5).blk t).view.emb (ix3 (0 : Fin 1) i k)) = m ((c : Thread nD τ).loc main_arg4) (ix3 1 i k)
  obtain ⟨e0, e1, e2⟩ := idx5 t
  have hb0 : (((cfg0.win 5).blk t).view.emb (ix3 (0 : Fin 1) i k) 0).val = win0_5.index t (0 : Fin 3) * 1 + 1 * 0 := rfl
  have hb1 : (((cfg0.win 5).blk t).view.emb (ix3 (0 : Fin 1) i k) 1).val = win0_5.index t (1 : Fin 3) * 4 + 1 * i.val := rfl
  have hb2 : (((cfg0.win 5).blk t).view.emb (ix3 (0 : Fin 1) i k) 2).val = win0_5.index t (2 : Fin 3) * 1024 + 1 * k.val := rfl
  have he : (((cfg0.win 5).blk t).view.emb (ix3 (0 : Fin 1) i k)) = (ix3 (1 : Fin 2) i k : S2x4x1024.Idx) := by
    funext a; apply Fin.ext
    match a with
    | ⟨0, _⟩ => show (((cfg0.win 5).blk t).view.emb (ix3 (0 : Fin 1) i k) 0).val = 1; rw [hb0]; omega
    | ⟨1, _⟩ => show (((cfg0.win 5).blk t).view.emb (ix3 (0 : Fin 1) i k) 1).val = i.val; rw [hb1]; omega
    | ⟨2, _⟩ => show (((cfg0.win 5).blk t).view.emb (ix3 (0 : Fin 1) i k) 2).val = k.val; rw [hb2]; omega
  rw [he]
  rw [V_main_arg4]

theorem iblk6 (k : Fin 1024) (n : Fin 5632) : (iblk m c 6 t : Vec Ideal S1x1024x5632 .bf16) (ix3 (0 : Fin 1) k n) = (argsOf m c).wu k n := by
  show V m c main_v0 (((cfg0.win 6).blk t).view.emb (ix3 (0 : Fin 1) k n)) = m ((c : Thread nD τ).loc main_arg5) (ix3 1 k n)
  obtain ⟨e0, e1, e2⟩ := idx6 t
  have hb0 : (((cfg0.win 6).blk t).view.emb (ix3 (0 : Fin 1) k n) 0).val = win0_6.index t (0 : Fin 3) * 1 + 1 * 0 := rfl
  have hb1 : (((cfg0.win 6).blk t).view.emb (ix3 (0 : Fin 1) k n) 1).val = win0_6.index t (1 : Fin 3) * 1024 + 1 * k.val := rfl
  have hb2 : (((cfg0.win 6).blk t).view.emb (ix3 (0 : Fin 1) k n) 2).val = win0_6.index t (2 : Fin 3) * 5632 + 1 * n.val := rfl
  have he : (((cfg0.win 6).blk t).view.emb (ix3 (0 : Fin 1) k n)) = (ix3 (1 : Fin 2) k n : S2x1024x5632.Idx) := by
    funext a; apply Fin.ext
    match a with
    | ⟨0, _⟩ => show (((cfg0.win 6).blk t).view.emb (ix3 (0 : Fin 1) k n) 0).val = 1; rw [hb0]; omega
    | ⟨1, _⟩ => show (((cfg0.win 6).blk t).view.emb (ix3 (0 : Fin 1) k n) 1).val = k.val; rw [hb1]; omega
    | ⟨2, _⟩ => show (((cfg0.win 6).blk t).view.emb (ix3 (0 : Fin 1) k n) 2).val = n.val; rw [hb2]; omega
  rw [he]
  entry_read
  pointwise

theorem iblk7 (i : Fin 3) (n : Fin 5632) : (iblk m c 7 t : Vec Ideal S1x3x5632 .f32) (ix3 (0 : Fin 1) i n) = (argsOf m c).cw i n := by
  show V m c main_arg6 (((cfg0.win 7).blk t).view.emb (ix3 (0 : Fin 1) i n)) = m ((c : Thread nD τ).loc main_arg6) (ix3 1 i n)
  obtain ⟨e0, e1, e2⟩ := idx7 t
  have hb0 : (((cfg0.win 7).blk t).view.emb (ix3 (0 : Fin 1) i n) 0).val = win0_7.index t (0 : Fin 3) * 1 + 1 * 0 := rfl
  have hb1 : (((cfg0.win 7).blk t).view.emb (ix3 (0 : Fin 1) i n) 1).val = win0_7.index t (1 : Fin 3) * 3 + 1 * i.val := rfl
  have hb2 : (((cfg0.win 7).blk t).view.emb (ix3 (0 : Fin 1) i n) 2).val = win0_7.index t (2 : Fin 3) * 5632 + 1 * n.val := rfl
  have he : (((cfg0.win 7).blk t).view.emb (ix3 (0 : Fin 1) i n)) = (ix3 (1 : Fin 2) i n : S2x3x5632.Idx) := by
    funext a; apply Fin.ext
    match a with
    | ⟨0, _⟩ => show (((cfg0.win 7).blk t).view.emb (ix3 (0 : Fin 1) i n) 0).val = 1; rw [hb0]; omega
    | ⟨1, _⟩ => show (((cfg0.win 7).blk t).view.emb (ix3 (0 : Fin 1) i n) 1).val = i.val; rw [hb1]; omega
    | ⟨2, _⟩ => show (((cfg0.win 7).blk t).view.emb (ix3 (0 : Fin 1) i n) 2).val = n.val; rw [hb2]; omega
  rw [he]
  rw [V_main_arg6]

theorem iblk8 (n : Fin 5632) : (iblk m c 8 t : Vec Ideal S1x1x5632 .f32) (ix3 (0 : Fin 1) (0 : Fin 1) n) = (argsOf m c).cb n := by
  show V m c main_v2 (((cfg0.win 8).blk t).view.emb (ix3 (0 : Fin 1) (0 : Fin 1) n)) = m ((c : Thread nD τ).loc main_arg7) (ix2 1 n)
  obtain ⟨e0, e1, e2⟩ := idx8 t
  have hb0 : (((cfg0.win 8).blk t).view.emb (ix3 (0 : Fin 1) (0 : Fin 1) n) 0).val = win0_8.index t (0 : Fin 3) * 1 + 1 * 0 := rfl
  have hb1 : (((cfg0.win 8).blk t).view.emb (ix3 (0 : Fin 1) (0 : Fin 1) n) 1).val = win0_8.index t (1 : Fin 3) * 1 + 1 * 0 := rfl
  have hb2 : (((cfg0.win 8).blk t).view.emb (ix3 (0 : Fin 1) (0 : Fin 1) n) 2).val = win0_8.index t (2 : Fin 3) * 5632 + 1 * n.val := rfl
  have he : (((cfg0.win 8).blk t).view.emb (ix3 (0 : Fin 1) (0 : Fin 1) n)) = (ix3 (1 : Fin 2) (0 : Fin 1) n : S2x1x5632.Idx) := by
    funext a; apply Fin.ext
    match a with
    | ⟨0, _⟩ => show (((cfg0.win 8).blk t).view.emb (ix3 (0 : Fin 1) (0 : Fin 1) n) 0).val = 1; rw [hb0]; omega
    | ⟨1, _⟩ => show (((cfg0.win 8).blk t).view.emb (ix3 (0 : Fin 1) (0 : Fin 1) n) 1).val = 0; rw [hb1]; omega
    | ⟨2, _⟩ => show (((cfg0.win 8).blk t).view.emb (ix3 (0 : Fin 1) (0 : Fin 1) n) 2).val = n.val; rw [hb2]; omega
  rw [he]
  entry_read
  pointwise

theorem iblk9 (e : Fin 2816) (k : Fin 1024) : (iblk m c 9 t : Vec Ideal S1x2816x1024 .bf16) (ix3 (0 : Fin 1) e k) = (argsOf m c).wd e k := by
  show V m c main_v1 (((cfg0.win 9).blk t).view.emb (ix3 (0 : Fin 1) e k)) = m ((c : Thread nD τ).loc main_arg8) (ix3 1 e k)
  obtain ⟨e0, e1, e2⟩ := idx9 t
  have hb0 : (((cfg0.win 9).blk t).view.emb (ix3 (0 : Fin 1) e k) 0).val = win0_9.index t (0 : Fin 3) * 1 + 1 * 0 := rfl
  have hb1 : (((cfg0.win 9).blk t).view.emb (ix3 (0 : Fin 1) e k) 1).val = win0_9.index t (1 : Fin 3) * 2816 + 1 * e.val := rfl
  have hb2 : (((cfg0.win 9).blk t).view.emb (ix3 (0 : Fin 1) e k) 2).val = win0_9.index t (2 : Fin 3) * 1024 + 1 * k.val := rfl
  have he : (((cfg0.win 9).blk t).view.emb (ix3 (0 : Fin 1) e k)) = (ix3 (1 : Fin 2) e k : S2x2816x1024.Idx) := by
    funext a; apply Fin.ext
    match a with
    | ⟨0, _⟩ => show (((cfg0.win 9).blk t).view.emb (ix3 (0 : Fin 1) e k) 0).val = 1; rw [hb0]; omega
    | ⟨1, _⟩ => show (((cfg0.win 9).blk t).view.emb (ix3 (0 : Fin 1) e k) 1).val = e.val; rw [hb1]; omega
    | ⟨2, _⟩ => show (((cfg0.win 9).blk t).view.emb (ix3 (0 : Fin 1) e k) 2).val = k.val; rw [hb2]; omega
  rw [he]
  entry_read
  pointwise

theorem blocks : Blocks (argsOf m c) (tB t) (iblk m c 0 t) (iblk m c 1 t) (iblk m c 2 t) (iblk m c 3 t) (iblk m c 4 t) (iblk m c 5 t)
    (iblk m c 6 t) (iblk m c 7 t) (iblk m c 8 t) (iblk m c 9 t) :=
  ⟨iblk0 m c t, iblk1 m c t, iblk2 m c t, iblk3 m c t, iblk4 m c t, iblk5 m c t, iblk6 m c t, iblk7 m c t, iblk8 m c t, iblk9 m c t⟩

end Cert.PostIdeal.Post
end
-- ==== Proof.PostRuns.lean ====
/- The two runs of the feed-forward kernel's body leave the named writes. -/
module

public import proofs.«01_k».proof.Proof.PostPieces

@[expose] public section

set_option maxRecDepth 16384

noncomputable section

namespace Cert.PostIdeal.Post

open Cert.PostIdeal Cert.PostIdeal.Gen
open Idealize.ShloMosaic Idealize.ShloMosaic.TcCoe Idealize.ShloMosaic.Tactic

variable {F : FTy → Type} [FloatOps F]

variable (c : Dev nD) (i : grid0.Coords) (arg2 : Memref sig .tc .vmem S512x512 .f32) (harg2 : arg2.IsWhole) (arg3 : Memref sig .tc .vmem S512x256 .f32) (harg3 : arg3.IsWhole)
  (arg4 : Memref sig .tc .vmem S512x1024 .f32) (harg4 : arg4.IsWhole) (arg5 : Memref sig .tc .vmem S512x1024 .bf16) (harg5 : arg5.IsWhole)
  (arg6 : Memref sig .tc .vmem S256x1024 .bf16) (harg6 : arg6.IsWhole) (arg7 : Memref sig .tc .vmem S1x4x1024 .f32) (harg7 : arg7.IsWhole)
  (arg8 : Memref sig .tc .vmem S1x1024x5632 .bf16) (harg8 : arg8.IsWhole) (arg9 : Memref sig .tc .vmem S1x3x5632 .f32) (harg9 : arg9.IsWhole)
  (arg10 : Memref sig .tc .vmem S1x1x5632 .f32) (harg10 : arg10.IsWhole) (arg11 : Memref sig .tc .vmem S1x2816x1024 .bf16) (harg11 : arg11.IsWhole)
  (arg12 : Memref sig .tc .vmem S512x1024 .f32) (harg12 : arg12.IsWhole) (arg13 : Memref sig .tc .vmem S2x256x1024 .bf16) (harg13 : arg13.IsWhole)
  (arg14 : Memref sig .tc .vmem S2x4x264x128 .f32) (harg14 : arg14.IsWhole) (arg15 : Memref sig .tc .vmem S11x4x8x128 .f32) (harg15 : arg15.IsWhole)
  (arg16 : Memref sig .tc .vmem S2x256x1024 .f32) (harg16 : arg16.IsWhole) (arg17 : Memref sig .tc .vmem S2x256x256 .bf16) (harg17 : arg17.IsWhole)
  (x0 : Vec F S512x512 .f32) (x1 : Vec F S512x256 .f32) (x2 : Vec F S512x1024 .f32) (x3 : Vec F S512x1024 .bf16) (x4 : Vec F S256x1024 .bf16) (x5 : Vec F S1x4x1024 .f32) (x6 : Vec F S1x1024x5632 .bf16) (x7 : Vec F S1x3x5632 .f32) (x8 : Vec F S1x1x5632 .f32) (x9 : Vec F S1x2816x1024 .bf16)
  (xs2 : Vec F S11x4x8x128 .f32)

/-- A sequence's first block leaves the named carry. -/
theorem runA_carry (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1
      = carryL (insA arg2 harg2 arg3 harg3 arg4 harg4 arg5 harg5 arg6 harg6 arg7 harg7 arg8 harg8 arg9 harg9 arg10 harg10 arg11 harg11 arg12 arg13 arg14 arg15  arg16 arg17 x0 x1 x2 x3 x4 x5 x6 x7 x8 x9) := by
  sl_kernel_rfl

/-- A later block leaves the named carry. -/
theorem runB_carry (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2).2.1
      = carryL (insB arg2 harg2 arg3 harg3 arg4 harg4 arg5 harg5 arg6 harg6 arg7 harg7 arg8 harg8 arg9 harg9 arg10 harg10 arg11 harg11 arg12 arg13 arg14 arg15 harg15 arg16 arg17 x0 x1 x2 x3 x4 x5 x6 x7 x8 x9 xs2) := by
  sl_kernel_rfl

/-- A sequence's first block leaves the named output. -/
theorem runA_out (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1
      = outL (insA arg2 harg2 arg3 harg3 arg4 harg4 arg5 harg5 arg6 harg6 arg7 harg7 arg8 harg8 arg9 harg9 arg10 harg10 arg11 harg11 arg12 arg13 arg14 arg15  arg16 arg17 x0 x1 x2 x3 x4 x5 x6 x7 x8 x9) := by
  sl_kernel_rfl

/-- A later block leaves the named output. -/
theorem runB_out (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2).1
      = outL (insB arg2 harg2 arg3 harg3 arg4 harg4 arg5 harg5 arg6 harg6 arg7 harg7 arg8 harg8 arg9 harg9 arg10 harg10 arg11 harg11 arg12 arg13 arg14 arg15 harg15 arg16 arg17 x0 x1 x2 x3 x4 x5 x6 x7 x8 x9 xs2) := by
  sl_kernel_rfl

end Cert.PostIdeal.Post
end
-- ==== Proof.PostKernel.lean ====
/- The post kernel's output array over the reals, at every index, is the layer's formula in its arguments: grid point by
grid point, the carried rows are the up-projection's last rows before the point's block. -/
module

public import proofs.«01_k».proof.Proof.PostOperands
public import proofs.«01_k».proof.Proof.PostRuns

@[expose] public section

set_option maxRecDepth 16384

noncomputable section

namespace Cert.PostIdeal.Post

open Cert.PostIdeal Cert.PostIdeal.Gen Cert.PostIdeal.Value
open Cert.PostSpec
open Idealize.ShloMosaic Idealize.ShloMosaic.TcCoe Idealize.ShloMosaic.Tactic

variable (m : (ℓ : Loc nD τ sig) → Buf (Elt Ideal) ℓ) (c : Dev nD) (t : Fin cfg0.N)

/-- A grid point leaves the layer's rows of its block and the rows the next point carries on. -/
def Leaves (A : Args) (t : Fin 64) (r : Vec Ideal S512x1024 .f32 × Vec Ideal S11x4x8x128 .f32) : Prop :=
  (∀ (y : Fin 512) (k : Fin 1024), r.1 (ix2 y k) = A.out (rowB t y) k)
    ∧ ∀ t' : Fin 64, t'.val = t.val + 1 → t'.val % 32 ≠ 0 → Carries A t' r.2

theorem zero_carries (A : Args) (t : Fin 64) (h0 : t.val % 32 = 0) : Carries A t (k0_pay1 (F := Ideal)) := by
  intro j q r c h6
  rw [pay1_apply]
  unfold Args.ub
  rw [dif_neg (by omega)]

section point

variable {i : grid0.Coords} {arg2 : Memref sig .tc .vmem S512x512 .f32} {harg2 : arg2.IsWhole} {arg3 : Memref sig .tc .vmem S512x256 .f32} {harg3 : arg3.IsWhole}
  {arg4 : Memref sig .tc .vmem S512x1024 .f32} {harg4 : arg4.IsWhole} {arg5 : Memref sig .tc .vmem S512x1024 .bf16} {harg5 : arg5.IsWhole}
  {arg6 : Memref sig .tc .vmem S256x1024 .bf16} {harg6 : arg6.IsWhole} {arg7 : Memref sig .tc .vmem S1x4x1024 .f32} {harg7 : arg7.IsWhole}
  {arg8 : Memref sig .tc .vmem S1x1024x5632 .bf16} {harg8 : arg8.IsWhole} {arg9 : Memref sig .tc .vmem S1x3x5632 .f32} {harg9 : arg9.IsWhole}
  {arg10 : Memref sig .tc .vmem S1x1x5632 .f32} {harg10 : arg10.IsWhole} {arg11 : Memref sig .tc .vmem S1x2816x1024 .bf16} {harg11 : arg11.IsWhole}
  {arg12 : Memref sig .tc .vmem S512x1024 .f32} {harg12 : arg12.IsWhole} {arg13 : Memref sig .tc .vmem S2x256x1024 .bf16} {harg13 : arg13.IsWhole}
  {arg14 : Memref sig .tc .vmem S2x4x264x128 .f32} {harg14 : arg14.IsWhole} {arg15 : Memref sig .tc .vmem S11x4x8x128 .f32} {harg15 : arg15.IsWhole}
  {arg16 : Memref sig .tc .vmem S2x256x1024 .f32} {harg16 : arg16.IsWhole} {arg17 : Memref sig .tc .vmem S2x256x256 .bf16} {harg17 : arg17.IsWhole}
  {x0 : Vec Ideal S512x512 .f32} {x1 : Vec Ideal S512x256 .f32} {x2 : Vec Ideal S512x1024 .f32} {x3 : Vec Ideal S512x1024 .bf16} {x4 : Vec Ideal S256x1024 .bf16} {x5 : Vec Ideal S1x4x1024 .f32} {x6 : Vec Ideal S1x1024x5632 .bf16} {x7 : Vec Ideal S1x3x5632 .f32} {x8 : Vec Ideal S1x1x5632 .f32} {x9 : Vec Ideal S1x2816x1024 .bf16}
  {xs2 : Vec Ideal S11x4x8x128 .f32}
  {A : Args} {tb : Fin 64} (hb : Blocks A tb x0 x1 x2 x3 x4 x5 x6 x7 x8 x9)
include hb

/-- A sequence's first block, on operand blocks that hold the arguments. -/
theorem leaves_first (hc0 : cond0_0 i) (h0 : tb.val % 32 = 0) :
    Leaves A tb (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9,
      sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9) := by
  refine ⟨fun y k => ?_, fun t' ht h0' => ?_⟩
  · dsimp only
    unfold out0_A_10
    rw [runA_out]
    exact out_value (readsA _ _ _ _ _ _ _ _ _ _ _ _ _ _ _ _ _ _ _ _ _ _ _ _ _ _ _ _ _ _ _ _ _ _ _ _ A tb hb)
      (findsA _ _ _ _ _ _ _ _ _ _ _ _ _ _ _ _ _ _ _ _ _ _ _ _ _ _ _ _ _ _ _ _ _ _ _ _) (zero_carries A tb h0) VO0_10 y k (rowB tb y) rfl
  · dsimp only
    unfold sout0_A_2
    rw [runA_carry]
    exact carry_value (readsA _ _ _ _ _ _ _ _ _ _ _ _ _ _ _ _ _ _ _ _ _ _ _ _ _ _ _ _ _ _ _ _ _ _ _ _ A tb hb) VS0_2 t' ht h0'

/-- A later block, on operand blocks that hold the arguments and on the rows the block before carried. -/
theorem leaves_later (hc0 : ¬cond0_0 i) (hc : Carries A tb xs2) :
    Leaves A tb (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2,
      sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2) := by
  refine ⟨fun y k => ?_, fun t' ht h0' => ?_⟩
  · dsimp only
    unfold out0_B_10
    rw [runB_out]
    exact out_value (readsB _ _ _ _ _ _ _ _ _ _ _ _ _ _ _ _ _ _ _ _ _ _ _ _ _ _ _ _ _ _ _ _ _ _ _ _ _ _ A tb hb)
      (findsB _ _ _ _ _ _ _ _ _ _ _ _ _ _ _ _ _ _ _ _ _ _ _ _ _ _ _ _ _ _ _ _ _ _ _ _ _ _) hc VO0_10 y k (rowB tb y) rfl
  · dsimp only
    unfold sout0_B_2
    rw [runB_carry]
    exact carry_value (readsB _ _ _ _ _ _ _ _ _ _ _ _ _ _ _ _ _ _ _ _ _ _ _ _ _ _ _ _ _ _ _ _ _ _ _ _ _ _ A tb hb) VS0_2 t' ht h0'

end point

theorem leavesA (h0 : t.val % 32 = 0) : Leaves (argsOf m c) (tB t) (outsAt0 m c t.val t.isLt) := by
  rw [outsAt0_A m c t h0]
  exact leaves_first _ (blocks m c t) _ h0

theorem leavesB (h0 : ¬t.val % 32 = 0)
    (hc : Carries (argsOf m c) (tB t) (outsAt0 m c (t.val - 1) (Nat.lt_of_le_of_lt (Nat.sub_le _ _) t.isLt)).2) :
    Leaves (argsOf m c) (tB t) (outsAt0 m c t.val t.isLt) := by
  rw [outsAt0_B m c t h0]
  exact leaves_later _ (blocks m c t) _ hc

/-- Every grid point leaves them. -/
theorem leaves (n : ℕ) (hn : n < cfg0.N) : Leaves (argsOf m c) (tB ⟨n, hn⟩) (outsAt0 m c n hn) := by
  induction n with
  | zero => exact leavesA m c ⟨0, hn⟩ rfl
  | succ n ih =>
    by_cases h0 : (n + 1) % 32 = 0
    · exact leavesA m c ⟨n + 1, hn⟩ h0
    · exact leavesB m c ⟨n + 1, hn⟩ h0 ((ih (Nat.lt_of_succ_lt hn)).2 _ rfl h0)

/-- The output array: the layer's formula at every index. -/
theorem G10_value (R : Fin 32768) (k : Fin 1024) : G10 m c (ix2 R k) = (argsOf m c).out R k := by
  have hN : cfg0.N = 64 := N_0
  have ht : pt10Of (ix2 R k) = R.val / 512 := by
    show 1 * (R.val / 512 - 0) + 1 * (k.val / 1024 - 0) = R.val / 512
    omega
  have hp : pt10Of (ix2 R k) < cfg0.N := by omega
  unfold G10
  rw [dif_pos hp, ← outsAt0_sweep m c _ hp]
  have hl : loc10Of (ix2 R k) = ix2 ⟨R.val % 512, Nat.mod_lt _ (by decide)⟩ k :=
    (eq_ix2 _).trans (congrArg (ix2 _) (Fin.ext (Nat.mod_eq_of_lt k.isLt)))
  refine (congrArg (outsAt0 m c _ hp).1 hl).trans (((leaves m c _ hp).1 _ _).trans ?_)
  have hr : rowB (tB ⟨pt10Of (ix2 R k), hp⟩) ⟨R.val % 512, Nat.mod_lt _ (by decide)⟩ = R :=
    Fin.ext (by show 512 * pt10Of (ix2 R k) + R.val % 512 = R.val; omega)
  rw [hr]

end Cert.PostIdeal.Post
end
-- ==== Proof.PostReference.lean ====
/- The post layer's reference over the reals, at every index: each of its named intermediate arrays is the layer's
formula in its arguments. -/
module

public import proofs.«01_k».proof.Proof.Gen.PostRefIdeal.Run
public import proofs.«01_k».proof.Proof.PostSpec
public import Idealize.ShloMosaic.Lib.KernelVsHost
public import Idealize.ShloMosaic.Lib.Pointwise

@[expose] public section

set_option maxRecDepth 16384

noncomputable section

namespace Cert.PostRefIdeal.Post

open Cert.PostRefIdeal Cert.PostRefIdeal.Gen Cert.PostRefIdeal.Value
open Cert.PostSpec
open Idealize.ShloMosaic Idealize.ShloMosaic.TcCoe Idealize.ShloMosaic.Tactic Idealize.ShloMosaic.StableHlo

/-- Row `s` of sequence `b`. -/
def rowR (b : Fin 2) (s : Fin 16384) : Fin 32768 := ⟨b.val * 16384 + s.val, by omega⟩

variable (V : Valuation τ sig (Elt Ideal)) (A : Args)

/-- The arguments a valuation holds. -/
structure Holds : Prop where
  a0 : ∀ R x, V (Proc.devRef .tc main_arg0) (ix2 R x) = A.ya R x
  a1 : ∀ R x, V (Proc.devRef .tc main_arg1) (ix2 R x) = A.yb R x
  a2 : ∀ R x, V (Proc.devRef .tc main_arg2) (ix2 R x) = A.h R x
  a3 : ∀ x k, V (Proc.devRef .tc main_arg3) (ix2 x k) = A.wo x k
  a4 : ∀ i k, V (Proc.devRef .tc main_arg4) (ix3 1 i k) = A.g i k
  a5 : ∀ k n, V (Proc.devRef .tc main_arg5) (ix3 1 k n) = A.wu k n
  a6 : ∀ i n, V (Proc.devRef .tc main_arg6) (ix3 1 i n) = A.cw i n
  a7 : ∀ n, V (Proc.devRef .tc main_arg7) (ix2 1 n) = A.cb n
  a8 : ∀ e k, V (Proc.devRef .tc main_arg8) (ix3 1 e k) = A.wd e k

/-- Three products and a bias, in either order. -/
theorem conv_comm (z0 z1 z2 w0 w1 w2 c : EReal) :
    z0 * w0 + z1 * w1 + z2 * w2 + c = c + w0 * z0 + w1 * z1 + w2 * z2 := by
  rw [mul_comm z0, mul_comm z1, mul_comm z2, add_comm]
  simp only [add_assoc]

variable {V A} (hA : Holds V A)
include hA

theorem v1_value (i : Fin 4) (k : Fin 1024) : res_main_v1 V (ix2 i k) = A.g i k := by
  rw [← hA.a4]
  pointwise [res_main_v1]

theorem v43_value (i : Fin 3) (n : Fin 5632) : res_main_v43 V (ix2 i n) = A.cw i n := by
  rw [← hA.a6]
  pointwise [res_main_v43]

theorem v5_value (b : Fin 2) (s : Fin 16384) (k : Fin 1024) : res_main_v5 V (ix3 b s k) = A.o (rowR b s) k := by
  unfold Args.o
  simp only [← hA.a0, ← hA.a1, ← hA.a3]
  pointwise [res_main_v5, rowR]

theorem v22_value (b : Fin 2) (s : Fin 16384) (k : Fin 1024) : res_main_v22 V (ix3 b s k) = A.res (rowR b s) k := by
  have e := v5_value hA b s
  unfold res_main_v22 Args.res
  generalize res_main_v5 V = z at e
  rw [← hA.a2, ← v1_value hA]
  generalize res_main_v1 V = y
  pointwise [rms]
  simp only [e]
  rfl

theorem v41_value (b : Fin 2) (s : Fin 16384) (d : ℕ) (hd : d < 3) (n : Fin 5632) :
    res_main_v41 V (ix3 b ⟨s.val + d, by omega⟩ n) = A.ub (rowR b s).val (2 - d) n := by
  have e := v22_value hA
  unfold res_main_v41
  generalize res_main_v22 V = z at e
  have e1 := v1_value hA
  generalize res_main_v1 V = y at e1
  have hR : (rowR b s).val = b.val * 16384 + s.val := rfl
  unfold Args.ub
  by_cases h : 2 ≤ s.val + d
  · have hp : 2 - d ≤ (rowR b s).val % 16384 ∧ (rowR b s).val < 32768 := ⟨by omega, (rowR b s).isLt⟩
    rw [dif_pos hp, show (⟨(rowR b s).val - (2 - d), by omega⟩ : Fin 32768) = rowR b ⟨s.val + d - 2, by omega⟩ from
      Fin.ext (by show (rowR b s).val - (2 - d) = b.val * 16384 + (s.val + d - 2); omega)]
    unfold Args.u Args.xn
    simp only [← e, ← hA.a5, ← e1]
    pointwise [rms]
    rw [dif_pos ⟨h, by omega⟩]
    simp only [← e]
  · rw [dif_neg (by omega)]
    pointwise
    rw [dif_neg (by omega)]
    exact sitofp_zero (φ := .f32)

theorem v68_value (b : Fin 2) (s : Fin 16384) (n : Fin 5632) : res_main_v68 V (ix3 b s n) = A.conv (rowR b s) n := by
  have e0 := v41_value hA b s 0 (by decide) n
  have e1 := v41_value hA b s 1 (by decide) n
  have e2 := v41_value hA b s 2 (by decide) n
  unfold res_main_v68 Args.conv
  generalize res_main_v41 V = z at e0 e1 e2
  rw [← v43_value hA, ← v43_value hA, ← v43_value hA, ← hA.a7]
  generalize res_main_v43 V = y
  rw [← e0, ← e1, ← e2]
  pointwise
  simp only [Nat.add_comm s.val, Nat.zero_add]
  exact conv_comm _ _ _ _ _ _ _

theorem v87_value (b : Fin 2) (s : Fin 16384) (k : Fin 1024) : res_main_v87 V (ix3 b s k) = A.f (rowR b s) k := by
  have e := v68_value hA b s
  unfold res_main_v87 res_main_v70 Args.f
  generalize res_main_v68 V = z at e
  unfold Args.a act
  simp only [← hA.a8, ← e]
  pointwise
  simp only [mul_assoc]

/-- The reference's result is the layer's formula at every index. -/
theorem v104_value (b : Fin 2) (s : Fin 16384) (k : Fin 1024) :
    val2 V (Proc.devRef .tc main_v104) (ix2 (rowR b s) k) = A.out (rowR b s) k := by
  rw [val2_main_v104]
  have e := v87_value hA b s
  have er := v22_value hA b s
  unfold Args.out
  rw [← v1_value hA]
  generalize res_main_v87 V = z at e
  generalize res_main_v22 V = x at er
  generalize res_main_v1 V = y
  pointwise [rms, rowR]
  simp only [e, er]
  rfl

end Cert.PostRefIdeal.Post
end
-- ==== Proof.PostClaims.lean ====
/- The post layer's claims: the plain program's frame, and the equality of the two runs over the reals. -/
module

public import proofs.«01_k».proof.Defs
public import proofs.«01_k».proof.Proof.PostKernel
public import proofs.«01_k».proof.Proof.PostReference
public import Idealize.ShloMosaic.Adequacy
public import Idealize.ShloMosaic.Init

@[expose] public section

set_option maxRecDepth 16384

noncomputable section

namespace Cert.Proof.Post

open Idealize.ShloMosaic Idealize.ShloMosaic.TcCoe Idealize.ShloMosaic.Tactic
open Idealize.SL Idealize.SL.Sem

/-- The plain program of the projection and the network: its generated run, and no semaphore is declared. -/
theorem reference_frame : Cert.quiescent_PostRefIdeal := fun m g _ =>
  (θ_run Cert.PostRefIdeal.defs _ _).mono
    (fun r h => ⟨fun c => (h c).2, Idealize.ShloMosaic.sem_eq_zero_of_no_sems (by decide) r.2⟩)
    (Cert.PostRefIdeal.Value.run m g)

/-- The kernel's output array and the plain program's result are the same array. -/
theorem algebraic : Cert.algebraic_PostIdeal_PostRefIdeal := by
  intro m g m' g' _ hagree
  refine ⟨fun c => Cert.PostIdeal.Value.G10 m c, Cert.PostIdeal.Value.run m g, ?_⟩
  refine (θ_run Cert.PostRefIdeal.defs _ _).mono (fun r h c => ⟨(h c).1.trans ?_, (h c).2⟩) (Cert.PostRefIdeal.Value.run m' g')
  obtain ⟨e0, e1, e2, e3, e4, e5, e6, e7, e8⟩ := hagree c
  have hA : Cert.PostRefIdeal.Post.Holds (StableHlo.launchContents m' c) (Cert.PostIdeal.Post.argsOf m c) :=
    ⟨fun R x => congrFun e0 (ix2 R x), fun R x => congrFun e1 (ix2 R x), fun R x => congrFun e2 (ix2 R x),
      fun x k => congrFun e3 (ix2 x k), fun i k => congrFun e4 (ix3 1 i k), fun k n => congrFun e5 (ix3 1 k n),
      fun i n => congrFun e6 (ix3 1 i n), fun n => congrFun e7 (ix2 1 n), fun e k => congrFun e8 (ix3 1 e k)⟩
  refine (Cert.PostRefIdeal.Value.val2_main_v104 _).symm.trans (funext fun i => ?_)
  obtain ⟨R, k, rfl⟩ : ∃ R k, i = ix2 R k := ⟨_, _, eq_ix2 i⟩
  have hR : R = Cert.PostRefIdeal.Post.rowR ⟨R.val / 16384, by omega⟩ ⟨R.val % 16384, Nat.mod_lt _ (by decide)⟩ :=
    Fin.ext (by show R.val = R.val / 16384 * 16384 + R.val % 16384; omega)
  refine Eq.trans ?_ (Cert.PostIdeal.Post.G10_value m c R k).symm
  rw [hR]
  exact Cert.PostRefIdeal.Post.v104_value hA _ _ k

end Cert.Proof.Post
end
-- ==== Proof.ProjKernel.lean ====
/- The norm and projection kernel's two output arrays over the reals, at every index: the normed rows times the weights'
columns. -/
module

public import proofs.«01_k».proof.Proof.Gen.ProjIdeal.Value
public import proofs.«01_k».proof.Proof.PostSpec
public import Idealize.ShloMosaic.Lib.Pointwise
public import Idealize.ShloMosaic.Lib.StableHlo.ReadAt

@[expose] public section

set_option maxRecDepth 16384

noncomputable section

namespace Cert.ProjSpec

open Cert.PostSpec

/-- A row's normed entries times a column of the weights. -/
def proj (h : Fin 1024 → EReal) (g : Fin 1024 → EReal) (w : Fin 1024 → EReal) : EReal := ∑ k, h k * rms h * g k * w k

end Cert.ProjSpec

namespace Cert.ProjIdeal.Proj

open Cert.ProjIdeal Cert.ProjIdeal.Gen Cert.ProjIdeal.Value
open Cert.PostSpec Cert.ProjSpec
open Idealize.ShloMosaic Idealize.ShloMosaic.TcCoe Idealize.ShloMosaic.Tactic

/-! ## One block -/

variable (x0 : Vec Ideal S512x1024 .f32) (x1 : Vec Ideal S1x1024 .f32) (x2 : Vec Ideal S1024x4352 .bf16)

/-- The block's entry at a row and a column of the weights. -/
def blk (r : Fin 512) (n : Fin 4352) : EReal := proj (fun k => x0 (ix2 r k)) (fun k => x1 (ix2 0 k)) (fun k => x2 (ix2 k n))

theorem hz : (![0, 0] : Fin 2 → ℕ) = fun _ => 0 := funext fun a => by fin_cases a <;> rfl

theorem ld0 : View.ld x0 r0_0 = x0 := View.ld_unit_zero (S := S512x1024) hz _ x0
theorem ld1 : View.ld x1 r0_1 = x1 := View.ld_unit_zero (S := S1x1024) hz _ x1

theorem normed_apply (r : Fin 512) (k : Fin 1024) :
    k0_pay1 x0 x1 (ix2 r k) = (x0 (ix2 r k) * rms (fun k => x0 (ix2 r k)) * x1 (ix2 0 k) : EReal) := by
  pointwise [k0_pay1, rms]

theorem blk_congr {r r' : Fin 512} {n n' : Fin 4352} (hr : r'.val = r.val) (hn : n'.val = n.val) :
    ∑ k : Fin 1024, (x0 (ix2 r k) * rms fun k => x0 (ix2 r k)) * x1 (ix2 0 k) * x2 (ix2 k n)
      = (∑ k : Fin 1024, (x0 (ix2 r' k) * rms fun k => x0 (ix2 r' k)) * x1 (ix2 0 k) * x2 (ix2 k n') : EReal) := by
  obtain rfl := Fin.ext hr
  obtain rfl := Fin.ext hn
  rfl

/-- The recurrence's columns of the block. -/
theorem out3_apply (r : Fin 512) (n : Fin 2048) : out0_3 x0 x1 x2 (ix2 r n) = blk x0 x1 x2 r ⟨n.val, by omega⟩ := by
  unfold out0_3
  rw [ld0, ld1]
  refine View.canon_apply_of_pieces (Val := Elt Ideal) (fun i : S512x2048.Idx => (blk x0 x1 x2 ⟨(i 0).val, (i 0).isLt⟩ ⟨(i 1).val, lt_trans (i 1).isLt (by decide)⟩ : EReal)) _ ?_ (ix2 r n) (cover0_3 _ _ _ _ _)
  intro p hp
  simp only [List.mem_cons, List.not_mem_nil, or_false] at hp
  obtain rfl | rfl | rfl | rfl := hp
  all_goals
    intro x
    obtain ⟨r, l, rfl⟩ : ∃ r l, x = ix2 r l := ⟨_, _, eq_ix2 x⟩
    pointwise [k0_pay5, k0_pay4, k0_pay3, k0_pay2, normed_apply, blk, proj]
    refine blk_congr x0 x1 x2 ?_ ?_
    · show 0 + 1 * r.val = r.val
      omega
    · show _ + 1 * l.val = _
      simp

/-- The attention's columns of the block, in slabs. -/
theorem out4_apply (s : Fin 18) (r : Fin 512) (l : Fin 128) :
    out0_4 x0 x1 x2 (ix3 s r l) = blk x0 x1 x2 r ⟨2048 + 128 * s.val + l.val, by omega⟩ := by
  unfold out0_4 k0_pay31 k0_pay30
  rw [ld0, ld1]
  refine View.canon_apply_of_pieces (Val := Elt Ideal) (fun i : S18x512x128.Idx => (blk x0 x1 x2 ⟨(i 1).val, (i 1).isLt⟩
    ⟨2048 + 128 * (i 0).val + (i 2).val, by have h0 : (i 0).val < 18 := (i 0).isLt; have h2 : (i 2).val < 128 := (i 2).isLt; omega⟩ : EReal)) _ ?_ (ix3 s r l)
    (cover0_4 _ _ _ _ _ _ _ _ _ _ _ _ _ _ _ _ _ _ _)
  intro p hp
  simp only [List.mem_cons, List.not_mem_nil, or_false] at hp
  obtain rfl | rfl | rfl | rfl | rfl | rfl | rfl | rfl | rfl | rfl | rfl | rfl | rfl | rfl | rfl | rfl | rfl | rfl := hp
  all_goals
    intro x
    obtain ⟨z, r, l, rfl⟩ : ∃ z r l, x = ix3 z r l := ⟨_, _, _, eq_ix3 x⟩
    obtain rfl : z = 0 := Subsingleton.elim _ _
    pointwise [k0_pay7, k0_pay8, k0_pay9, k0_pay10, k0_pay12, k0_pay14, k0_pay13, k0_pay15, k0_pay16, k0_pay18, k0_pay19, k0_pay20, k0_pay21, k0_pay23,
      k0_pay24, k0_pay25, k0_pay26, k0_pay28, k0_pay29, k0_pay6, k0_pay11, k0_pay17, k0_pay22, k0_pay27, normed_apply, blk, proj]
    refine blk_congr x0 x1 x2 ?_ ?_
    · show 0 + 1 * r.val = r.val
      omega
    · show 2048 + 128 * (_ + 1 * 0) + (0 + 1 * l.val) = _
      simp
      try omega

/-! ## The arrays -/

variable (m : (ℓ : Loc nD τ sig) → Buf (Elt Ideal) ℓ) (c : Dev nD) (t : Fin cfg0.N)

/-- The projection of the arguments, at a row and a column of the weights. -/
def full (R : Fin 32768) (n : Fin 4352) : EReal :=
  proj (fun k => m ((c : Thread nD τ).loc main_arg0) (ix2 R k)) (fun k => m ((c : Thread nD τ).loc main_arg1) (ix3 1 0 k))
    (fun k => m ((c : Thread nD τ).loc main_arg2) (ix3 0 k n))

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)

/-- Row `r` of the point's block. -/
def rowB (r : Fin 512) : Fin 32768 := ⟨512 * t.val + r.val, by have h : cfg0.N = 64 := N_0; omega⟩

theorem iblk0 (r : Fin 512) (k : Fin 1024) :
    (iblk m c 0 t : Vec Ideal S512x1024 .f32) (ix2 r k) = m ((c : Thread nD τ).loc main_arg0) (ix2 (rowB t r) k) := by
  show V m c main_arg0 (((cfg0.win 0).blk t).view.emb (ix2 r k)) = _
  rw [V_main_arg0]
  congr 1
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk1 (k : Fin 1024) :
    (iblk m c 1 t : Vec Ideal S1x1024 .f32) (ix2 0 k) = m ((c : Thread nD τ).loc main_arg1) (ix3 1 0 k) := by
  show V m c main_v6 (((cfg0.win 1).blk t).view.emb (ix2 (0 : Fin 1) k)) = _
  obtain ⟨e0, e1⟩ := idx1 t
  have he : (((cfg0.win 1).blk t).view.emb (ix2 (0 : Fin 1) k)) = (ix2 (0 : Fin 1) k : S1x1024.Idx) := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  rw [he]
  entry_read
  pointwise

theorem iblk2 (k : Fin 1024) (n : Fin 4352) :
    (iblk m c 2 t : Vec Ideal S1024x4352 .bf16) (ix2 k n) = m ((c : Thread nD τ).loc main_arg2) (ix3 0 k n) := by
  show V m c main_v5 (((cfg0.win 2).blk t).view.emb (ix2 k n)) = _
  obtain ⟨e0, e1⟩ := idx2 t
  have he : (((cfg0.win 2).blk t).view.emb (ix2 k n)) = (ix2 k n : S1024x4352.Idx) := by
    funext a; apply Fin.ext
    match a with
    | ⟨0, _⟩ => show win0_2.index t (0 : Fin 2) * 1024 + 1 * k.val = k.val; omega
    | ⟨1, _⟩ => show win0_2.index t (1 : Fin 2) * 4352 + 1 * n.val = n.val; omega
  rw [he]
  entry_read
  pointwise

/-- The point's block is the projection of its rows. -/
theorem blk_value (r : Fin 512) (n : Fin 4352) : blk (iblk m c 0 t) (iblk m c 1 t) (iblk m c 2 t) r n = full m c (rowB t r) n := by
  unfold blk full
  congr 1
  · exact funext fun k => iblk0 m c t r k
  · exact funext fun k => iblk1 m c t k
  · exact funext fun k => iblk2 m c t k n

/-- The point that writes a row. -/
def ptOf (R : Fin 32768) : Fin cfg0.N := ⟨R.val / 512, by have h : cfg0.N = 64 := N_0; omega⟩
/-- The row's place in that point's block. -/
def inB (R : Fin 32768) : Fin 512 := ⟨R.val % 512, Nat.mod_lt _ (by decide)⟩

theorem row_eq (R : Fin 32768) : rowB (ptOf R) (inB R) = R := Fin.ext (by show 512 * (R.val / 512) + R.val % 512 = R.val; omega)

/-- The first output array: the projection's first 2048 columns. -/
theorem arr3_value (R : Fin 32768) (n : Fin 2048) :
    (dats m 0 c).arrAt 3 cfg0.N (ix2 R n : S32768x2048.Idx) = full m c R ⟨n.val, by omega⟩ := by
  have h := congrFun (blocks3 m c (ptOf R) (flush0_3 _)) (ix2 (inB R) n : S512x2048.Idx)
  rw [flushed3] at h
  have he : ((cfg0.win 3).blk (ptOf R)).view.emb (ix2 (inB R) n : S512x2048.Idx) = (ix2 R n : S32768x2048.Idx) := by
    obtain ⟨e0, e1⟩ := idx3 (ptOf R)
    have hp : (ptOf R).val = R.val / 512 := rfl
    funext a; apply Fin.ext
    match a with
    | ⟨0, _⟩ => show win0_3.index (ptOf R) (0 : Fin 2) * 512 + 1 * (R.val % 512) = R.val; omega
    | ⟨1, _⟩ => show win0_3.index (ptOf R) (1 : Fin 2) * 2048 + 1 * n.val = n.val; omega
  have hl : (dats m 0 c).arrAt 3 cfg0.N (((cfg0.win 3).blk (ptOf R)).view.emb (ix2 (inB R) n : S512x2048.Idx))
      = out0_3 (iblk m c 0 (ptOf R)) (iblk m c 1 (ptOf R)) (iblk m c 2 (ptOf R)) (ix2 (inB R) n) := h
  rw [he] at hl
  rw [hl, out3_apply, blk_value, row_eq]

/-- The second output array: the projection's other columns, in slabs of 128. -/
theorem arr4_value (s : Fin 18) (R : Fin 32768) (l : Fin 128) :
    (dats m 0 c).arrAt 4 cfg0.N (ix3 s R l : S18x32768x128.Idx) = full m c R ⟨2048 + 128 * s.val + l.val, by omega⟩ := by
  have h := congrFun (blocks4 m c (ptOf R) (flush0_4 _)) (ix3 s (inB R) l : S18x512x128.Idx)
  rw [flushed4] at h
  have he : ((cfg0.win 4).blk (ptOf R)).view.emb (ix3 s (inB R) l : S18x512x128.Idx) = (ix3 s R l : S18x32768x128.Idx) := by
    obtain ⟨e0, e1, e2⟩ := idx4 (ptOf R)
    have hp : (ptOf R).val = R.val / 512 := rfl
    funext a; apply Fin.ext
    match a with
    | ⟨0, _⟩ => show win0_4.index (ptOf R) (0 : Fin 3) * 18 + 1 * s.val = s.val; omega
    | ⟨1, _⟩ => show win0_4.index (ptOf R) (1 : Fin 3) * 512 + 1 * (R.val % 512) = R.val; omega
    | ⟨2, _⟩ => show win0_4.index (ptOf R) (2 : Fin 3) * 128 + 1 * l.val = l.val; omega
  have hl : (dats m 0 c).arrAt 4 cfg0.N (((cfg0.win 4).blk (ptOf R)).view.emb (ix3 s (inB R) l : S18x512x128.Idx))
      = out0_4 (iblk m c 0 (ptOf R)) (iblk m c 1 (ptOf R)) (iblk m c 2 (ptOf R)) (ix3 s (inB R) l) := h
  rw [he] at hl
  rw [hl, out4_apply, blk_value, row_eq]

end Cert.ProjIdeal.Proj
end
-- ==== Proof.ProjReference.lean ====
/- The norm and projection's reference over the reals, at every index: the projection of the normed rows, cut into the
recurrence's columns and the attention's slabs. -/
module

public import proofs.«01_k».proof.Proof.Gen.ProjRefIdeal.Run
public import proofs.«01_k».proof.Proof.ProjKernel
public import Idealize.ShloMosaic.Lib.Pointwise

@[expose] public section

set_option maxRecDepth 16384

noncomputable section

namespace Cert.ProjRefIdeal.Proj

open Cert.ProjRefIdeal Cert.ProjRefIdeal.Gen
open Cert.PostSpec Cert.ProjSpec
open Idealize.ShloMosaic Idealize.ShloMosaic.TcCoe Idealize.ShloMosaic.Tactic Idealize.ShloMosaic.StableHlo

/-- Row `s` of sequence `b`. -/
def rowR (b : Fin 2) (s : Fin 16384) : Fin 32768 := ⟨b.val * 16384 + s.val, by omega⟩

theorem rowR_eq (R : Fin 32768) : R = rowR ⟨R.val / 16384, by omega⟩ ⟨R.val % 16384, Nat.mod_lt _ (by decide)⟩ :=
  Fin.ext (by show R.val = R.val / 16384 * 16384 + R.val % 16384; omega)

variable (a0 : FVec Ideal S32768x1024 .f32) (a1 : FVec Ideal S2x4x1024 .f32) (a2 : FVec Ideal S1x1024x4352 .f32)

/-- The projection, before it is cut. -/
def whole : FVec Ideal S2x16384x4352 .f32 :=
  Host.dotGeneral dot_S2x16384x1024_S1024x4352_S2x16384x4352_2_0_01_1_n_n none
    (mulf (mulf (shapeCast _ a0 shapeCasts_S32768x1024_S2x16384x1024)
      (broadcastInDim S2x16384x1024 ![0, 1, 2] bcast_S2x16384x1_S2x16384x1024_0_1_2 (Host.rsqrt (addf
        (Host.divf
          (broadcastInDim S2x16384x1 ![0, 1] bcast_S2x16384_S2x16384x1_0_1 (Host.reduceAdd (mulf (shapeCast _ a0 shapeCasts_S32768x1024_S2x16384x1024) (shapeCast _ a0 shapeCasts_S32768x1024_S2x16384x1024)) (constant S_ .f32 0x00000000#32) reducesTo_S2x16384x1024_S2x16384_d2 h_S_))
          (broadcastInDim S2x16384x1 ![] bcast_S_S2x16384x1 (constant S_ .f32 0x44800000#32)))
          (broadcastInDim S2x16384x1 ![] bcast_S_S2x16384x1 (constant S_ .f32 0x358637BD#32))))))
      (broadcastInDim S2x16384x1024 ![0, 1, 2] bcast_S1x1x1024_S2x16384x1024_0_1_2
        (broadcastInDim S1x1x1024 ![2] bcast_S1024_S1x1x1024_2 (shapeCast _ (extractStridedSlice S1x1024 ![0, 0] (shapeCast _
          (extractStridedSlice S1x4x1024 ![1, 0, 0] a1 slices_S2x4x1024_S1x4x1024_1_0_0) shapeCasts_S1x4x1024_S4x1024) slices_S4x1024_S1x1024_0_0) shapeCasts_S1x1024_S1024))))
    (shapeCast _ a2 shapeCasts_S1x1024x4352_S1024x4352)

theorem whole_value (b : Fin 2) (s : Fin 16384) (n : Fin 4352) :
    whole a0 a1 a2 (ix3 b s n)
      = proj (fun k => a0 (ix2 (rowR b s) k)) (fun k => a1 (ix3 1 0 k)) (fun k => a2 (ix3 0 k n)) := by
  unfold proj
  pointwise [whole, rms, rowR]

/-- The recurrence's columns. -/
theorem flat_value (R : Fin 32768) (n : Fin 2048) :
    (shapeCast _ (extractStridedSlice S2x16384x2048 ![0, 0, 0] (whole a0 a1 a2) slices_S2x16384x4352_S2x16384x2048_0_0_0)
        shapeCasts_S2x16384x2048_S32768x2048 : FVec Ideal S32768x2048 .f32) (ix2 R n)
      = proj (fun k => a0 (ix2 R k)) (fun k => a1 (ix3 1 0 k)) (fun k => a2 (ix3 0 k ⟨n.val, by omega⟩)) := by
  have e := whole_value a0 a1 a2
  generalize whole a0 a1 a2 = z at e
  obtain ⟨b, s, rfl⟩ : ∃ b s, R = rowR b s := ⟨_, _, rowR_eq R⟩
  rw [← e]
  pointwise [rowR]

/-- The attention's slabs. -/
theorem slab_value (q : Fin 18) (R : Fin 32768) (l : Fin 128) :
    (transpose S18x32768x128 [1, 0, 2] (shapeCast _ (extractStridedSlice S2x16384x2304 ![0, 0, 2048] (whole a0 a1 a2)
        slices_S2x16384x4352_S2x16384x2304_0_0_2048) shapeCasts_S2x16384x2304_S32768x18x128)
        transposes_S32768x18x128_S18x32768x128_1_0_2 : FVec Ideal S18x32768x128 .f32) (ix3 q R l)
      = proj (fun k => a0 (ix2 R k)) (fun k => a1 (ix3 1 0 k)) (fun k => a2 (ix3 0 k ⟨2048 + 128 * q.val + l.val, by omega⟩)) := by
  have e := whole_value a0 a1 a2
  generalize whole a0 a1 a2 = z at e
  obtain ⟨b, s, rfl⟩ : ∃ b s, R = rowR b s := ⟨_, _, rowR_eq R⟩
  rw [← e]
  pointwise [rowR]
  exact congrArg z (congrArg (ix3 b s) (Fin.ext (by show 2048 + (q.val * 128 + l.val) = 2048 + 128 * q.val + l.val; omega)))

end Cert.ProjRefIdeal.Proj
end
-- ==== Proof.ProjClaims.lean ====
/- The norm and projection's claims: the plain program's frame, and the equality of the two runs over the reals. -/
module

public import proofs.«01_k».proof.Defs
public import proofs.«01_k».proof.Proof.ProjKernel
public import proofs.«01_k».proof.Proof.ProjReference
public import Idealize.ShloMosaic.Adequacy
public import Idealize.ShloMosaic.Init

@[expose] public section

set_option maxRecDepth 16384

noncomputable section

namespace Cert.Proof.Proj

open Idealize.ShloMosaic Idealize.ShloMosaic.TcCoe Idealize.ShloMosaic.Tactic
open Idealize.SL Idealize.SL.Sem

/-- The plain program of the norm and the projection: its generated run, and no semaphore is declared. -/
theorem reference_frame : Cert.quiescent_ProjRefIdeal := fun m g _ =>
  (θ_run Cert.ProjRefIdeal.defs _ _).mono
    (fun r h => ⟨fun c => (h c).2.2, Idealize.ShloMosaic.sem_eq_zero_of_no_sems (by decide) r.2⟩)
    (Cert.ProjRefIdeal.Value.run m g)

/-- The kernel's two output arrays and the plain program's two results are the same arrays. -/
theorem algebraic : Cert.algebraic_ProjIdeal_ProjRefIdeal := by
  intro m g m' g' _ hagree
  refine ⟨fun c => (Cert.ProjIdeal.Gen.dats m 0 c).arrAt 3 Cert.ProjIdeal.cfg0.N,
    fun c => (Cert.ProjIdeal.Gen.dats m 0 c).arrAt 4 Cert.ProjIdeal.cfg0.N, Cert.ProjIdeal.Value.run_blocks m g, ?_⟩
  refine (θ_run Cert.ProjRefIdeal.defs _ _).mono
    (fun r h c => ⟨(h c).1.trans ?_, (h c).2.1.trans ?_, (h c).2.2⟩) (Cert.ProjRefIdeal.Value.run m' g')
  · obtain ⟨e0, e1, e2⟩ := hagree c
    rw [e0, e1, e2]
    funext i
    obtain ⟨R, n, rfl⟩ : ∃ R n, i = ix2 R n := ⟨_, _, eq_ix2 i⟩
    exact (Cert.ProjRefIdeal.Proj.flat_value _ _ _ R n).trans (Cert.ProjIdeal.Proj.arr3_value m c R n).symm
  · obtain ⟨e0, e1, e2⟩ := hagree c
    rw [e0, e1, e2]
    funext i
    obtain ⟨q, R, l, rfl⟩ : ∃ q R l, i = ix3 q R l := ⟨_, _, _, eq_ix3 i⟩
    exact (Cert.ProjRefIdeal.Proj.slab_value _ _ _ q R l).trans (Cert.ProjIdeal.Proj.arr4_value m c q R l).symm

end Cert.Proof.Proj
end
-- ==== Proof.FirstRuns.lean ====
/- The first layer's post call runs the second layer's body: its named terms are the second layer's. -/
module

public import proofs.«01_k».proof.Proof.Gen.FirstIdeal.Value
public import proofs.«01_k».proof.Proof.PostKernel

@[expose] public section

set_option maxRecDepth 16384

noncomputable section

namespace Cert.FirstIdeal.First

open Idealize.ShloMosaic Idealize.ShloMosaic.TcCoe Idealize.ShloMosaic.Tactic

variable {F : FTy → Type} [FloatOps F]

/-- A sequence's first block leaves the same output. -/
theorem out_A : @Cert.FirstIdeal.Gen.out0_A_10 F _ = @Cert.PostIdeal.Gen.out0_A_10 F _ := by sl_kernel_rfl

/-- A sequence's first block leaves the same carry. -/
theorem sout_A : @Cert.FirstIdeal.Gen.sout0_A_2 F _ = @Cert.PostIdeal.Gen.sout0_A_2 F _ := by sl_kernel_rfl

/-- A later block leaves the same output. -/
theorem out_B : @Cert.FirstIdeal.Gen.out0_B_10 F _ = @Cert.PostIdeal.Gen.out0_B_10 F _ := by sl_kernel_rfl

/-- A later block leaves the same carry. -/
theorem sout_B : @Cert.FirstIdeal.Gen.sout0_B_2 F _ = @Cert.PostIdeal.Gen.sout0_B_2 F _ := by sl_kernel_rfl

end Cert.FirstIdeal.First
end
-- ==== Proof.FirstKernel.lean ====
/- The first layer's post kernel over the reals: its operand blocks hold layer 0 of each stacked weight and the same rows
as the second layer's, so its output array is the layer's formula in those arguments. -/
module

public import proofs.«01_k».proof.Proof.FirstRuns
public import Idealize.ShloMosaic.Lib.Claim

@[expose] public section

set_option maxRecDepth 16384

noncomputable section

namespace Cert.FirstIdeal.First

open Cert.FirstIdeal Cert.FirstIdeal.Gen Cert.FirstIdeal.Value
open Cert.PostSpec
open Cert.PostIdeal.Post (rowB Blocks Leaves Carries)
open Idealize.ShloMosaic Idealize.ShloMosaic.TcCoe Idealize.ShloMosaic.Tactic

variable (m : (ℓ : Loc nD τ sig) → Buf (Elt Ideal) ℓ) (c : Dev nD)

/-- The layer's arguments as the run finds them. -/
def argsOf : Args where
  ya R x := m ((c : Thread nD τ).loc main_arg0) (ix2 R x)
  yb R x := m ((c : Thread nD τ).loc main_arg1) (ix2 R x)
  h R x := m ((c : Thread nD τ).loc main_arg2) (ix2 R x)
  wo x k := m ((c : Thread nD τ).loc main_arg3) (ix2 x k)
  g i k := m ((c : Thread nD τ).loc main_arg4) (ix3 0 i k)
  wu k n := m ((c : Thread nD τ).loc main_arg5) (ix3 0 k n)
  cw i n := m ((c : Thread nD τ).loc main_arg6) (ix3 0 i n)
  cb n := m ((c : Thread nD τ).loc main_arg7) (ix2 0 n)
  wd e k := m ((c : Thread nD τ).loc main_arg8) (ix3 0 e k)

variable (t : Fin cfg0.N)

/-- The grid point, as a block number. -/
abbrev tB : Fin 64 := t.cast N_0

/-- The rows' and the output projection's blocks are the second layer's call's, window by window. -/
theorem same0 : iblk m c 0 t = Cert.PostIdeal.Gen.iblk m c 0 t := by sl_kernel_rfl
theorem same1 : iblk m c 1 t = Cert.PostIdeal.Gen.iblk m c 1 t := by sl_kernel_rfl
theorem same2 : iblk m c 2 t = Cert.PostIdeal.Gen.iblk m c 2 t := by sl_kernel_rfl
theorem same3 : iblk m c 3 t = Cert.PostIdeal.Gen.iblk m c 3 t := by sl_kernel_rfl
theorem same4 : iblk m c 4 t = Cert.PostIdeal.Gen.iblk m c 4 t := by sl_kernel_rfl

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem iblk5 (i : Fin 4) (k : Fin 1024) : (iblk m c 5 t : Vec Ideal S1x4x1024 .f32) (ix3 (0 : Fin 1) i k) = (argsOf m c).g i k := by
  show V m c main_arg4 (((cfg0.win 5).blk t).view.emb (ix3 (0 : Fin 1) i k)) = m ((c : Thread nD τ).loc main_arg4) (ix3 0 i k)
  rw [V_main_arg4]
  congr 1
  obtain ⟨e0, e1, e2⟩ := idx5 t
  funext a; apply Fin.ext
  match a with
  | ⟨0, _⟩ => show win0_5.index t (0 : Fin 3) * 1 + 1 * 0 = 0; omega
  | ⟨1, _⟩ => show win0_5.index t (1 : Fin 3) * 4 + 1 * i.val = i.val; omega
  | ⟨2, _⟩ => show win0_5.index t (2 : Fin 3) * 1024 + 1 * k.val = k.val; omega

theorem iblk6 (k : Fin 1024) (n : Fin 5632) : (iblk m c 6 t : Vec Ideal S1x1024x5632 .bf16) (ix3 (0 : Fin 1) k n) = (argsOf m c).wu k n := by
  show V m c main_v0 (((cfg0.win 6).blk t).view.emb (ix3 (0 : Fin 1) k n)) = m ((c : Thread nD τ).loc main_arg5) (ix3 0 k n)
  obtain ⟨e0, e1, e2⟩ := idx6 t
  have he : (((cfg0.win 6).blk t).view.emb (ix3 (0 : Fin 1) k n)) = (ix3 (0 : Fin 2) k n : S2x1024x5632.Idx) := by
    funext a; apply Fin.ext
    match a with
    | ⟨0, _⟩ => show win0_6.index t (0 : Fin 3) * 1 + 1 * 0 = 0; omega
    | ⟨1, _⟩ => show win0_6.index t (1 : Fin 3) * 1024 + 1 * k.val = k.val; omega
    | ⟨2, _⟩ => show win0_6.index t (2 : Fin 3) * 5632 + 1 * n.val = n.val; omega
  rw [he]
  entry_read
  pointwise

theorem iblk7 (i : Fin 3) (n : Fin 5632) : (iblk m c 7 t : Vec Ideal S1x3x5632 .f32) (ix3 (0 : Fin 1) i n) = (argsOf m c).cw i n := by
  show V m c main_arg6 (((cfg0.win 7).blk t).view.emb (ix3 (0 : Fin 1) i n)) = m ((c : Thread nD τ).loc main_arg6) (ix3 0 i n)
  rw [V_main_arg6]
  congr 1
  obtain ⟨e0, e1, e2⟩ := idx7 t
  funext a; apply Fin.ext
  match a with
  | ⟨0, _⟩ => show win0_7.index t (0 : Fin 3) * 1 + 1 * 0 = 0; omega
  | ⟨1, _⟩ => show win0_7.index t (1 : Fin 3) * 3 + 1 * i.val = i.val; omega
  | ⟨2, _⟩ => show win0_7.index t (2 : Fin 3) * 5632 + 1 * n.val = n.val; omega

theorem iblk8 (n : Fin 5632) : (iblk m c 8 t : Vec Ideal S1x1x5632 .f32) (ix3 (0 : Fin 1) (0 : Fin 1) n) = (argsOf m c).cb n := by
  show V m c main_v2 (((cfg0.win 8).blk t).view.emb (ix3 (0 : Fin 1) (0 : Fin 1) n)) = m ((c : Thread nD τ).loc main_arg7) (ix2 0 n)
  obtain ⟨e0, e1, e2⟩ := idx8 t
  have he : (((cfg0.win 8).blk t).view.emb (ix3 (0 : Fin 1) (0 : Fin 1) n)) = (ix3 (0 : Fin 2) (0 : Fin 1) n : S2x1x5632.Idx) := by
    funext a; apply Fin.ext
    match a with
    | ⟨0, _⟩ => show win0_8.index t (0 : Fin 3) * 1 + 1 * 0 = 0; omega
    | ⟨1, _⟩ => show win0_8.index t (1 : Fin 3) * 1 + 1 * 0 = 0; omega
    | ⟨2, _⟩ => show win0_8.index t (2 : Fin 3) * 5632 + 1 * n.val = n.val; omega
  rw [he]
  entry_read
  pointwise

theorem iblk9 (e : Fin 2816) (k : Fin 1024) : (iblk m c 9 t : Vec Ideal S1x2816x1024 .bf16) (ix3 (0 : Fin 1) e k) = (argsOf m c).wd e k := by
  show V m c main_v1 (((cfg0.win 9).blk t).view.emb (ix3 (0 : Fin 1) e k)) = m ((c : Thread nD τ).loc main_arg8) (ix3 0 e k)
  obtain ⟨e0, e1, e2⟩ := idx9 t
  have he : (((cfg0.win 9).blk t).view.emb (ix3 (0 : Fin 1) e k)) = (ix3 (0 : Fin 2) e k : S2x2816x1024.Idx) := by
    funext a; apply Fin.ext
    match a with
    | ⟨0, _⟩ => show win0_9.index t (0 : Fin 3) * 1 + 1 * 0 = 0; omega
    | ⟨1, _⟩ => show win0_9.index t (1 : Fin 3) * 2816 + 1 * e.val = e.val; omega
    | ⟨2, _⟩ => show win0_9.index t (2 : Fin 3) * 1024 + 1 * k.val = k.val; omega
  rw [he]
  entry_read
  pointwise

/-- The operand blocks of every grid point hold the arguments. -/
theorem blocks : Blocks (argsOf m c) (tB t) (iblk m c 0 t) (iblk m c 1 t) (iblk m c 2 t) (iblk m c 3 t) (iblk m c 4 t) (iblk m c 5 t)
    (iblk m c 6 t) (iblk m c 7 t) (iblk m c 8 t) (iblk m c 9 t) where
  b0 r x := (congrFun (same0 m c t) _).trans (Cert.PostIdeal.Post.iblk0 m c t r x)
  b1 r x := (congrFun (same1 m c t) _).trans (Cert.PostIdeal.Post.iblk1 m c t r x)
  b2 r x := (congrFun (same2 m c t) _).trans (Cert.PostIdeal.Post.iblk2 m c t r x)
  b3 x k := (congrFun (same3 m c t) _).trans (Cert.PostIdeal.Post.iblk3 m c t x k)
  b4 x k := (congrFun (same4 m c t) _).trans (Cert.PostIdeal.Post.iblk4 m c t x k)
  b5 := iblk5 m c t
  b6 := iblk6 m c t
  b7 := iblk7 m c t
  b8 := iblk8 m c t
  b9 := iblk9 m c t

theorem leavesA (h0 : t.val % 32 = 0) : Leaves (argsOf m c) (tB t) (outsAt0 m c t.val t.isLt) := by
  rw [outsAt0_A m c t h0, out_A, sout_A]
  exact Cert.PostIdeal.Post.leaves_first _ (blocks m c t) _ h0

theorem leavesB (h0 : ¬t.val % 32 = 0)
    (hc : Carries (argsOf m c) (tB t) (outsAt0 m c (t.val - 1) (Nat.lt_of_le_of_lt (Nat.sub_le _ _) t.isLt)).2) :
    Leaves (argsOf m c) (tB t) (outsAt0 m c t.val t.isLt) := by
  rw [outsAt0_B m c t h0, out_B, sout_B]
  exact Cert.PostIdeal.Post.leaves_later _ (blocks m c t) _ hc

/-- Every grid point leaves the layer's rows of its block. -/
theorem leaves (n : ℕ) (hn : n < cfg0.N) : Leaves (argsOf m c) (tB ⟨n, hn⟩) (outsAt0 m c n hn) := by
  induction n with
  | zero => exact leavesA m c ⟨0, hn⟩ rfl
  | succ n ih =>
    by_cases h0 : (n + 1) % 32 = 0
    · exact leavesA m c ⟨n + 1, hn⟩ h0
    · exact leavesB m c ⟨n + 1, hn⟩ h0 ((ih (Nat.lt_of_succ_lt hn)).2 _ rfl h0)

/-- The output array: the layer's formula at every index. -/
theorem G10_value (R : Fin 32768) (k : Fin 1024) : G10 m c (ix2 R k) = (argsOf m c).out R k := by
  have hN : cfg0.N = 64 := N_0
  have ht : pt10Of (ix2 R k) = R.val / 512 := by
    show 1 * (R.val / 512 - 0) + 1 * (k.val / 1024 - 0) = R.val / 512
    omega
  have hp : pt10Of (ix2 R k) < cfg0.N := by omega
  unfold G10
  rw [dif_pos hp, ← outsAt0_sweep m c _ hp]
  have hl : loc10Of (ix2 R k) = ix2 ⟨R.val % 512, Nat.mod_lt _ (by decide)⟩ k :=
    (eq_ix2 _).trans (congrArg (ix2 _) (Fin.ext (Nat.mod_eq_of_lt k.isLt)))
  refine (congrArg (outsAt0 m c _ hp).1 hl).trans (((leaves m c _ hp).1 _ _).trans ?_)
  have hr : rowB (tB ⟨pt10Of (ix2 R k), hp⟩) ⟨R.val % 512, Nat.mod_lt _ (by decide)⟩ = R :=
    Fin.ext (by show 512 * pt10Of (ix2 R k) + R.val % 512 = R.val; omega)
  rw [hr]

end Cert.FirstIdeal.First
end
-- ==== Proof.FirstReference.lean ====
/- The first layer's reference over the reals: it is the second layer's on stacks whose second layer is the first, so its
result is the layer's formula in the first layer's arguments. -/
module

public import proofs.«01_k».proof.Proof.Gen.FirstRefIdeal.Run
public import proofs.«01_k».proof.Proof.PostReference

@[expose] public section

set_option maxRecDepth 16384

noncomputable section

namespace Cert.FirstRefIdeal.First

open Cert.FirstRefIdeal Cert.FirstRefIdeal.Gen Cert.FirstRefIdeal.Value
open Cert.PostSpec
open Cert.PostRefIdeal.Post (rowR)
open Idealize.ShloMosaic Idealize.ShloMosaic.TcCoe Idealize.ShloMosaic.Tactic Idealize.ShloMosaic.StableHlo

variable (V : Valuation τ sig (Elt Ideal))

/-- A stack of two matrices with its first matrix in both places. -/
def twice {a b : ℕ} (X : FVec Ideal ⟨3, ![2, a, b]⟩ .f32) : FVec Ideal ⟨3, ![2, a, b]⟩ .f32 :=
  fun i => X (ix3 (0 : Fin 2) (i 1) (i 2))

/-- A stack of two vectors with its first vector in both places. -/
def twiceV {a : ℕ} (X : FVec Ideal ⟨2, ![2, a]⟩ .f32) : FVec Ideal ⟨2, ![2, a]⟩ .f32 :=
  fun i => X (ix2 (0 : Fin 2) (i 1))

/-- The valuation whose stacks have the first layer's weights in both places. -/
def moved : Valuation τ sig (Elt Ideal) :=
  Function.update (Function.update (Function.update (Function.update (Function.update V
    (Proc.devRef .tc main_arg4) (twice (V (Proc.devRef .tc main_arg4))))
    (Proc.devRef .tc main_arg5) (twice (V (Proc.devRef .tc main_arg5))))
    (Proc.devRef .tc main_arg6) (twice (V (Proc.devRef .tc main_arg6))))
    (Proc.devRef .tc main_arg7) (twiceV (V (Proc.devRef .tc main_arg7))))
    (Proc.devRef .tc main_arg8) (twice (V (Proc.devRef .tc main_arg8)))

theorem moved0 : moved V (Proc.devRef .tc main_arg0) = V (Proc.devRef .tc main_arg0) := rfl
theorem moved1 : moved V (Proc.devRef .tc main_arg1) = V (Proc.devRef .tc main_arg1) := rfl
theorem moved2 : moved V (Proc.devRef .tc main_arg2) = V (Proc.devRef .tc main_arg2) := rfl
theorem moved3 : moved V (Proc.devRef .tc main_arg3) = V (Proc.devRef .tc main_arg3) := rfl
theorem moved4 : moved V (Proc.devRef .tc main_arg4) = twice (V (Proc.devRef .tc main_arg4)) := rfl
theorem moved5 : moved V (Proc.devRef .tc main_arg5) = twice (V (Proc.devRef .tc main_arg5)) := rfl
theorem moved6 : moved V (Proc.devRef .tc main_arg6) = twice (V (Proc.devRef .tc main_arg6)) := rfl
theorem moved7 : moved V (Proc.devRef .tc main_arg7) = twiceV (V (Proc.devRef .tc main_arg7)) := rfl
theorem moved8 : moved V (Proc.devRef .tc main_arg8) = twice (V (Proc.devRef .tc main_arg8)) := rfl

/-- The first matrix of a stack is the second of the stack with it in both places. -/
theorem slice_twice {a b : ℕ} (X : FVec Ideal ⟨3, ![2, a, b]⟩ .f32) (h h') :
    extractStridedSlice ⟨3, ![1, a, b]⟩ ![0, 0, 0] X h = extractStridedSlice ⟨3, ![1, a, b]⟩ ![1, 0, 0] (twice X) h' := by
  funext i
  obtain ⟨z, r, k, rfl⟩ : ∃ z r k, i = ix3 z r k := ⟨_, _, _, eq_ix3 i⟩
  obtain rfl : z = 0 := Subsingleton.elim _ _
  show X _ = X _
  congr 1; funext e; apply Fin.ext
  fin_cases e <;> rfl

/-- The first vector of a stack is the second of the stack with it in both places. -/
theorem slice_twiceV {a : ℕ} (X : FVec Ideal ⟨2, ![2, a]⟩ .f32) (h h') :
    extractStridedSlice ⟨2, ![1, a]⟩ ![0, 0] X h = extractStridedSlice ⟨2, ![1, a]⟩ ![1, 0] (twiceV X) h' := by
  funext i
  obtain ⟨z, k, rfl⟩ : ∃ z k, i = ix2 z k := ⟨_, _, eq_ix2 i⟩
  obtain rfl : z = 0 := Subsingleton.elim _ _
  show X _ = X _
  congr 1; funext e; apply Fin.ext
  fin_cases e <;> rfl

theorem v1_same : res_main_v1 V = Cert.PostRefIdeal.Value.res_main_v1 (moved V) := by
  unfold res_main_v1 Cert.PostRefIdeal.Value.res_main_v1
  rw [moved4, slice_twice]
  rfl

theorem v5_same : res_main_v5 V = Cert.PostRefIdeal.Value.res_main_v5 (moved V) := by
  unfold res_main_v5 Cert.PostRefIdeal.Value.res_main_v5
  rw [moved0, moved1, moved3]
  rfl

theorem v22_same : res_main_v22 V = Cert.PostRefIdeal.Value.res_main_v22 (moved V) := by
  unfold res_main_v22 Cert.PostRefIdeal.Value.res_main_v22
  rw [moved2, v5_same, v1_same]
  rfl

theorem v41_same : res_main_v41 V = Cert.PostRefIdeal.Value.res_main_v41 (moved V) := by
  unfold res_main_v41 Cert.PostRefIdeal.Value.res_main_v41
  rw [moved5, v22_same, v1_same, slice_twice]
  rfl

theorem v43_same : res_main_v43 V = Cert.PostRefIdeal.Value.res_main_v43 (moved V) := by
  unfold res_main_v43 Cert.PostRefIdeal.Value.res_main_v43
  rw [moved6, slice_twice]
  rfl

theorem v68_same : res_main_v68 V = Cert.PostRefIdeal.Value.res_main_v68 (moved V) := by
  unfold res_main_v68 Cert.PostRefIdeal.Value.res_main_v68
  rw [moved7, v41_same, v43_same, slice_twiceV]

theorem v87_same : res_main_v87 V = Cert.PostRefIdeal.Value.res_main_v87 (moved V) := by
  unfold res_main_v87 res_main_v70 Cert.PostRefIdeal.Value.res_main_v87 Cert.PostRefIdeal.Value.res_main_v70
  rw [moved8, v68_same, slice_twice]
  rfl

/-- The first layer's result is the second layer's on the moved stacks. -/
theorem v104_same : val2 V (Proc.devRef .tc main_v104)
    = Cert.PostRefIdeal.Value.val2 (moved V) (Proc.devRef .tc Cert.PostRefIdeal.main_v104) := by
  rw [val2_main_v104, Cert.PostRefIdeal.Value.val2_main_v104, v87_same, v22_same, v1_same]

end Cert.FirstRefIdeal.First
end
-- ==== Proof.FirstClaims.lean ====
/- The first post layer's claims: the plain program's frame, and the equality of the two runs over the reals. -/
module

public import proofs.«01_k».proof.Defs
public import proofs.«01_k».proof.Proof.FirstKernel
public import proofs.«01_k».proof.Proof.FirstReference
public import Idealize.ShloMosaic.Adequacy
public import Idealize.ShloMosaic.Init

@[expose] public section

set_option maxRecDepth 16384

noncomputable section

namespace Cert.Proof.First

open Idealize.ShloMosaic Idealize.ShloMosaic.TcCoe Idealize.ShloMosaic.Tactic
open Idealize.SL Idealize.SL.Sem

/-- The plain program of the projection and the network: its generated run, and no semaphore is declared. -/
theorem reference_frame : Cert.quiescent_FirstRefIdeal := fun m g _ =>
  (θ_run Cert.FirstRefIdeal.defs _ _).mono
    (fun r h => ⟨fun c => (h c).2, Idealize.ShloMosaic.sem_eq_zero_of_no_sems (by decide) r.2⟩)
    (Cert.FirstRefIdeal.Value.run m g)

/-- The kernel's output array and the plain program's result are the same array. -/
theorem algebraic : Cert.algebraic_FirstIdeal_FirstRefIdeal := by
  intro m g m' g' _ hagree
  refine ⟨fun c => Cert.FirstIdeal.Value.G10 m c, Cert.FirstIdeal.Value.run m g, ?_⟩
  refine (θ_run Cert.FirstRefIdeal.defs _ _).mono (fun r h c => ⟨(h c).1.trans ?_, (h c).2⟩) (Cert.FirstRefIdeal.Value.run m' g')
  obtain ⟨e0, e1, e2, e3, e4, e5, e6, e7, e8⟩ := hagree c
  have hA : Cert.PostRefIdeal.Post.Holds (Cert.FirstRefIdeal.First.moved (StableHlo.launchContents m' c)) (Cert.FirstIdeal.First.argsOf m c) :=
    ⟨fun R x => congrFun e0 (ix2 R x), fun R x => congrFun e1 (ix2 R x), fun R x => congrFun e2 (ix2 R x),
      fun x k => congrFun e3 (ix2 x k), fun i k => congrFun e4 (ix3 0 i k), fun k n => congrFun e5 (ix3 0 k n),
      fun i n => congrFun e6 (ix3 0 i n), fun n => congrFun e7 (ix2 0 n), fun e k => congrFun e8 (ix3 0 e k)⟩
  refine (Cert.FirstRefIdeal.Value.val2_main_v104 _).symm.trans
    ((Cert.FirstRefIdeal.First.v104_same _).trans (funext fun i => ?_))
  obtain ⟨R, k, rfl⟩ : ∃ R k, i = ix2 R k := ⟨_, _, eq_ix2 i⟩
  have hR : R = Cert.PostRefIdeal.Post.rowR ⟨R.val / 16384, by omega⟩ ⟨R.val % 16384, Nat.mod_lt _ (by decide)⟩ :=
    Fin.ext (by show R.val = R.val / 16384 * 16384 + R.val % 16384; omega)
  refine Eq.trans ?_ (Cert.FirstIdeal.First.G10_value m c R k).symm
  rw [hR]
  exact Cert.PostRefIdeal.Post.v104_value hA _ _ k

end Cert.Proof.First
end
-- ==== Proof.lean ====
/- The proof of the certificate: the recurrence (`Kernel`, `KernelIdeal`, `ReferenceIdeal`), the second layer's output
projection and gated feed-forward network (`Post`, `PostIdeal`, `PostRefIdeal`), and its first norm and input projection
(`Proj`, `ProjIdeal`, `ProjRefIdeal`); and the first layer's output projection and gated feed-forward network (`First`,
`FirstIdeal`, `FirstRefIdeal`). The parts are in proof/Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.Pre_lb_in_unit
public import proofs.«01_k».proof.Proof.Gen.ReferenceIdeal.Run
public import proofs.«01_k».proof.Proof.Gen.PostRefIdeal.Run
public import proofs.«01_k».proof.Proof.Gen.PostIdeal.Value
public import proofs.«01_k».proof.Proof.Gen.ProjIdeal.Value
public import proofs.«01_k».proof.Proof.Gen.ProjRefIdeal.Run
public import proofs.«01_k».proof.Proof.Gen.FirstIdeal.Value
public import proofs.«01_k».proof.Proof.Gen.FirstRefIdeal.Run
public import proofs.«01_k».proof.Proof.HgrnClaims
public import proofs.«01_k».proof.Proof.KernelFrame
public import proofs.«01_k».proof.Proof.PostClaims
public import proofs.«01_k».proof.Proof.ProjClaims
public import proofs.«01_k».proof.Proof.FirstClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Post.Gen.facts, Cert.PostIdeal.Gen.facts,
    Cert.PostRefIdeal.Gen.facts, Cert.Proj.Gen.facts, Cert.ProjIdeal.Gen.facts, Cert.ProjRefIdeal.Gen.facts,
    Cert.First.Gen.facts, Cert.FirstIdeal.Gen.facts, Cert.FirstRefIdeal.Gen.facts,
    Cert.Pre_lb_in_unit.Gen.facts,
    Cert.Kernel.Hgrn.frame,
    fun m ρ _ => Cert.KernelIdeal.Hgrn.frame m ρ,
    fun m ρ _ => Cert.KernelIdeal.Hgrn.frame m ρ,
    Hgrn.reference_frame,
    fun m ρ _ => Hgrn.reference_frame m ρ trivial,
    fun m ρ _ => Cert.Post.Gen.frame m ρ,
    fun m ρ _ => Cert.PostIdeal.Gen.frame m ρ,
    Post.reference_frame,
    fun m ρ _ => Cert.Proj.Gen.frame m ρ,
    fun m ρ _ => Cert.ProjIdeal.Gen.frame m ρ,
    Proj.reference_frame,
    fun m ρ _ => Cert.First.Gen.frame m ρ,
    fun m ρ _ => Cert.FirstIdeal.Gen.frame m ρ,
    First.reference_frame,
    trivial,
    Hgrn.algebraic,
    trivial,
    Post.algebraic,
    trivial,
    Proj.algebraic,
    trivial,
    First.algebraic⟩

end Cert.Proof

end
